-- ==== Defs.lean ====
def Pre_Kernel [hPre_edges_in_range : Cert.Pre_edges_in_range.Facts] (m : (ℓ : Loc Cert.Kernel.nD Cert.Kernel.τ Cert.Kernel.sig) → Buf (Elt Bits) ℓ) : Prop :=
  ∀ c : Dev Cert.Kernel.nD,
    (Cert.Pre_edges_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_edges_in_range : Cert.Pre_edges_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_edges_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_KernelIdeal_finite_and_attended [hPre_finite_and_attended : Cert.Pre_finite_and_attended.Facts] (m : (ℓ : Loc Cert.KernelIdeal.nD Cert.KernelIdeal.τ Cert.KernelIdeal.sig) → Buf (Elt Ideal) ℓ) : Prop :=
  ∀ c : Dev Cert.KernelIdeal.nD,
    (Cert.Pre_finite_and_attended.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_and_attended [hPre_finite_and_attended : Cert.Pre_finite_and_attended.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_and_attended.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def quiescent_Kernel [hKernel : Cert.Kernel.Facts] [hPre_edges_in_range : Cert.Pre_edges_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))
      ∧ r.2.sem = fun _ => 0)

def quiescent_KernelIdeal [hKernelIdeal : Cert.KernelIdeal.Facts] [hPre_edges_in_range : Cert.Pre_edges_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ r.2.sem = fun _ => 0)

def quiescent_KernelIdeal_pre_finite_and_attended [hKernelIdeal : Cert.KernelIdeal.Facts] [hPre_finite_and_attended : Cert.Pre_finite_and_attended.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_and_attended m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))
      ∧ r.2.sem = fun _ => 0)

def quiescent_ReferenceIdeal_pre_finite_and_attended [hReferenceIdeal : Cert.ReferenceIdeal.Facts] [hPre_finite_and_attended : Cert.Pre_finite_and_attended.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_and_attended m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite_and_attended [hKernelIdeal : Cert.KernelIdeal.Facts] [hReferenceIdeal : Cert.ReferenceIdeal.Facts] [hPre_finite_and_attended : Cert.Pre_finite_and_attended.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_and_attended m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v107) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_edges_in_range : Cert.Pre_edges_in_range.Facts) (hPre_finite_and_attended : Cert.Pre_finite_and_attended.Facts),
    quiescent_Kernel (hKernel := hKernel) (hPre_edges_in_range := hPre_edges_in_range)
    ∧ quiescent_KernelIdeal (hKernelIdeal := hKernelIdeal) (hPre_edges_in_range := hPre_edges_in_range)
    ∧ quiescent_KernelIdeal_pre_finite_and_attended (hKernelIdeal := hKernelIdeal) (hPre_finite_and_attended := hPre_finite_and_attended)
    ∧ quiescent_ReferenceIdeal (hReferenceIdeal := hReferenceIdeal)
    ∧ quiescent_ReferenceIdeal_pre_finite_and_attended (hReferenceIdeal := hReferenceIdeal) (hPre_finite_and_attended := hPre_finite_and_attended)
    ∧ preserves_Kernel_KernelIdeal
    ∧ algebraic_KernelIdeal_ReferenceIdeal_pre_finite_and_attended (hKernelIdeal := hKernelIdeal) (hReferenceIdeal := hReferenceIdeal) (hPre_finite_and_attended := hPre_finite_and_attended)
-- ==== Pre_edges_in_range.lean ====
abbrev S10000x128 : Shape := ⟨2, ![10000, 128]⟩
abbrev S2x320000 : Shape := ⟨2, ![2, 320000]⟩
abbrev S1x128 : Shape := ⟨2, ![1, 128]⟩
abbrev S1x1x128 : Shape := ⟨3, ![1, 1, 128]⟩
abbrev S128x128 : Shape := ⟨2, ![128, 128]⟩
abbrev S128 : Shape := ⟨1, ![128]⟩
abbrev S_ : Shape := ⟨0, ![]⟩

class Facts : Prop where
  bcast_S_S2x320000 : S_.BroadcastsInDim S2x320000 (![] : Fin 0 → Fin S2x320000.rank)

variable [Facts]

def fn {F : FTy → Type} [FloatOps F] (main_arg0 : FVec F S10000x128 .f32) (main_arg1 : IVec S2x320000 32) (main_arg2 : FVec F S1x128 .f32) (main_arg3 : FVec F S1x128 .f32) (main_arg4 : FVec F S1x128 .f32) (main_arg5 : FVec F S1x1x128 .f32) (main_arg6 : FVec F S128x128 .f32) (main_arg7 : FVec F S128 .f32) (main_arg8 : FVec F S128x128 .f32) (main_arg9 : FVec F S128 .f32) (main_arg10 : FVec F S128x128 .f32) (main_arg11 : FVec F S128 .f32) (main_arg12 : FVec F S128x128 .f32) (main_arg13 : FVec F S128 .f32) : IVec S2x320000 1 :=
  let main_c : IVec S_ 32 := constantI S_ 32 0#32
  let main_v0 : IVec S2x320000 32 := broadcastInDim S2x320000 ![] bcast_S_S2x320000 main_c
  let main_v1 : IVec S2x320000 1 := cmpi .sge main_arg1 main_v0
  let main_c_0 : IVec S_ 32 := constantI S_ 32 10000#32
  let main_v2 : IVec S2x320000 32 := broadcastInDim S2x320000 ![] bcast_S_S2x320000 main_c_0
  let main_v3 : IVec S2x320000 1 := cmpi .slt main_arg1 main_v2
  let main_v4 : IVec S2x320000 1 := andi main_v1 main_v3
  main_v4
-- ==== Pre_finite_and_attended.lean ====
abbrev S10000x128 : Shape := ⟨2, ![10000, 128]⟩
abbrev S2x320000 : Shape := ⟨2, ![2, 320000]⟩
abbrev S1x128 : Shape := ⟨2, ![1, 128]⟩
abbrev S1x1x128 : Shape := ⟨3, ![1, 1, 128]⟩
abbrev S128x128 : Shape := ⟨2, ![128, 128]⟩
abbrev S128 : Shape := ⟨1, ![128]⟩
abbrev S_ : Shape := ⟨0, ![]⟩

class Facts : Prop where
  bcast_S_S2x320000 : S_.BroadcastsInDim S2x320000 (![] : Fin 0 → Fin S2x320000.rank)
  reducesTo_S2x320000_S_d0_1 : S2x320000.ReducesTo [0, 1] S_
  h_S_ : 0 < S_.numel
  bcast_S_S1x128 : S_.BroadcastsInDim S1x128 (![] : Fin 0 → Fin S1x128.rank)
  reducesTo_S1x128_S_d0_1 : S1x128.ReducesTo [0, 1] S_
  bcast_S_S1x1x128 : S_.BroadcastsInDim S1x1x128 (![] : Fin 0 → Fin S1x1x128.rank)
  reducesTo_S1x1x128_S_d0_1_2 : S1x1x128.ReducesTo [0, 1, 2] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part3 {F : FTy → Type} [FloatOps F] (main_arg2 : FVec F S1x128 .f32) (main_arg3 : FVec F S1x128 .f32) (main_arg4 : FVec F S1x128 .f32) (main_v45 : IVec S_ 1) (main_v48 : IVec S_ 1) (main_v49 : FVec F S1x128 .f32) : IVec S_ 1 :=
  let main_v50 : IVec S1x128 1 := cmpf .une main_arg2 main_v49
  let main_c_20 : IVec S_ 1 := constantI S_ 1 0#1
  let main_v51 : IVec S_ 1 := (fun x v => Host.reduce IntOp.ori x v reducesTo_S1x128_S_d0_1 h_S_) main_v50 main_c_20
  let main_cst_21 : FVec F S_ .f32 := constant S_ .f32 0xBF800000#32
  let main_v52 : FVec F S1x128 .f32 := broadcastInDim S1x128 ![] bcast_S_S1x128 main_cst_21
  let main_v53 : IVec S1x128 1 := cmpf .une main_arg3 main_v52
  let main_c_22 : IVec S_ 1 := constantI S_ 1 0#1
  let main_v54 : IVec S_ 1 := (fun x v => Host.reduce IntOp.ori x v reducesTo_S1x128_S_d0_1 h_S_) main_v53 main_c_22
  let main_v55 : IVec S_ 1 := andi main_v51 main_v54
  let main_cst_23 : FVec F S_ .f32 := constant S_ .f32 0xBF800000#32
  let main_v56 : FVec F S1x128 .f32 := broadcastInDim S1x128 ![] bcast_S_S1x128 main_cst_23
  let main_v57 : IVec S1x128 1 := cmpf .une main_arg4 main_v56
  let main_c_24 : IVec S_ 1 := constantI S_ 1 0#1
  let main_v58 : IVec S_ 1 := (fun x v => Host.reduce IntOp.ori x v reducesTo_S1x128_S_d0_1 h_S_) main_v57 main_c_24
  let main_v59 : IVec S_ 1 := andi main_v55 main_v58
  let main_v60 : IVec S_ 1 := ori main_v48 main_v59
  let main_v61 : IVec S_ 1 := andi main_v45 main_v60
  main_v61

def fn_part2 {F : FTy → Type} [FloatOps F] (main_arg2 : FVec F S1x128 .f32) (main_arg3 : FVec F S1x128 .f32) (main_arg4 : FVec F S1x128 .f32) (main_arg5 : FVec F S1x1x128 .f32) (main_arg8 : FVec F S128x128 .f32) (main_arg9 : FVec F S128 .f32) (main_v30 : IVec S_ 1) (main_v33 : IVec S128 1) : IVec S_ 1 :=
  let main_c_12 : IVec S_ 1 := constantI S_ 1 1#1
  let main_v34 : IVec S_ 1 := (fun x v => Host.reduce IntOp.andi x v reducesTo_S128_S_d0 h_S_) main_v33 main_c_12
  let main_v35 : IVec S_ 1 := andi main_v30 main_v34
  let main_v36 : FVec F S128x128 .f32 := Host.absf main_arg8
  let main_cst_13 : FVec F S_ .f32 := constant S_ .f32 0x7F800000#32
  let main_v37 : FVec F S128x128 .f32 := broadcastInDim S128x128 ![] bcast_S_S128x128 main_cst_13
  let main_v38 : IVec S128x128 1 := cmpf .olt main_v36 main_v37
  let main_c_14 : IVec S_ 1 := constantI S_ 1 1#1
  let main_v39 : IVec S_ 1 := (fun x v => Host.reduce IntOp.andi x v reducesTo_S128x128_S_d0_1 h_S_) main_v38 main_c_14
  let main_v40 : IVec S_ 1 := andi main_v35 main_v39
  let main_v41 : FVec F S128 .f32 := Host.absf main_arg9
  let main_cst_15 : FVec F S_ .f32 := constant S_ .f32 0x7F800000#32
  let main_v42 : FVec F S128 .f32 := broadcastInDim S128 ![] bcast_S_S128 main_cst_15
  let main_v43 : IVec S128 1 := cmpf .olt main_v41 main_v42
  let main_c_16 : IVec S_ 1 := constantI S_ 1 1#1
  let main_v44 : IVec S_ 1 := (fun x v => Host.reduce IntOp.andi x v reducesTo_S128_S_d0 h_S_) main_v43 main_c_16
  let main_v45 : IVec S_ 1 := andi main_v40 main_v44
  let main_cst_17 : FVec F S_ .f32 := constant S_ .f32 0xBF800000#32
  let main_v46 : FVec F S1x1x128 .f32 := broadcastInDim S1x1x128 ![] bcast_S_S1x1x128 main_cst_17
  let main_v47 : IVec S1x1x128 1 := cmpf .une main_arg5 main_v46
  let main_c_18 : IVec S_ 1 := constantI S_ 1 0#1
  let main_v48 : IVec S_ 1 := (fun x v => Host.reduce IntOp.ori x v reducesTo_S1x1x128_S_d0_1_2 h_S_) main_v47 main_c_18
  let main_cst_19 : FVec F S_ .f32 := constant S_ .f32 0xBF800000#32
  let main_v49 : FVec F S1x128 .f32 := broadcastInDim S1x128 ![] bcast_S_S1x128 main_cst_19
  fn_part3 (F := F) main_arg2 main_arg3 main_arg4 main_v45 main_v48 main_v49

def fn_part1 {F : FTy → Type} [FloatOps F] (main_arg2 : FVec F S1x128 .f32) (main_arg3 : FVec F S1x128 .f32) (main_arg4 : FVec F S1x128 .f32) (main_arg5 : FVec F S1x1x128 .f32) (main_arg6 : FVec F S128x128 .f32) (main_arg7 : FVec F S128 .f32) (main_arg8 : FVec F S128x128 .f32) (main_arg9 : FVec F S128 .f32) (main_v15 : IVec S_ 1) (main_v16 : FVec F S1x128 .f32) : IVec S_ 1 :=
  let main_cst_5 : FVec F S_ .f32 := constant S_ .f32 0x7F800000#32
  let main_v17 : FVec F S1x128 .f32 := broadcastInDim S1x128 ![] bcast_S_S1x128 main_cst_5
  let main_v18 : IVec S1x128 1 := cmpf .olt main_v16 main_v17
  let main_c_6 : IVec S_ 1 := constantI S_ 1 1#1
  let main_v19 : IVec S_ 1 := (fun x v => Host.reduce IntOp.andi x v reducesTo_S1x128_S_d0_1 h_S_) main_v18 main_c_6
  let main_v20 : IVec S_ 1 := andi main_v15 main_v19
  let main_v21 : FVec F S1x1x128 .f32 := Host.absf main_arg5
  let main_cst_7 : FVec F S_ .f32 := constant S_ .f32 0x7F800000#32
  let main_v22 : FVec F S1x1x128 .f32 := broadcastInDim S1x1x128 ![] bcast_S_S1x1x128 main_cst_7
  let main_v23 : IVec S1x1x128 1 := cmpf .olt main_v21 main_v22
  let main_c_8 : IVec S_ 1 := constantI S_ 1 1#1
  let main_v24 : IVec S_ 1 := (fun x v => Host.reduce IntOp.andi x v reducesTo_S1x1x128_S_d0_1_2 h_S_) main_v23 main_c_8
  let main_v25 : IVec S_ 1 := andi main_v20 main_v24
  let main_v26 : FVec F S128x128 .f32 := Host.absf main_arg6
  let main_cst_9 : FVec F S_ .f32 := constant S_ .f32 0x7F800000#32
  let main_v27 : FVec F S128x128 .f32 := broadcastInDim S128x128 ![] bcast_S_S128x128 main_cst_9
  let main_v28 : IVec S128x128 1 := cmpf .olt main_v26 main_v27
  let main_c_10 : IVec S_ 1 := constantI S_ 1 1#1
  let main_v29 : IVec S_ 1 := (fun x v => Host.reduce IntOp.andi x v reducesTo_S128x128_S_d0_1 h_S_) main_v28 main_c_10
  let main_v30 : IVec S_ 1 := andi main_v25 main_v29
  let main_v31 : FVec F S128 .f32 := Host.absf main_arg7
  let main_cst_11 : FVec F S_ .f32 := constant S_ .f32 0x7F800000#32
  let main_v32 : FVec F S128 .f32 := broadcastInDim S128 ![] bcast_S_S128 main_cst_11
  let main_v33 : IVec S128 1 := cmpf .olt main_v31 main_v32
  fn_part2 (F := F) main_arg2 main_arg3 main_arg4 main_arg5 main_arg8 main_arg9 main_v30 main_v33

def fn {F : FTy → Type} [FloatOps F] (main_arg0 : FVec F S10000x128 .f32) (main_arg1 : IVec S2x320000 32) (main_arg2 : FVec F S1x128 .f32) (main_arg3 : FVec F S1x128 .f32) (main_arg4 : FVec F S1x128 .f32) (main_arg5 : FVec F S1x1x128 .f32) (main_arg6 : FVec F S128x128 .f32) (main_arg7 : FVec F S128 .f32) (main_arg8 : FVec F S128x128 .f32) (main_arg9 : FVec F S128 .f32) (main_arg10 : FVec F S128x128 .f32) (main_arg11 : FVec F S128 .f32) (main_arg12 : FVec F S128x128 .f32) (main_arg13 : FVec F S128 .f32) : IVec S_ 1 :=
  let main_c : IVec S_ 32 := constantI S_ 32 0#32
  let main_v0 : IVec S2x320000 32 := broadcastInDim S2x320000 ![] bcast_S_S2x320000 main_c
  let main_v1 : IVec S2x320000 1 := cmpi .sge main_arg1 main_v0
  let main_c_0 : IVec S_ 32 := constantI S_ 32 10000#32
  let main_v2 : IVec S2x320000 32 := broadcastInDim S2x320000 ![] bcast_S_S2x320000 main_c_0
  let main_v3 : IVec S2x320000 1 := cmpi .slt main_arg1 main_v2
  let main_v4 : IVec S2x320000 1 := andi main_v1 main_v3
  let main_c_1 : IVec S_ 1 := constantI S_ 1 1#1
  let main_v5 : IVec S_ 1 := (fun x v => Host.reduce IntOp.andi x v reducesTo_S2x320000_S_d0_1 h_S_) main_v4 main_c_1
  let main_v6 : FVec F S1x128 .f32 := Host.absf main_arg2
  let main_cst : FVec F S_ .f32 := constant S_ .f32 0x7F800000#32
  let main_v7 : FVec F S1x128 .f32 := broadcastInDim S1x128 ![] bcast_S_S1x128 main_cst
  let main_v8 : IVec S1x128 1 := cmpf .olt main_v6 main_v7
  let main_c_2 : IVec S_ 1 := constantI S_ 1 1#1
  let main_v9 : IVec S_ 1 := (fun x v => Host.reduce IntOp.andi x v reducesTo_S1x128_S_d0_1 h_S_) main_v8 main_c_2
  let main_v10 : IVec S_ 1 := andi main_v5 main_v9
  let main_v11 : FVec F S1x128 .f32 := Host.absf main_arg3
  let main_cst_3 : FVec F S_ .f32 := constant S_ .f32 0x7F800000#32
  let main_v12 : FVec F S1x128 .f32 := broadcastInDim S1x128 ![] bcast_S_S1x128 main_cst_3
  let main_v13 : IVec S1x128 1 := cmpf .olt main_v11 main_v12
  let main_c_4 : IVec S_ 1 := constantI S_ 1 1#1
  let main_v14 : IVec S_ 1 := (fun x v => Host.reduce IntOp.andi x v reducesTo_S1x128_S_d0_1 h_S_) main_v13 main_c_4
  let main_v15 : IVec S_ 1 := andi main_v10 main_v14
  let main_v16 : FVec F S1x128 .f32 := Host.absf main_arg4
  fn_part1 (F := F) main_arg2 main_arg3 main_arg4 main_arg5 main_arg6 main_arg7 main_arg8 main_arg9 main_v15 main_v16
-- ==== Kernel.lean ====
abbrev S10000x128 : Shape := ⟨2, ![10000, 128]⟩
abbrev S2x320000 : Shape := ⟨2, ![2, 320000]⟩
abbrev S1x128 : Shape := ⟨2, ![1, 128]⟩
abbrev S1x1x128 : Shape := ⟨3, ![1, 1, 128]⟩
abbrev S128x128 : Shape := ⟨2, ![128, 128]⟩
abbrev S128 : Shape := ⟨1, ![128]⟩
abbrev S2000x128 : Shape := ⟨2, ![2000, 128]⟩
abbrev S2000 : Shape := ⟨1, ![2000]⟩
abbrev S2000x1 : Shape := ⟨2, ![2000, 1]⟩
abbrev S8x128 : Shape := ⟨2, ![8, 128]⟩
abbrev S4x128 : Shape := ⟨2, ![4, 128]⟩
abbrev S8 : Shape := ⟨1, ![8]⟩
abbrev S1x8 : Shape := ⟨2, ![1, 8]⟩
abbrev S8x8 : Shape := ⟨2, ![8, 8]⟩
abbrev S8x1 : Shape := ⟨2, ![8, 1]⟩
abbrev S640000 : Shape := ⟨1, ![640000]⟩
abbrev S64x10000 : Shape := ⟨2, ![64, 10000]⟩
abbrev S10000 : Shape := ⟨1, ![10000]⟩
abbrev S_ : Shape := ⟨0, ![]⟩
abbrev S16 : Shape := ⟨1, ![16]⟩
abbrev S1x10000 : Shape := ⟨2, ![1, 10000]⟩
abbrev S2048x128 : Shape := ⟨2, ![2048, 128]⟩
abbrev S64x2048 : Shape := ⟨2, ![64, 2048]⟩
abbrev S32x2x2048 : Shape := ⟨3, ![32, 2, 2048]⟩
abbrev S2x2048 : Shape := ⟨2, ![2, 2048]⟩
abbrev S2048x2 : Shape := ⟨2, ![2048, 2]⟩
abbrev S2048x1 : Shape := ⟨2, ![2048, 1]⟩

abbrev nBuf : Table → Nat
  | .hbm => 19
  | .local .tc .vmem => 24
  | .local .scVector .vmem => 6
  | _ => 0

abbrev bufTy : (tb : Table) → Fin (nBuf tb) → BufTy
  | .hbm, ⟨0, _⟩ => ⟨S10000x128, .f32⟩
  | .hbm, ⟨1, _⟩ => ⟨S2x320000, .i32⟩
  | .hbm, ⟨2, _⟩ => ⟨S1x128, .f32⟩
  | .hbm, ⟨3, _⟩ => ⟨S1x128, .f32⟩
  | .hbm, ⟨4, _⟩ => ⟨S1x128, .f32⟩
  | .hbm, ⟨5, _⟩ => ⟨S1x1x128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S128x128, .f32⟩
  | .hbm, ⟨11, _⟩ => ⟨S128, .f32⟩
  | .hbm, ⟨12, _⟩ => ⟨S128x128, .f32⟩
  | .hbm, ⟨13, _⟩ => ⟨S128, .f32⟩
  | .hbm, ⟨14, _⟩ => ⟨S10000x128, .f32⟩
  | .hbm, ⟨15, _⟩ => ⟨S8x128, .f32⟩
  | .hbm, ⟨16, _⟩ => ⟨S640000, .i32⟩
  | .hbm, ⟨17, _⟩ => ⟨S64x10000, .f32⟩
  | .hbm, ⟨18, _⟩ => ⟨S10000x128, .f32⟩
  | .local .tc .vmem, ⟨0, _⟩ => ⟨S2000x128, .f32⟩
  | .local .tc .vmem, ⟨1, _⟩ => ⟨S2000x128, .f32⟩
  | .local .tc .vmem, ⟨2, _⟩ => ⟨S2000x128, .f32⟩
  | .local .tc .vmem, ⟨3, _⟩ => ⟨S2000x128, .f32⟩
  | .local .tc .vmem, ⟨4, _⟩ => ⟨S1x128, .f32⟩
  | .local .tc .vmem, ⟨5, _⟩ => ⟨S1x128, .f32⟩
  | .local .tc .vmem, ⟨6, _⟩ => ⟨S1x128, .f32⟩
  | .local .tc .vmem, ⟨7, _⟩ => ⟨S1x1x128, .f32⟩
  | .local .tc .vmem, ⟨8, _⟩ => ⟨S128x128, .f32⟩
  | .local .tc .vmem, ⟨9, _⟩ => ⟨S128, .f32⟩
  | .local .tc .vmem, ⟨10, _⟩ => ⟨S128x128, .f32⟩
  | .local .tc .vmem, ⟨11, _⟩ => ⟨S128, .f32⟩
  | .local .tc .vmem, ⟨12, _⟩ => ⟨S128x128, .f32⟩
  | .local .tc .vmem, ⟨13, _⟩ => ⟨S128, .f32⟩
  | .local .tc .vmem, ⟨14, _⟩ => ⟨S128x128, .f32⟩
  | .local .tc .vmem, ⟨15, _⟩ => ⟨S128, .f32⟩
  | .local .tc .vmem, ⟨16, _⟩ => ⟨S8x128, .f32⟩
  | .local .tc .vmem, ⟨17, _⟩ => ⟨S2048x128, .f32⟩
  | .local .tc .vmem, ⟨18, _⟩ => ⟨S2048x128, .f32⟩
  | .local .tc .vmem, ⟨19, _⟩ => ⟨S64x2048, .f32⟩
  | .local .tc .vmem, ⟨20, _⟩ => ⟨S64x2048, .f32⟩
  | .local .tc .vmem, ⟨21, _⟩ => ⟨S8x128, .f32⟩
  | .local .tc .vmem, ⟨22, _⟩ => ⟨S2048x128, .f32⟩
  | .local .tc .vmem, ⟨23, _⟩ => ⟨S2048x128, .f32⟩
  | .local .scVector .vmem, ⟨0, _⟩ => ⟨S128, .i32⟩
  | .local .scVector .vmem, ⟨1, _⟩ => ⟨S128, .i32⟩
  | .local .scVector .vmem, ⟨2, _⟩ => ⟨S128x128, .f32⟩
  | .local .scVector .vmem, ⟨3, _⟩ => ⟨S128x128, .f32⟩
  | .local .scVector .vmem, ⟨4, _⟩ => ⟨S10000, .f32⟩
  | .local .scVector .vmem, ⟨5, _⟩ => ⟨S10000, .f32⟩
  | _, _ => ⟨S10000x128, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => false
  | ⟨18, _⟩ => false
  | ⟨19, _⟩ => false
  | ⟨20, _⟩ => false
  | ⟨21, _⟩ => false
  | ⟨22, _⟩ => false
  | ⟨23, _⟩ => false
  | ⟨24, _⟩ => false
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTables nBuf rfl bufTy 4 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v0_scv : Ref sig .scVector := ⟨.hbm, 14, rfl⟩
abbrev main_v2_scv : Ref sig .scVector := ⟨.hbm, 16, rfl⟩
abbrev main_v3_scv : Ref sig .scVector := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg1_0 : Ref sig .tc := ⟨.vmem, 5, rfl⟩
abbrev cc1_stg2_0 : Ref sig .tc := ⟨.vmem, 6, rfl⟩
abbrev cc1_stg3_0 : Ref sig .tc := ⟨.vmem, 7, rfl⟩
abbrev cc1_stg4_0 : Ref sig .tc := ⟨.vmem, 8, rfl⟩
abbrev cc1_stg5_0 : Ref sig .tc := ⟨.vmem, 9, rfl⟩
abbrev cc1_stg6_0 : Ref sig .tc := ⟨.vmem, 10, rfl⟩
abbrev cc1_stg7_0 : Ref sig .tc := ⟨.vmem, 11, rfl⟩
abbrev cc1_stg8_0 : Ref sig .tc := ⟨.vmem, 12, rfl⟩
abbrev cc1_stg9_0 : Ref sig .tc := ⟨.vmem, 13, rfl⟩
abbrev cc1_stg10_0 : Ref sig .tc := ⟨.vmem, 14, rfl⟩
abbrev cc1_stg11_0 : Ref sig .tc := ⟨.vmem, 15, rfl⟩
abbrev cc1_stg12_0 : Ref sig .tc := ⟨.vmem, 16, rfl⟩
abbrev cc3_stg0_0 : Ref sig .tc := ⟨.vmem, 17, rfl⟩
abbrev cc3_stg0_1 : Ref sig .tc := ⟨.vmem, 18, rfl⟩
abbrev cc3_stg1_0 : Ref sig .tc := ⟨.vmem, 19, rfl⟩
abbrev cc3_stg1_1 : Ref sig .tc := ⟨.vmem, 20, rfl⟩
abbrev cc3_stg2_0 : Ref sig .tc := ⟨.vmem, 21, rfl⟩
abbrev cc3_stg3_0 : Ref sig .tc := ⟨.vmem, 22, rfl⟩
abbrev cc3_stg3_1 : Ref sig .tc := ⟨.vmem, 23, rfl⟩
abbrev cc2_scratch0 : Ref sig .scVector := ⟨.vmem, 0, rfl⟩
abbrev cc2_scratch1 : Ref sig .scVector := ⟨.vmem, 1, rfl⟩
abbrev cc2_scratch2 : Ref sig .scVector := ⟨.vmem, 2, rfl⟩
abbrev cc2_scratch3 : Ref sig .scVector := ⟨.vmem, 3, rfl⟩
abbrev cc2_scratch4 : Ref sig .scVector := ⟨.vmem, 4, rfl⟩
abbrev cc2_scratch5 : Ref sig .scVector := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem1_0 : DmaSem sig := 5
abbrev cc1_sem2_0 : DmaSem sig := 6
abbrev cc1_sem3_0 : DmaSem sig := 7
abbrev cc1_sem4_0 : DmaSem sig := 8
abbrev cc1_sem5_0 : DmaSem sig := 9
abbrev cc1_sem6_0 : DmaSem sig := 10
abbrev cc1_sem7_0 : DmaSem sig := 11
abbrev cc1_sem8_0 : DmaSem sig := 12
abbrev cc1_sem9_0 : DmaSem sig := 13
abbrev cc1_sem10_0 : DmaSem sig := 14
abbrev cc1_sem11_0 : DmaSem sig := 15
abbrev cc1_sem12_0 : DmaSem sig := 16
abbrev cc3_sem0_0 : DmaSem sig := 25
abbrev cc3_sem0_1 : DmaSem sig := 26
abbrev cc3_sem1_0 : DmaSem sig := 27
abbrev cc3_sem1_1 : DmaSem sig := 28
abbrev cc3_sem2_0 : DmaSem sig := 29
abbrev cc3_sem3_0 : DmaSem sig := 30
abbrev cc3_sem3_1 : DmaSem sig := 31
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := .none

abbrev stage1_0 : Fin 1 → Memref sig .tc .vmem S1x128 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))

abbrev stage1_3 : Fin 1 → Memref sig .tc .vmem S1x1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))

abbrev stage1_5 : Fin 1 → Memref sig .tc .vmem S128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))

abbrev stage1_6 : Fin 1 → Memref sig .tc .vmem S128x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))

abbrev stage1_7 : Fin 1 → Memref sig .tc .vmem S128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))

abbrev stage1_8 : Fin 1 → Memref sig .tc .vmem S128x128 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))

abbrev stage1_9 : Fin 1 → Memref sig .tc .vmem S128 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))

abbrev stage1_10 : Fin 1 → Memref sig .tc .vmem S128x128 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))

abbrev stage1_11 : Fin 1 → Memref sig .tc .vmem S128 .f32 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))

abbrev stage1_12 : Fin 1 → Memref sig .tc .vmem S8x128 .f32 := fun | 0 => Memref.whole cc1_stg12_0 | ⟨_ + 1, h⟩ => absurd h (Nat.not_lt.2 (Nat.le_add_left _ _))
abbrev sem1_12 : Fin 1 → DmaSem sig := fun | 0 => cc1_sem12_0 | ⟨_ + 1, h⟩ => absurd h (Nat.not_lt.2 (Nat.le_add_left _ _))

abbrev grid2 : Pipeline.Grid := ⟨2, ![2, 16], ![false, false]⟩

@[reducible] def k2_t1_loop : Scf.Loop 32 :=
  let c0_i32_1 : BitVec 32 := 0#32
  let c625_i32 : BitVec 32 := 625#32
  let v5 : BitVec 32 := Scalar.addi c0_i32_1 c625_i32
  let c1_i32 : BitVec 32 := 1#32
  ⟨c0_i32_1, v5, c1_i32⟩
def k2_off1 (k2_t1 : Fin k2_t1_loop.trips) : Fin 1 → Nat :=
  let c0_i32_1 : BitVec 32 := 0#32
  let c1_i32 : BitVec 32 := 1#32
  let arg13 : BitVec 32 := Scf.iv c0_i32_1 c1_i32 k2_t1
  let c16_i32_12 : BitVec 32 := 16#32
  let v20 : BitVec 32 := Scalar.muli arg13 c16_i32_12
  let v21 : Index := Scalar.indexCast v20
  ![v21.toNat]
@[reducible] def k2_t2_loop (i : grid2.Coords) : Scf.Loop 32 :=
  let c0_i32_5 : BitVec 32 := 0#32
  let c78_i32 : BitVec 32 := 78#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c4_i32 : BitVec 32 := 4#32
  let v7 : BitVec 1 := Scalar.cmpi .slt v1 c4_i32
  let c1_i32_3 : BitVec 32 := 1#32
  let c0_i32_4 : BitVec 32 := 0#32
  let v8 : BitVec 32 := Scalar.select v7 c1_i32_3 c0_i32_4
  let v9 : BitVec 32 := Scalar.addi c78_i32 v8
  let v10 : BitVec 32 := Scalar.subi v9 c0_i32_5
  let c1_i32_7 : BitVec 32 := 1#32
  let v12 : BitVec 32 := Scalar.divsi v10 c1_i32_7
  let v13 : BitVec 32 := Scalar.muli v12 c1_i32_7
  let v14 : BitVec 32 := Scalar.addi c0_i32_5 v13
  let c1_i32_8 : BitVec 32 := 1#32
  ⟨c0_i32_5, v14, c1_i32_8⟩
def k2_off2 (i : grid2.Coords) (k2_t2 : Fin (k2_t2_loop i).trips) : Fin 1 → Nat :=
  let c0_i32_5 : BitVec 32 := 0#32
  let c1_i32_8 : BitVec 32 := 1#32
  let arg13 : BitVec 32 := Scf.iv c0_i32_5 c1_i32_8 k2_t2
  let c32_i32 : BitVec 32 := 32#32
  let v20 : BitVec 32 := Scalar.muli arg13 c32_i32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let v21 : BitVec 32 := Scalar.addi v20 v1
  let c128_i32 : BitVec 32 := 128#32
  let v22 : BitVec 32 := Scalar.muli v21 c128_i32
  ![v22.toNat]
def k2_off3 (i : grid2.Coords) (k2_t2 : Fin (k2_t2_loop i).trips) : Fin 1 → Nat :=
  let c320000_i32 : BitVec 32 := 320000#32
  let c0_i32_5 : BitVec 32 := 0#32
  let c1_i32_8 : BitVec 32 := 1#32
  let arg13 : BitVec 32 := Scf.iv c0_i32_5 c1_i32_8 k2_t2
  let c32_i32 : BitVec 32 := 32#32
  let v20 : BitVec 32 := Scalar.muli arg13 c32_i32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let v21 : BitVec 32 := Scalar.addi v20 v1
  let c128_i32 : BitVec 32 := 128#32
  let v22 : BitVec 32 := Scalar.muli v21 c128_i32
  let v23 : BitVec 32 := Scalar.addi c320000_i32 v22
  ![v23.toNat]
@[reducible] def k2_t3_loop : Scf.Loop 32 :=
  let c0_i32_21 : BitVec 32 := 0#32
  let c128_i32_22 : BitVec 32 := 128#32
  let v30 : BitVec 32 := Scalar.addi c0_i32_21 c128_i32_22
  let c1_i32_23 : BitVec 32 := 1#32
  ⟨c0_i32_21, v30, c1_i32_23⟩

def k2_chk1 (v29 : IVec S16 32) (v188 : IVec S16 32) : Prop :=
  (∀ a x, ((![v29, v188] : Fin 2 → IVec S16 32) a x).toNat < S128x128.size a) ∧
  (∀ a x, ((![v29, v188] : Fin 2 → IVec S16 32) a x).toNat < S128x128.size a)
theorem k2_idx1_inb : ∀ (v29 : IVec S16 32) (v188 : IVec S16 32) (k2_hw1 : k2_chk1 v29 v188), ∀ a x, ((![v29, v188] : Fin 2 → IVec S16 32) a x).toNat < S128x128.size a := fun v29 v188 k2_hw1 => k2_hw1.1
theorem k2_idx2_inb : ∀ (v29 : IVec S16 32) (v188 : IVec S16 32) (k2_hw1 : k2_chk1 v29 v188), ∀ a x, ((![v29, v188] : Fin 2 → IVec S16 32) a x).toNat < S128x128.size a := fun v29 v188 k2_hw1 => k2_hw1.2
@[reducible] def k2_t4_loop (v39 : BitVec 32) : Scf.Loop 32 :=
  let c0_i32_27 : BitVec 32 := 0#32
  let c1_i32_26 : BitVec 32 := 1#32
  let v40 : BitVec 32 := Scalar.addi v39 c1_i32_26
  let v41 : BitVec 32 := Scalar.subi v40 c0_i32_27
  let c1_i32_29 : BitVec 32 := 1#32
  let v43 : BitVec 32 := Scalar.divsi v41 c1_i32_29
  let v44 : BitVec 32 := Scalar.muli v43 c1_i32_29
  let v45 : BitVec 32 := Scalar.addi c0_i32_27 v44
  let c1_i32_30 : BitVec 32 := 1#32
  ⟨c0_i32_27, v45, c1_i32_30⟩

@[reducible] def k2_t5_loop (v39 : BitVec 32) : Scf.Loop 32 :=
  let c0_i32_27 : BitVec 32 := 0#32
  let c1_i32_26 : BitVec 32 := 1#32
  let v40 : BitVec 32 := Scalar.addi v39 c1_i32_26
  let v41 : BitVec 32 := Scalar.subi v40 c0_i32_27
  let c1_i32_29 : BitVec 32 := 1#32
  let v43 : BitVec 32 := Scalar.divsi v41 c1_i32_29
  let v44 : BitVec 32 := Scalar.muli v43 c1_i32_29
  let v45 : BitVec 32 := Scalar.addi c0_i32_27 v44
  let v42 : BitVec 32 := Scalar.addi c0_i32_27 v41
  let c1_i32_31 : BitVec 32 := 1#32
  ⟨v45, v42, c1_i32_31⟩

def k2_chk2 (v32 : IVec S16 32) (v39 : BitVec 32) : Prop :=
  ((k2_t4_loop v39).OK) ∧
  (∀ k2_t4 : Fin (k2_t4_loop v39).trips, ∀ a x, ((![v32] : Fin 1 → IVec S16 32) a x).toNat < S10000.size a) ∧
  (∀ k2_t4 : Fin (k2_t4_loop v39).trips, ∀ a x, ((![v32] : Fin 1 → IVec S16 32) a x).toNat < S10000.size a) ∧
  ((k2_t5_loop v39).OK) ∧
  (∀ k2_t5 : Fin (k2_t5_loop v39).trips, ∀ a x, ((![v32] : Fin 1 → IVec S16 32) a x).toNat < S10000.size a) ∧
  (∀ k2_t5 : Fin (k2_t5_loop v39).trips, ∀ a x, ((![v32] : Fin 1 → IVec S16 32) a x).toNat < S10000.size a)
theorem k2_t4_ok : ∀ (v32 : IVec S16 32) (v39 : BitVec 32) (k2_hw2 : k2_chk2 v32 v39), (k2_t4_loop v39).OK := fun v32 v39 k2_hw2 => k2_hw2.1
theorem k2_idx3_inb : ∀ (v32 : IVec S16 32) (v39 : BitVec 32) (k2_hw2 : k2_chk2 v32 v39) (k2_t4 : Fin (k2_t4_loop v39).trips), ∀ a x, ((![v32] : Fin 1 → IVec S16 32) a x).toNat < S10000.size a := fun v32 v39 k2_hw2 k2_t4 => k2_hw2.2.1 k2_t4
theorem k2_idx4_inb : ∀ (v32 : IVec S16 32) (v39 : BitVec 32) (k2_hw2 : k2_chk2 v32 v39) (k2_t4 : Fin (k2_t4_loop v39).trips), ∀ a x, ((![v32] : Fin 1 → IVec S16 32) a x).toNat < S10000.size a := fun v32 v39 k2_hw2 k2_t4 => k2_hw2.2.2.1 k2_t4
theorem k2_t5_ok : ∀ (v32 : IVec S16 32) (v39 : BitVec 32) (k2_hw2 : k2_chk2 v32 v39), (k2_t5_loop v39).OK := fun v32 v39 k2_hw2 => k2_hw2.2.2.2.1
theorem k2_idx5_inb : ∀ (v32 : IVec S16 32) (v39 : BitVec 32) (k2_hw2 : k2_chk2 v32 v39) (k2_t5 : Fin (k2_t5_loop v39).trips), ∀ a x, ((![v32] : Fin 1 → IVec S16 32) a x).toNat < S10000.size a := fun v32 v39 k2_hw2 k2_t5 => k2_hw2.2.2.2.2.1 k2_t5
theorem k2_idx6_inb : ∀ (v32 : IVec S16 32) (v39 : BitVec 32) (k2_hw2 : k2_chk2 v32 v39) (k2_t5 : Fin (k2_t5_loop v39).trips), ∀ a x, ((![v32] : Fin 1 → IVec S16 32) a x).toNat < S10000.size a := fun v32 v39 k2_hw2 k2_t5 => k2_hw2.2.2.2.2.2 k2_t5
@[reducible] def k2_t6_loop : Scf.Loop 32 :=
  let c0_i32_33 : BitVec 32 := 0#32
  let c128_i32_34 : BitVec 32 := 128#32
  let v50 : BitVec 32 := Scalar.addi c0_i32_33 c128_i32_34
  let c1_i32_35 : BitVec 32 := 1#32
  ⟨c0_i32_33, v50, c1_i32_35⟩

def k2_chk3 (v49 : IVec S16 32) (v188 : IVec S16 32) : Prop :=
  (∀ a x, ((![v49, v188] : Fin 2 → IVec S16 32) a x).toNat < S128x128.size a) ∧
  (∀ a x, ((![v49, v188] : Fin 2 → IVec S16 32) a x).toNat < S128x128.size a)
theorem k2_idx7_inb : ∀ (v49 : IVec S16 32) (v188 : IVec S16 32) (k2_hw3 : k2_chk3 v49 v188), ∀ a x, ((![v49, v188] : Fin 2 → IVec S16 32) a x).toNat < S128x128.size a := fun v49 v188 k2_hw3 => k2_hw3.1
theorem k2_idx8_inb : ∀ (v49 : IVec S16 32) (v188 : IVec S16 32) (k2_hw3 : k2_chk3 v49 v188), ∀ a x, ((![v49, v188] : Fin 2 → IVec S16 32) a x).toNat < S128x128.size a := fun v49 v188 k2_hw3 => k2_hw3.2
@[reducible] def k2_t7_loop (v59 : BitVec 32) : Scf.Loop 32 :=
  let c0_i32_43 : BitVec 32 := 0#32
  let c1_i32_42 : BitVec 32 := 1#32
  let v60 : BitVec 32 := Scalar.addi v59 c1_i32_42
  let v61 : BitVec 32 := Scalar.subi v60 c0_i32_43
  let c1_i32_45 : BitVec 32 := 1#32
  let v63 : BitVec 32 := Scalar.divsi v61 c1_i32_45
  let v64 : BitVec 32 := Scalar.muli v63 c1_i32_45
  let v65 : BitVec 32 := Scalar.addi c0_i32_43 v64
  let c1_i32_46 : BitVec 32 := 1#32
  ⟨c0_i32_43, v65, c1_i32_46⟩

@[reducible] def k2_t8_loop (v59 : BitVec 32) : Scf.Loop 32 :=
  let c0_i32_43 : BitVec 32 := 0#32
  let c1_i32_42 : BitVec 32 := 1#32
  let v60 : BitVec 32 := Scalar.addi v59 c1_i32_42
  let v61 : BitVec 32 := Scalar.subi v60 c0_i32_43
  let c1_i32_45 : BitVec 32 := 1#32
  let v63 : BitVec 32 := Scalar.divsi v61 c1_i32_45
  let v64 : BitVec 32 := Scalar.muli v63 c1_i32_45
  let v65 : BitVec 32 := Scalar.addi c0_i32_43 v64
  let v62 : BitVec 32 := Scalar.addi c0_i32_43 v61
  let c1_i32_47 : BitVec 32 := 1#32
  ⟨v65, v62, c1_i32_47⟩

def k2_chk4 (v52 : IVec S16 32) (v59 : BitVec 32) : Prop :=
  ((k2_t7_loop v59).OK) ∧
  (∀ k2_t7 : Fin (k2_t7_loop v59).trips, ∀ a x, ((![v52] : Fin 1 → IVec S16 32) a x).toNat < S10000.size a) ∧
  (∀ k2_t7 : Fin (k2_t7_loop v59).trips, ∀ a x, ((![v52] : Fin 1 → IVec S16 32) a x).toNat < S10000.size a) ∧
  ((k2_t8_loop v59).OK) ∧
  (∀ k2_t8 : Fin (k2_t8_loop v59).trips, ∀ a x, ((![v52] : Fin 1 → IVec S16 32) a x).toNat < S10000.size a) ∧
  (∀ k2_t8 : Fin (k2_t8_loop v59).trips, ∀ a x, ((![v52] : Fin 1 → IVec S16 32) a x).toNat < S10000.size a)
theorem k2_t7_ok : ∀ (v52 : IVec S16 32) (v59 : BitVec 32) (k2_hw4 : k2_chk4 v52 v59), (k2_t7_loop v59).OK := fun v52 v59 k2_hw4 => k2_hw4.1
theorem k2_idx9_inb : ∀ (v52 : IVec S16 32) (v59 : BitVec 32) (k2_hw4 : k2_chk4 v52 v59) (k2_t7 : Fin (k2_t7_loop v59).trips), ∀ a x, ((![v52] : Fin 1 → IVec S16 32) a x).toNat < S10000.size a := fun v52 v59 k2_hw4 k2_t7 => k2_hw4.2.1 k2_t7
theorem k2_idx10_inb : ∀ (v52 : IVec S16 32) (v59 : BitVec 32) (k2_hw4 : k2_chk4 v52 v59) (k2_t7 : Fin (k2_t7_loop v59).trips), ∀ a x, ((![v52] : Fin 1 → IVec S16 32) a x).toNat < S10000.size a := fun v52 v59 k2_hw4 k2_t7 => k2_hw4.2.2.1 k2_t7
theorem k2_t8_ok : ∀ (v52 : IVec S16 32) (v59 : BitVec 32) (k2_hw4 : k2_chk4 v52 v59), (k2_t8_loop v59).OK := fun v52 v59 k2_hw4 => k2_hw4.2.2.2.1
theorem k2_idx11_inb : ∀ (v52 : IVec S16 32) (v59 : BitVec 32) (k2_hw4 : k2_chk4 v52 v59) (k2_t8 : Fin (k2_t8_loop v59).trips), ∀ a x, ((![v52] : Fin 1 → IVec S16 32) a x).toNat < S10000.size a := fun v52 v59 k2_hw4 k2_t8 => k2_hw4.2.2.2.2.1 k2_t8
theorem k2_idx12_inb : ∀ (v52 : IVec S16 32) (v59 : BitVec 32) (k2_hw4 : k2_chk4 v52 v59) (k2_t8 : Fin (k2_t8_loop v59).trips), ∀ a x, ((![v52] : Fin 1 → IVec S16 32) a x).toNat < S10000.size a := fun v52 v59 k2_hw4 k2_t8 => k2_hw4.2.2.2.2.2 k2_t8
@[reducible] def k2_t9_loop : Scf.Loop 32 :=
  let c0_i32_49 : BitVec 32 := 0#32
  let c128_i32_50 : BitVec 32 := 128#32
  let v70 : BitVec 32 := Scalar.addi c0_i32_49 c128_i32_50
  let c1_i32_51 : BitVec 32 := 1#32
  ⟨c0_i32_49, v70, c1_i32_51⟩

def k2_chk5 (v69 : IVec S16 32) (v188 : IVec S16 32) : Prop :=
  (∀ a x, ((![v69, v188] : Fin 2 → IVec S16 32) a x).toNat < S128x128.size a) ∧
  (∀ a x, ((![v69, v188] : Fin 2 → IVec S16 32) a x).toNat < S128x128.size a)
theorem k2_idx13_inb : ∀ (v69 : IVec S16 32) (v188 : IVec S16 32) (k2_hw5 : k2_chk5 v69 v188), ∀ a x, ((![v69, v188] : Fin 2 → IVec S16 32) a x).toNat < S128x128.size a := fun v69 v188 k2_hw5 => k2_hw5.1
theorem k2_idx14_inb : ∀ (v69 : IVec S16 32) (v188 : IVec S16 32) (k2_hw5 : k2_chk5 v69 v188), ∀ a x, ((![v69, v188] : Fin 2 → IVec S16 32) a x).toNat < S128x128.size a := fun v69 v188 k2_hw5 => k2_hw5.2
@[reducible] def k2_t10_loop (v79 : BitVec 32) : Scf.Loop 32 :=
  let c0_i32_59 : BitVec 32 := 0#32
  let c1_i32_58 : BitVec 32 := 1#32
  let v80 : BitVec 32 := Scalar.addi v79 c1_i32_58
  let v81 : BitVec 32 := Scalar.subi v80 c0_i32_59
  let c1_i32_61 : BitVec 32 := 1#32
  let v83 : BitVec 32 := Scalar.divsi v81 c1_i32_61
  let v84 : BitVec 32 := Scalar.muli v83 c1_i32_61
  let v85 : BitVec 32 := Scalar.addi c0_i32_59 v84
  let c1_i32_62 : BitVec 32 := 1#32
  ⟨c0_i32_59, v85, c1_i32_62⟩

@[reducible] def k2_t11_loop (v79 : BitVec 32) : Scf.Loop 32 :=
  let c0_i32_59 : BitVec 32 := 0#32
  let c1_i32_58 : BitVec 32 := 1#32
  let v80 : BitVec 32 := Scalar.addi v79 c1_i32_58
  let v81 : BitVec 32 := Scalar.subi v80 c0_i32_59
  let c1_i32_61 : BitVec 32 := 1#32
  let v83 : BitVec 32 := Scalar.divsi v81 c1_i32_61
  let v84 : BitVec 32 := Scalar.muli v83 c1_i32_61
  let v85 : BitVec 32 := Scalar.addi c0_i32_59 v84
  let v82 : BitVec 32 := Scalar.addi c0_i32_59 v81
  let c1_i32_63 : BitVec 32 := 1#32
  ⟨v85, v82, c1_i32_63⟩

def k2_chk6 (v72 : IVec S16 32) (v79 : BitVec 32) : Prop :=
  ((k2_t10_loop v79).OK) ∧
  (∀ k2_t10 : Fin (k2_t10_loop v79).trips, ∀ a x, ((![v72] : Fin 1 → IVec S16 32) a x).toNat < S10000.size a) ∧
  (∀ k2_t10 : Fin (k2_t10_loop v79).trips, ∀ a x, ((![v72] : Fin 1 → IVec S16 32) a x).toNat < S10000.size a) ∧
  ((k2_t11_loop v79).OK) ∧
  (∀ k2_t11 : Fin (k2_t11_loop v79).trips, ∀ a x, ((![v72] : Fin 1 → IVec S16 32) a x).toNat < S10000.size a) ∧
  (∀ k2_t11 : Fin (k2_t11_loop v79).trips, ∀ a x, ((![v72] : Fin 1 → IVec S16 32) a x).toNat < S10000.size a)
theorem k2_t10_ok : ∀ (v72 : IVec S16 32) (v79 : BitVec 32) (k2_hw6 : k2_chk6 v72 v79), (k2_t10_loop v79).OK := fun v72 v79 k2_hw6 => k2_hw6.1
theorem k2_idx15_inb : ∀ (v72 : IVec S16 32) (v79 : BitVec 32) (k2_hw6 : k2_chk6 v72 v79) (k2_t10 : Fin (k2_t10_loop v79).trips), ∀ a x, ((![v72] : Fin 1 → IVec S16 32) a x).toNat < S10000.size a := fun v72 v79 k2_hw6 k2_t10 => k2_hw6.2.1 k2_t10
theorem k2_idx16_inb : ∀ (v72 : IVec S16 32) (v79 : BitVec 32) (k2_hw6 : k2_chk6 v72 v79) (k2_t10 : Fin (k2_t10_loop v79).trips), ∀ a x, ((![v72] : Fin 1 → IVec S16 32) a x).toNat < S10000.size a := fun v72 v79 k2_hw6 k2_t10 => k2_hw6.2.2.1 k2_t10
theorem k2_t11_ok : ∀ (v72 : IVec S16 32) (v79 : BitVec 32) (k2_hw6 : k2_chk6 v72 v79), (k2_t11_loop v79).OK := fun v72 v79 k2_hw6 => k2_hw6.2.2.2.1
theorem k2_idx17_inb : ∀ (v72 : IVec S16 32) (v79 : BitVec 32) (k2_hw6 : k2_chk6 v72 v79) (k2_t11 : Fin (k2_t11_loop v79).trips), ∀ a x, ((![v72] : Fin 1 → IVec S16 32) a x).toNat < S10000.size a := fun v72 v79 k2_hw6 k2_t11 => k2_hw6.2.2.2.2.1 k2_t11
theorem k2_idx18_inb : ∀ (v72 : IVec S16 32) (v79 : BitVec 32) (k2_hw6 : k2_chk6 v72 v79) (k2_t11 : Fin (k2_t11_loop v79).trips), ∀ a x, ((![v72] : Fin 1 → IVec S16 32) a x).toNat < S10000.size a := fun v72 v79 k2_hw6 k2_t11 => k2_hw6.2.2.2.2.2 k2_t11
@[reducible] def k2_t12_loop : Scf.Loop 32 :=
  let c0_i32_64 : BitVec 32 := 0#32
  let c128_i32_65 : BitVec 32 := 128#32
  let v90 : BitVec 32 := Scalar.addi c0_i32_64 c128_i32_65
  let c1_i32_66 : BitVec 32 := 1#32
  ⟨c0_i32_64, v90, c1_i32_66⟩

def k2_chk7 (v89 : IVec S16 32) (v188 : IVec S16 32) : Prop :=
  (∀ a x, ((![v89, v188] : Fin 2 → IVec S16 32) a x).toNat < S128x128.size a) ∧
  (∀ a x, ((![v89, v188] : Fin 2 → IVec S16 32) a x).toNat < S128x128.size a)
theorem k2_idx19_inb : ∀ (v89 : IVec S16 32) (v188 : IVec S16 32) (k2_hw7 : k2_chk7 v89 v188), ∀ a x, ((![v89, v188] : Fin 2 → IVec S16 32) a x).toNat < S128x128.size a := fun v89 v188 k2_hw7 => k2_hw7.1
theorem k2_idx20_inb : ∀ (v89 : IVec S16 32) (v188 : IVec S16 32) (k2_hw7 : k2_chk7 v89 v188), ∀ a x, ((![v89, v188] : Fin 2 → IVec S16 32) a x).toNat < S128x128.size a := fun v89 v188 k2_hw7 => k2_hw7.2
@[reducible] def k2_t13_loop (v99 : BitVec 32) : Scf.Loop 32 :=
  let c0_i32_74 : BitVec 32 := 0#32
  let c1_i32_73 : BitVec 32 := 1#32
  let v100 : BitVec 32 := Scalar.addi v99 c1_i32_73
  let v101 : BitVec 32 := Scalar.subi v100 c0_i32_74
  let c1_i32_76 : BitVec 32 := 1#32
  let v103 : BitVec 32 := Scalar.divsi v101 c1_i32_76
  let v104 : BitVec 32 := Scalar.muli v103 c1_i32_76
  let v105 : BitVec 32 := Scalar.addi c0_i32_74 v104
  let c1_i32_77 : BitVec 32 := 1#32
  ⟨c0_i32_74, v105, c1_i32_77⟩

@[reducible] def k2_t14_loop (v99 : BitVec 32) : Scf.Loop 32 :=
  let c0_i32_74 : BitVec 32 := 0#32
  let c1_i32_73 : BitVec 32 := 1#32
  let v100 : BitVec 32 := Scalar.addi v99 c1_i32_73
  let v101 : BitVec 32 := Scalar.subi v100 c0_i32_74
  let c1_i32_76 : BitVec 32 := 1#32
  let v103 : BitVec 32 := Scalar.divsi v101 c1_i32_76
  let v104 : BitVec 32 := Scalar.muli v103 c1_i32_76
  let v105 : BitVec 32 := Scalar.addi c0_i32_74 v104
  let v102 : BitVec 32 := Scalar.addi c0_i32_74 v101
  let c1_i32_78 : BitVec 32 := 1#32
  ⟨v105, v102, c1_i32_78⟩

def k2_chk8 (v92 : IVec S16 32) (v99 : BitVec 32) : Prop :=
  ((k2_t13_loop v99).OK) ∧
  (∀ k2_t13 : Fin (k2_t13_loop v99).trips, ∀ a x, ((![v92] : Fin 1 → IVec S16 32) a x).toNat < S10000.size a) ∧
  (∀ k2_t13 : Fin (k2_t13_loop v99).trips, ∀ a x, ((![v92] : Fin 1 → IVec S16 32) a x).toNat < S10000.size a) ∧
  ((k2_t14_loop v99).OK) ∧
  (∀ k2_t14 : Fin (k2_t14_loop v99).trips, ∀ a x, ((![v92] : Fin 1 → IVec S16 32) a x).toNat < S10000.size a) ∧
  (∀ k2_t14 : Fin (k2_t14_loop v99).trips, ∀ a x, ((![v92] : Fin 1 → IVec S16 32) a x).toNat < S10000.size a)
theorem k2_t13_ok : ∀ (v92 : IVec S16 32) (v99 : BitVec 32) (k2_hw8 : k2_chk8 v92 v99), (k2_t13_loop v99).OK := fun v92 v99 k2_hw8 => k2_hw8.1
theorem k2_idx21_inb : ∀ (v92 : IVec S16 32) (v99 : BitVec 32) (k2_hw8 : k2_chk8 v92 v99) (k2_t13 : Fin (k2_t13_loop v99).trips), ∀ a x, ((![v92] : Fin 1 → IVec S16 32) a x).toNat < S10000.size a := fun v92 v99 k2_hw8 k2_t13 => k2_hw8.2.1 k2_t13
theorem k2_idx22_inb : ∀ (v92 : IVec S16 32) (v99 : BitVec 32) (k2_hw8 : k2_chk8 v92 v99) (k2_t13 : Fin (k2_t13_loop v99).trips), ∀ a x, ((![v92] : Fin 1 → IVec S16 32) a x).toNat < S10000.size a := fun v92 v99 k2_hw8 k2_t13 => k2_hw8.2.2.1 k2_t13
theorem k2_t14_ok : ∀ (v92 : IVec S16 32) (v99 : BitVec 32) (k2_hw8 : k2_chk8 v92 v99), (k2_t14_loop v99).OK := fun v92 v99 k2_hw8 => k2_hw8.2.2.2.1
theorem k2_idx23_inb : ∀ (v92 : IVec S16 32) (v99 : BitVec 32) (k2_hw8 : k2_chk8 v92 v99) (k2_t14 : Fin (k2_t14_loop v99).trips), ∀ a x, ((![v92] : Fin 1 → IVec S16 32) a x).toNat < S10000.size a := fun v92 v99 k2_hw8 k2_t14 => k2_hw8.2.2.2.2.1 k2_t14
theorem k2_idx24_inb : ∀ (v92 : IVec S16 32) (v99 : BitVec 32) (k2_hw8 : k2_chk8 v92 v99) (k2_t14 : Fin (k2_t14_loop v99).trips), ∀ a x, ((![v92] : Fin 1 → IVec S16 32) a x).toNat < S10000.size a := fun v92 v99 k2_hw8 k2_t14 => k2_hw8.2.2.2.2.2 k2_t14
@[reducible] def k2_t15_loop : Scf.Loop 32 :=
  let c0_i32_79 : BitVec 32 := 0#32
  let c128_i32_80 : BitVec 32 := 128#32
  let v110 : BitVec 32 := Scalar.addi c0_i32_79 c128_i32_80
  let c1_i32_81 : BitVec 32 := 1#32
  ⟨c0_i32_79, v110, c1_i32_81⟩

def k2_chk9 (v109 : IVec S16 32) (v188 : IVec S16 32) : Prop :=
  (∀ a x, ((![v109, v188] : Fin 2 → IVec S16 32) a x).toNat < S128x128.size a) ∧
  (∀ a x, ((![v109, v188] : Fin 2 → IVec S16 32) a x).toNat < S128x128.size a)
theorem k2_idx25_inb : ∀ (v109 : IVec S16 32) (v188 : IVec S16 32) (k2_hw9 : k2_chk9 v109 v188), ∀ a x, ((![v109, v188] : Fin 2 → IVec S16 32) a x).toNat < S128x128.size a := fun v109 v188 k2_hw9 => k2_hw9.1
theorem k2_idx26_inb : ∀ (v109 : IVec S16 32) (v188 : IVec S16 32) (k2_hw9 : k2_chk9 v109 v188), ∀ a x, ((![v109, v188] : Fin 2 → IVec S16 32) a x).toNat < S128x128.size a := fun v109 v188 k2_hw9 => k2_hw9.2
@[reducible] def k2_t16_loop (v119 : BitVec 32) : Scf.Loop 32 :=
  let c0_i32_89 : BitVec 32 := 0#32
  let c1_i32_88 : BitVec 32 := 1#32
  let v120 : BitVec 32 := Scalar.addi v119 c1_i32_88
  let v121 : BitVec 32 := Scalar.subi v120 c0_i32_89
  let c1_i32_91 : BitVec 32 := 1#32
  let v123 : BitVec 32 := Scalar.divsi v121 c1_i32_91
  let v124 : BitVec 32 := Scalar.muli v123 c1_i32_91
  let v125 : BitVec 32 := Scalar.addi c0_i32_89 v124
  let c1_i32_92 : BitVec 32 := 1#32
  ⟨c0_i32_89, v125, c1_i32_92⟩

@[reducible] def k2_t17_loop (v119 : BitVec 32) : Scf.Loop 32 :=
  let c0_i32_89 : BitVec 32 := 0#32
  let c1_i32_88 : BitVec 32 := 1#32
  let v120 : BitVec 32 := Scalar.addi v119 c1_i32_88
  let v121 : BitVec 32 := Scalar.subi v120 c0_i32_89
  let c1_i32_91 : BitVec 32 := 1#32
  let v123 : BitVec 32 := Scalar.divsi v121 c1_i32_91
  let v124 : BitVec 32 := Scalar.muli v123 c1_i32_91
  let v125 : BitVec 32 := Scalar.addi c0_i32_89 v124
  let v122 : BitVec 32 := Scalar.addi c0_i32_89 v121
  let c1_i32_93 : BitVec 32 := 1#32
  ⟨v125, v122, c1_i32_93⟩

def k2_chk10 (v112 : IVec S16 32) (v119 : BitVec 32) : Prop :=
  ((k2_t16_loop v119).OK) ∧
  (∀ k2_t16 : Fin (k2_t16_loop v119).trips, ∀ a x, ((![v112] : Fin 1 → IVec S16 32) a x).toNat < S10000.size a) ∧
  (∀ k2_t16 : Fin (k2_t16_loop v119).trips, ∀ a x, ((![v112] : Fin 1 → IVec S16 32) a x).toNat < S10000.size a) ∧
  ((k2_t17_loop v119).OK) ∧
  (∀ k2_t17 : Fin (k2_t17_loop v119).trips, ∀ a x, ((![v112] : Fin 1 → IVec S16 32) a x).toNat < S10000.size a) ∧
  (∀ k2_t17 : Fin (k2_t17_loop v119).trips, ∀ a x, ((![v112] : Fin 1 → IVec S16 32) a x).toNat < S10000.size a)
theorem k2_t16_ok : ∀ (v112 : IVec S16 32) (v119 : BitVec 32) (k2_hw10 : k2_chk10 v112 v119), (k2_t16_loop v119).OK := fun v112 v119 k2_hw10 => k2_hw10.1
theorem k2_idx27_inb : ∀ (v112 : IVec S16 32) (v119 : BitVec 32) (k2_hw10 : k2_chk10 v112 v119) (k2_t16 : Fin (k2_t16_loop v119).trips), ∀ a x, ((![v112] : Fin 1 → IVec S16 32) a x).toNat < S10000.size a := fun v112 v119 k2_hw10 k2_t16 => k2_hw10.2.1 k2_t16
theorem k2_idx28_inb : ∀ (v112 : IVec S16 32) (v119 : BitVec 32) (k2_hw10 : k2_chk10 v112 v119) (k2_t16 : Fin (k2_t16_loop v119).trips), ∀ a x, ((![v112] : Fin 1 → IVec S16 32) a x).toNat < S10000.size a := fun v112 v119 k2_hw10 k2_t16 => k2_hw10.2.2.1 k2_t16
theorem k2_t17_ok : ∀ (v112 : IVec S16 32) (v119 : BitVec 32) (k2_hw10 : k2_chk10 v112 v119), (k2_t17_loop v119).OK := fun v112 v119 k2_hw10 => k2_hw10.2.2.2.1
theorem k2_idx29_inb : ∀ (v112 : IVec S16 32) (v119 : BitVec 32) (k2_hw10 : k2_chk10 v112 v119) (k2_t17 : Fin (k2_t17_loop v119).trips), ∀ a x, ((![v112] : Fin 1 → IVec S16 32) a x).toNat < S10000.size a := fun v112 v119 k2_hw10 k2_t17 => k2_hw10.2.2.2.2.1 k2_t17
theorem k2_idx30_inb : ∀ (v112 : IVec S16 32) (v119 : BitVec 32) (k2_hw10 : k2_chk10 v112 v119) (k2_t17 : Fin (k2_t17_loop v119).trips), ∀ a x, ((![v112] : Fin 1 → IVec S16 32) a x).toNat < S10000.size a := fun v112 v119 k2_hw10 k2_t17 => k2_hw10.2.2.2.2.2 k2_t17
@[reducible] def k2_t18_loop : Scf.Loop 32 :=
  let c0_i32_94 : BitVec 32 := 0#32
  let c128_i32_95 : BitVec 32 := 128#32
  let v130 : BitVec 32 := Scalar.addi c0_i32_94 c128_i32_95
  let c1_i32_96 : BitVec 32 := 1#32
  ⟨c0_i32_94, v130, c1_i32_96⟩

def k2_chk11 (v129 : IVec S16 32) (v188 : IVec S16 32) : Prop :=
  (∀ a x, ((![v129, v188] : Fin 2 → IVec S16 32) a x).toNat < S128x128.size a) ∧
  (∀ a x, ((![v129, v188] : Fin 2 → IVec S16 32) a x).toNat < S128x128.size a)
theorem k2_idx31_inb : ∀ (v129 : IVec S16 32) (v188 : IVec S16 32) (k2_hw11 : k2_chk11 v129 v188), ∀ a x, ((![v129, v188] : Fin 2 → IVec S16 32) a x).toNat < S128x128.size a := fun v129 v188 k2_hw11 => k2_hw11.1
theorem k2_idx32_inb : ∀ (v129 : IVec S16 32) (v188 : IVec S16 32) (k2_hw11 : k2_chk11 v129 v188), ∀ a x, ((![v129, v188] : Fin 2 → IVec S16 32) a x).toNat < S128x128.size a := fun v129 v188 k2_hw11 => k2_hw11.2
@[reducible] def k2_t19_loop (v139 : BitVec 32) : Scf.Loop 32 :=
  let c0_i32_104 : BitVec 32 := 0#32
  let c1_i32_103 : BitVec 32 := 1#32
  let v140 : BitVec 32 := Scalar.addi v139 c1_i32_103
  let v141 : BitVec 32 := Scalar.subi v140 c0_i32_104
  let c1_i32_106 : BitVec 32 := 1#32
  let v143 : BitVec 32 := Scalar.divsi v141 c1_i32_106
  let v144 : BitVec 32 := Scalar.muli v143 c1_i32_106
  let v145 : BitVec 32 := Scalar.addi c0_i32_104 v144
  let c1_i32_107 : BitVec 32 := 1#32
  ⟨c0_i32_104, v145, c1_i32_107⟩

@[reducible] def k2_t20_loop (v139 : BitVec 32) : Scf.Loop 32 :=
  let c0_i32_104 : BitVec 32 := 0#32
  let c1_i32_103 : BitVec 32 := 1#32
  let v140 : BitVec 32 := Scalar.addi v139 c1_i32_103
  let v141 : BitVec 32 := Scalar.subi v140 c0_i32_104
  let c1_i32_106 : BitVec 32 := 1#32
  let v143 : BitVec 32 := Scalar.divsi v141 c1_i32_106
  let v144 : BitVec 32 := Scalar.muli v143 c1_i32_106
  let v145 : BitVec 32 := Scalar.addi c0_i32_104 v144
  let v142 : BitVec 32 := Scalar.addi c0_i32_104 v141
  let c1_i32_108 : BitVec 32 := 1#32
  ⟨v145, v142, c1_i32_108⟩

def k2_chk12 (v132 : IVec S16 32) (v139 : BitVec 32) : Prop :=
  ((k2_t19_loop v139).OK) ∧
  (∀ k2_t19 : Fin (k2_t19_loop v139).trips, ∀ a x, ((![v132] : Fin 1 → IVec S16 32) a x).toNat < S10000.size a) ∧
  (∀ k2_t19 : Fin (k2_t19_loop v139).trips, ∀ a x, ((![v132] : Fin 1 → IVec S16 32) a x).toNat < S10000.size a) ∧
  ((k2_t20_loop v139).OK) ∧
  (∀ k2_t20 : Fin (k2_t20_loop v139).trips, ∀ a x, ((![v132] : Fin 1 → IVec S16 32) a x).toNat < S10000.size a) ∧
  (∀ k2_t20 : Fin (k2_t20_loop v139).trips, ∀ a x, ((![v132] : Fin 1 → IVec S16 32) a x).toNat < S10000.size a)
theorem k2_t19_ok : ∀ (v132 : IVec S16 32) (v139 : BitVec 32) (k2_hw12 : k2_chk12 v132 v139), (k2_t19_loop v139).OK := fun v132 v139 k2_hw12 => k2_hw12.1
theorem k2_idx33_inb : ∀ (v132 : IVec S16 32) (v139 : BitVec 32) (k2_hw12 : k2_chk12 v132 v139) (k2_t19 : Fin (k2_t19_loop v139).trips), ∀ a x, ((![v132] : Fin 1 → IVec S16 32) a x).toNat < S10000.size a := fun v132 v139 k2_hw12 k2_t19 => k2_hw12.2.1 k2_t19
theorem k2_idx34_inb : ∀ (v132 : IVec S16 32) (v139 : BitVec 32) (k2_hw12 : k2_chk12 v132 v139) (k2_t19 : Fin (k2_t19_loop v139).trips), ∀ a x, ((![v132] : Fin 1 → IVec S16 32) a x).toNat < S10000.size a := fun v132 v139 k2_hw12 k2_t19 => k2_hw12.2.2.1 k2_t19
theorem k2_t20_ok : ∀ (v132 : IVec S16 32) (v139 : BitVec 32) (k2_hw12 : k2_chk12 v132 v139), (k2_t20_loop v139).OK := fun v132 v139 k2_hw12 => k2_hw12.2.2.2.1
theorem k2_idx35_inb : ∀ (v132 : IVec S16 32) (v139 : BitVec 32) (k2_hw12 : k2_chk12 v132 v139) (k2_t20 : Fin (k2_t20_loop v139).trips), ∀ a x, ((![v132] : Fin 1 → IVec S16 32) a x).toNat < S10000.size a := fun v132 v139 k2_hw12 k2_t20 => k2_hw12.2.2.2.2.1 k2_t20
theorem k2_idx36_inb : ∀ (v132 : IVec S16 32) (v139 : BitVec 32) (k2_hw12 : k2_chk12 v132 v139) (k2_t20 : Fin (k2_t20_loop v139).trips), ∀ a x, ((![v132] : Fin 1 → IVec S16 32) a x).toNat < S10000.size a := fun v132 v139 k2_hw12 k2_t20 => k2_hw12.2.2.2.2.2 k2_t20
@[reducible] def k2_t21_loop : Scf.Loop 32 :=
  let c0_i32_109 : BitVec 32 := 0#32
  let c128_i32_110 : BitVec 32 := 128#32
  let v150 : BitVec 32 := Scalar.addi c0_i32_109 c128_i32_110
  let c1_i32_111 : BitVec 32 := 1#32
  ⟨c0_i32_109, v150, c1_i32_111⟩

def k2_chk13 (v149 : IVec S16 32) (v188 : IVec S16 32) : Prop :=
  (∀ a x, ((![v149, v188] : Fin 2 → IVec S16 32) a x).toNat < S128x128.size a) ∧
  (∀ a x, ((![v149, v188] : Fin 2 → IVec S16 32) a x).toNat < S128x128.size a)
theorem k2_idx37_inb : ∀ (v149 : IVec S16 32) (v188 : IVec S16 32) (k2_hw13 : k2_chk13 v149 v188), ∀ a x, ((![v149, v188] : Fin 2 → IVec S16 32) a x).toNat < S128x128.size a := fun v149 v188 k2_hw13 => k2_hw13.1
theorem k2_idx38_inb : ∀ (v149 : IVec S16 32) (v188 : IVec S16 32) (k2_hw13 : k2_chk13 v149 v188), ∀ a x, ((![v149, v188] : Fin 2 → IVec S16 32) a x).toNat < S128x128.size a := fun v149 v188 k2_hw13 => k2_hw13.2
@[reducible] def k2_t22_loop (v159 : BitVec 32) : Scf.Loop 32 :=
  let c0_i32_119 : BitVec 32 := 0#32
  let c1_i32_118 : BitVec 32 := 1#32
  let v160 : BitVec 32 := Scalar.addi v159 c1_i32_118
  let v161 : BitVec 32 := Scalar.subi v160 c0_i32_119
  let c1_i32_121 : BitVec 32 := 1#32
  let v163 : BitVec 32 := Scalar.divsi v161 c1_i32_121
  let v164 : BitVec 32 := Scalar.muli v163 c1_i32_121
  let v165 : BitVec 32 := Scalar.addi c0_i32_119 v164
  let c1_i32_122 : BitVec 32 := 1#32
  ⟨c0_i32_119, v165, c1_i32_122⟩

@[reducible] def k2_t23_loop (v159 : BitVec 32) : Scf.Loop 32 :=
  let c0_i32_119 : BitVec 32 := 0#32
  let c1_i32_118 : BitVec 32 := 1#32
  let v160 : BitVec 32 := Scalar.addi v159 c1_i32_118
  let v161 : BitVec 32 := Scalar.subi v160 c0_i32_119
  let c1_i32_121 : BitVec 32 := 1#32
  let v163 : BitVec 32 := Scalar.divsi v161 c1_i32_121
  let v164 : BitVec 32 := Scalar.muli v163 c1_i32_121
  let v165 : BitVec 32 := Scalar.addi c0_i32_119 v164
  let v162 : BitVec 32 := Scalar.addi c0_i32_119 v161
  let c1_i32_123 : BitVec 32 := 1#32
  ⟨v165, v162, c1_i32_123⟩

def k2_chk14 (v152 : IVec S16 32) (v159 : BitVec 32) : Prop :=
  ((k2_t22_loop v159).OK) ∧
  (∀ k2_t22 : Fin (k2_t22_loop v159).trips, ∀ a x, ((![v152] : Fin 1 → IVec S16 32) a x).toNat < S10000.size a) ∧
  (∀ k2_t22 : Fin (k2_t22_loop v159).trips, ∀ a x, ((![v152] : Fin 1 → IVec S16 32) a x).toNat < S10000.size a) ∧
  ((k2_t23_loop v159).OK) ∧
  (∀ k2_t23 : Fin (k2_t23_loop v159).trips, ∀ a x, ((![v152] : Fin 1 → IVec S16 32) a x).toNat < S10000.size a) ∧
  (∀ k2_t23 : Fin (k2_t23_loop v159).trips, ∀ a x, ((![v152] : Fin 1 → IVec S16 32) a x).toNat < S10000.size a)
theorem k2_t22_ok : ∀ (v152 : IVec S16 32) (v159 : BitVec 32) (k2_hw14 : k2_chk14 v152 v159), (k2_t22_loop v159).OK := fun v152 v159 k2_hw14 => k2_hw14.1
theorem k2_idx39_inb : ∀ (v152 : IVec S16 32) (v159 : BitVec 32) (k2_hw14 : k2_chk14 v152 v159) (k2_t22 : Fin (k2_t22_loop v159).trips), ∀ a x, ((![v152] : Fin 1 → IVec S16 32) a x).toNat < S10000.size a := fun v152 v159 k2_hw14 k2_t22 => k2_hw14.2.1 k2_t22
theorem k2_idx40_inb : ∀ (v152 : IVec S16 32) (v159 : BitVec 32) (k2_hw14 : k2_chk14 v152 v159) (k2_t22 : Fin (k2_t22_loop v159).trips), ∀ a x, ((![v152] : Fin 1 → IVec S16 32) a x).toNat < S10000.size a := fun v152 v159 k2_hw14 k2_t22 => k2_hw14.2.2.1 k2_t22
theorem k2_t23_ok : ∀ (v152 : IVec S16 32) (v159 : BitVec 32) (k2_hw14 : k2_chk14 v152 v159), (k2_t23_loop v159).OK := fun v152 v159 k2_hw14 => k2_hw14.2.2.2.1
theorem k2_idx41_inb : ∀ (v152 : IVec S16 32) (v159 : BitVec 32) (k2_hw14 : k2_chk14 v152 v159) (k2_t23 : Fin (k2_t23_loop v159).trips), ∀ a x, ((![v152] : Fin 1 → IVec S16 32) a x).toNat < S10000.size a := fun v152 v159 k2_hw14 k2_t23 => k2_hw14.2.2.2.2.1 k2_t23
theorem k2_idx42_inb : ∀ (v152 : IVec S16 32) (v159 : BitVec 32) (k2_hw14 : k2_chk14 v152 v159) (k2_t23 : Fin (k2_t23_loop v159).trips), ∀ a x, ((![v152] : Fin 1 → IVec S16 32) a x).toNat < S10000.size a := fun v152 v159 k2_hw14 k2_t23 => k2_hw14.2.2.2.2.2 k2_t23
@[reducible] def k2_t24_loop : Scf.Loop 32 :=
  let c0_i32_124 : BitVec 32 := 0#32
  let c128_i32_125 : BitVec 32 := 128#32
  let v170 : BitVec 32 := Scalar.addi c0_i32_124 c128_i32_125
  let c1_i32_126 : BitVec 32 := 1#32
  ⟨c0_i32_124, v170, c1_i32_126⟩

def k2_chk15 (v169 : IVec S16 32) (v188 : IVec S16 32) : Prop :=
  (∀ a x, ((![v169, v188] : Fin 2 → IVec S16 32) a x).toNat < S128x128.size a) ∧
  (∀ a x, ((![v169, v188] : Fin 2 → IVec S16 32) a x).toNat < S128x128.size a)
theorem k2_idx43_inb : ∀ (v169 : IVec S16 32) (v188 : IVec S16 32) (k2_hw15 : k2_chk15 v169 v188), ∀ a x, ((![v169, v188] : Fin 2 → IVec S16 32) a x).toNat < S128x128.size a := fun v169 v188 k2_hw15 => k2_hw15.1
theorem k2_idx44_inb : ∀ (v169 : IVec S16 32) (v188 : IVec S16 32) (k2_hw15 : k2_chk15 v169 v188), ∀ a x, ((![v169, v188] : Fin 2 → IVec S16 32) a x).toNat < S128x128.size a := fun v169 v188 k2_hw15 => k2_hw15.2
@[reducible] def k2_t25_loop (v179 : BitVec 32) : Scf.Loop 32 :=
  let c0_i32_134 : BitVec 32 := 0#32
  let c1_i32_133 : BitVec 32 := 1#32
  let v180 : BitVec 32 := Scalar.addi v179 c1_i32_133
  let v181 : BitVec 32 := Scalar.subi v180 c0_i32_134
  let c1_i32_136 : BitVec 32 := 1#32
  let v183 : BitVec 32 := Scalar.divsi v181 c1_i32_136
  let v184 : BitVec 32 := Scalar.muli v183 c1_i32_136
  let v185 : BitVec 32 := Scalar.addi c0_i32_134 v184
  let c1_i32_137 : BitVec 32 := 1#32
  ⟨c0_i32_134, v185, c1_i32_137⟩

@[reducible] def k2_t26_loop (v179 : BitVec 32) : Scf.Loop 32 :=
  let c0_i32_134 : BitVec 32 := 0#32
  let c1_i32_133 : BitVec 32 := 1#32
  let v180 : BitVec 32 := Scalar.addi v179 c1_i32_133
  let v181 : BitVec 32 := Scalar.subi v180 c0_i32_134
  let c1_i32_136 : BitVec 32 := 1#32
  let v183 : BitVec 32 := Scalar.divsi v181 c1_i32_136
  let v184 : BitVec 32 := Scalar.muli v183 c1_i32_136
  let v185 : BitVec 32 := Scalar.addi c0_i32_134 v184
  let v182 : BitVec 32 := Scalar.addi c0_i32_134 v181
  let c1_i32_138 : BitVec 32 := 1#32
  ⟨v185, v182, c1_i32_138⟩

def k2_chk16 (v172 : IVec S16 32) (v179 : BitVec 32) : Prop :=
  ((k2_t25_loop v179).OK) ∧
  (∀ k2_t25 : Fin (k2_t25_loop v179).trips, ∀ a x, ((![v172] : Fin 1 → IVec S16 32) a x).toNat < S10000.size a) ∧
  (∀ k2_t25 : Fin (k2_t25_loop v179).trips, ∀ a x, ((![v172] : Fin 1 → IVec S16 32) a x).toNat < S10000.size a) ∧
  ((k2_t26_loop v179).OK) ∧
  (∀ k2_t26 : Fin (k2_t26_loop v179).trips, ∀ a x, ((![v172] : Fin 1 → IVec S16 32) a x).toNat < S10000.size a) ∧
  (∀ k2_t26 : Fin (k2_t26_loop v179).trips, ∀ a x, ((![v172] : Fin 1 → IVec S16 32) a x).toNat < S10000.size a)
theorem k2_t25_ok : ∀ (v172 : IVec S16 32) (v179 : BitVec 32) (k2_hw16 : k2_chk16 v172 v179), (k2_t25_loop v179).OK := fun v172 v179 k2_hw16 => k2_hw16.1
theorem k2_idx45_inb : ∀ (v172 : IVec S16 32) (v179 : BitVec 32) (k2_hw16 : k2_chk16 v172 v179) (k2_t25 : Fin (k2_t25_loop v179).trips), ∀ a x, ((![v172] : Fin 1 → IVec S16 32) a x).toNat < S10000.size a := fun v172 v179 k2_hw16 k2_t25 => k2_hw16.2.1 k2_t25
theorem k2_idx46_inb : ∀ (v172 : IVec S16 32) (v179 : BitVec 32) (k2_hw16 : k2_chk16 v172 v179) (k2_t25 : Fin (k2_t25_loop v179).trips), ∀ a x, ((![v172] : Fin 1 → IVec S16 32) a x).toNat < S10000.size a := fun v172 v179 k2_hw16 k2_t25 => k2_hw16.2.2.1 k2_t25
theorem k2_t26_ok : ∀ (v172 : IVec S16 32) (v179 : BitVec 32) (k2_hw16 : k2_chk16 v172 v179), (k2_t26_loop v179).OK := fun v172 v179 k2_hw16 => k2_hw16.2.2.2.1
theorem k2_idx47_inb : ∀ (v172 : IVec S16 32) (v179 : BitVec 32) (k2_hw16 : k2_chk16 v172 v179) (k2_t26 : Fin (k2_t26_loop v179).trips), ∀ a x, ((![v172] : Fin 1 → IVec S16 32) a x).toNat < S10000.size a := fun v172 v179 k2_hw16 k2_t26 => k2_hw16.2.2.2.2.1 k2_t26
theorem k2_idx48_inb : ∀ (v172 : IVec S16 32) (v179 : BitVec 32) (k2_hw16 : k2_chk16 v172 v179) (k2_t26 : Fin (k2_t26_loop v179).trips), ∀ a x, ((![v172] : Fin 1 → IVec S16 32) a x).toNat < S10000.size a := fun v172 v179 k2_hw16 k2_t26 => k2_hw16.2.2.2.2.2 k2_t26
@[reducible] def k2_t27_loop (i : grid2.Coords) : Scf.Loop 32 :=
  let c0_i32_5 : BitVec 32 := 0#32
  let c78_i32 : BitVec 32 := 78#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c4_i32 : BitVec 32 := 4#32
  let v7 : BitVec 1 := Scalar.cmpi .slt v1 c4_i32
  let c1_i32_3 : BitVec 32 := 1#32
  let c0_i32_4 : BitVec 32 := 0#32
  let v8 : BitVec 32 := Scalar.select v7 c1_i32_3 c0_i32_4
  let v9 : BitVec 32 := Scalar.addi c78_i32 v8
  let v10 : BitVec 32 := Scalar.subi v9 c0_i32_5
  let c1_i32_7 : BitVec 32 := 1#32
  let v12 : BitVec 32 := Scalar.divsi v10 c1_i32_7
  let v13 : BitVec 32 := Scalar.muli v12 c1_i32_7
  let v14 : BitVec 32 := Scalar.addi c0_i32_5 v13
  let v11 : BitVec 32 := Scalar.addi c0_i32_5 v10
  let c1_i32_9 : BitVec 32 := 1#32
  ⟨v14, v11, c1_i32_9⟩
def k2_off4 (i : grid2.Coords) (k2_t27 : Fin (k2_t27_loop i).trips) : Fin 1 → Nat :=
  let c0_i32_5 : BitVec 32 := 0#32
  let c78_i32 : BitVec 32 := 78#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c4_i32 : BitVec 32 := 4#32
  let v7 : BitVec 1 := Scalar.cmpi .slt v1 c4_i32
  let c1_i32_3 : BitVec 32 := 1#32
  let c0_i32_4 : BitVec 32 := 0#32
  let v8 : BitVec 32 := Scalar.select v7 c1_i32_3 c0_i32_4
  let v9 : BitVec 32 := Scalar.addi c78_i32 v8
  let v10 : BitVec 32 := Scalar.subi v9 c0_i32_5
  let c1_i32_7 : BitVec 32 := 1#32
  let v12 : BitVec 32 := Scalar.divsi v10 c1_i32_7
  let v13 : BitVec 32 := Scalar.muli v12 c1_i32_7
  let v14 : BitVec 32 := Scalar.addi c0_i32_5 v13
  let c1_i32_9 : BitVec 32 := 1#32
  let arg13 : BitVec 32 := Scf.iv v14 c1_i32_9 k2_t27
  let c32_i32 : BitVec 32 := 32#32
  let v20 : BitVec 32 := Scalar.muli arg13 c32_i32
  let v21 : BitVec 32 := Scalar.addi v20 v1
  let c128_i32 : BitVec 32 := 128#32
  let v22 : BitVec 32 := Scalar.muli v21 c128_i32
  ![v22.toNat]
def k2_off5 (i : grid2.Coords) (k2_t27 : Fin (k2_t27_loop i).trips) : Fin 1 → Nat :=
  let c320000_i32 : BitVec 32 := 320000#32
  let c0_i32_5 : BitVec 32 := 0#32
  let c78_i32 : BitVec 32 := 78#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c4_i32 : BitVec 32 := 4#32
  let v7 : BitVec 1 := Scalar.cmpi .slt v1 c4_i32
  let c1_i32_3 : BitVec 32 := 1#32
  let c0_i32_4 : BitVec 32 := 0#32
  let v8 : BitVec 32 := Scalar.select v7 c1_i32_3 c0_i32_4
  let v9 : BitVec 32 := Scalar.addi c78_i32 v8
  let v10 : BitVec 32 := Scalar.subi v9 c0_i32_5
  let c1_i32_7 : BitVec 32 := 1#32
  let v12 : BitVec 32 := Scalar.divsi v10 c1_i32_7
  let v13 : BitVec 32 := Scalar.muli v12 c1_i32_7
  let v14 : BitVec 32 := Scalar.addi c0_i32_5 v13
  let c1_i32_9 : BitVec 32 := 1#32
  let arg13 : BitVec 32 := Scf.iv v14 c1_i32_9 k2_t27
  let c32_i32 : BitVec 32 := 32#32
  let v20 : BitVec 32 := Scalar.muli arg13 c32_i32
  let v21 : BitVec 32 := Scalar.addi v20 v1
  let c128_i32 : BitVec 32 := 128#32
  let v22 : BitVec 32 := Scalar.muli v21 c128_i32
  let v23 : BitVec 32 := Scalar.addi c320000_i32 v22
  ![v23.toNat]
@[reducible] def k2_t28_loop : Scf.Loop 32 :=
  let c0_i32_21 : BitVec 32 := 0#32
  let c128_i32_22 : BitVec 32 := 128#32
  let v30 : BitVec 32 := Scalar.addi c0_i32_21 c128_i32_22
  let c1_i32_23 : BitVec 32 := 1#32
  ⟨c0_i32_21, v30, c1_i32_23⟩

def k2_chk17 (i : grid2.Coords) (k2_t27 : Fin (k2_t27_loop i).trips) (v29 : IVec S16 32) (v188 : IVec S16 32) : Prop :=
  (∀ a x, ((![v29, v188] : Fin 2 → IVec S16 32) a x).toNat < S128x128.size a) ∧
  (∀ a x, ((![v29, v188] : Fin 2 → IVec S16 32) a x).toNat < S128x128.size a)
theorem k2_idx49_inb : ∀ (i : grid2.Coords) (k2_t27 : Fin (k2_t27_loop i).trips) (v29 : IVec S16 32) (v188 : IVec S16 32) (k2_hw17 : k2_chk17 i k2_t27 v29 v188), ∀ a x, ((![v29, v188] : Fin 2 → IVec S16 32) a x).toNat < S128x128.size a := fun i k2_t27 v29 v188 k2_hw17 => k2_hw17.1
theorem k2_idx50_inb : ∀ (i : grid2.Coords) (k2_t27 : Fin (k2_t27_loop i).trips) (v29 : IVec S16 32) (v188 : IVec S16 32) (k2_hw17 : k2_chk17 i k2_t27 v29 v188), ∀ a x, ((![v29, v188] : Fin 2 → IVec S16 32) a x).toNat < S128x128.size a := fun i k2_t27 v29 v188 k2_hw17 => k2_hw17.2
@[reducible] def k2_t29_loop (v39 : BitVec 32) : Scf.Loop 32 :=
  let c0_i32_27 : BitVec 32 := 0#32
  let c1_i32_26 : BitVec 32 := 1#32
  let v40 : BitVec 32 := Scalar.addi v39 c1_i32_26
  let v41 : BitVec 32 := Scalar.subi v40 c0_i32_27
  let c1_i32_29 : BitVec 32 := 1#32
  let v43 : BitVec 32 := Scalar.divsi v41 c1_i32_29
  let v44 : BitVec 32 := Scalar.muli v43 c1_i32_29
  let v45 : BitVec 32 := Scalar.addi c0_i32_27 v44
  let c1_i32_30 : BitVec 32 := 1#32
  ⟨c0_i32_27, v45, c1_i32_30⟩

@[reducible] def k2_t30_loop (v39 : BitVec 32) : Scf.Loop 32 :=
  let c0_i32_27 : BitVec 32 := 0#32
  let c1_i32_26 : BitVec 32 := 1#32
  let v40 : BitVec 32 := Scalar.addi v39 c1_i32_26
  let v41 : BitVec 32 := Scalar.subi v40 c0_i32_27
  let c1_i32_29 : BitVec 32 := 1#32
  let v43 : BitVec 32 := Scalar.divsi v41 c1_i32_29
  let v44 : BitVec 32 := Scalar.muli v43 c1_i32_29
  let v45 : BitVec 32 := Scalar.addi c0_i32_27 v44
  let v42 : BitVec 32 := Scalar.addi c0_i32_27 v41
  let c1_i32_31 : BitVec 32 := 1#32
  ⟨v45, v42, c1_i32_31⟩

def k2_chk18 (i : grid2.Coords) (k2_t27 : Fin (k2_t27_loop i).trips) (v32 : IVec S16 32) (v39 : BitVec 32) : Prop :=
  ((k2_t29_loop v39).OK) ∧
  (∀ k2_t29 : Fin (k2_t29_loop v39).trips, ∀ a x, ((![v32] : Fin 1 → IVec S16 32) a x).toNat < S10000.size a) ∧
  (∀ k2_t29 : Fin (k2_t29_loop v39).trips, ∀ a x, ((![v32] : Fin 1 → IVec S16 32) a x).toNat < S10000.size a) ∧
  ((k2_t30_loop v39).OK) ∧
  (∀ k2_t30 : Fin (k2_t30_loop v39).trips, ∀ a x, ((![v32] : Fin 1 → IVec S16 32) a x).toNat < S10000.size a) ∧
  (∀ k2_t30 : Fin (k2_t30_loop v39).trips, ∀ a x, ((![v32] : Fin 1 → IVec S16 32) a x).toNat < S10000.size a)
theorem k2_t29_ok : ∀ (i : grid2.Coords) (k2_t27 : Fin (k2_t27_loop i).trips) (v32 : IVec S16 32) (v39 : BitVec 32) (k2_hw18 : k2_chk18 i k2_t27 v32 v39), (k2_t29_loop v39).OK := fun i k2_t27 v32 v39 k2_hw18 => k2_hw18.1
theorem k2_idx51_inb : ∀ (i : grid2.Coords) (k2_t27 : Fin (k2_t27_loop i).trips) (v32 : IVec S16 32) (v39 : BitVec 32) (k2_hw18 : k2_chk18 i k2_t27 v32 v39) (k2_t29 : Fin (k2_t29_loop v39).trips), ∀ a x, ((![v32] : Fin 1 → IVec S16 32) a x).toNat < S10000.size a := fun i k2_t27 v32 v39 k2_hw18 k2_t29 => k2_hw18.2.1 k2_t29
theorem k2_idx52_inb : ∀ (i : grid2.Coords) (k2_t27 : Fin (k2_t27_loop i).trips) (v32 : IVec S16 32) (v39 : BitVec 32) (k2_hw18 : k2_chk18 i k2_t27 v32 v39) (k2_t29 : Fin (k2_t29_loop v39).trips), ∀ a x, ((![v32] : Fin 1 → IVec S16 32) a x).toNat < S10000.size a := fun i k2_t27 v32 v39 k2_hw18 k2_t29 => k2_hw18.2.2.1 k2_t29
theorem k2_t30_ok : ∀ (i : grid2.Coords) (k2_t27 : Fin (k2_t27_loop i).trips) (v32 : IVec S16 32) (v39 : BitVec 32) (k2_hw18 : k2_chk18 i k2_t27 v32 v39), (k2_t30_loop v39).OK := fun i k2_t27 v32 v39 k2_hw18 => k2_hw18.2.2.2.1
theorem k2_idx53_inb : ∀ (i : grid2.Coords) (k2_t27 : Fin (k2_t27_loop i).trips) (v32 : IVec S16 32) (v39 : BitVec 32) (k2_hw18 : k2_chk18 i k2_t27 v32 v39) (k2_t30 : Fin (k2_t30_loop v39).trips), ∀ a x, ((![v32] : Fin 1 → IVec S16 32) a x).toNat < S10000.size a := fun i k2_t27 v32 v39 k2_hw18 k2_t30 => k2_hw18.2.2.2.2.1 k2_t30
theorem k2_idx54_inb : ∀ (i : grid2.Coords) (k2_t27 : Fin (k2_t27_loop i).trips) (v32 : IVec S16 32) (v39 : BitVec 32) (k2_hw18 : k2_chk18 i k2_t27 v32 v39) (k2_t30 : Fin (k2_t30_loop v39).trips), ∀ a x, ((![v32] : Fin 1 → IVec S16 32) a x).toNat < S10000.size a := fun i k2_t27 v32 v39 k2_hw18 k2_t30 => k2_hw18.2.2.2.2.2 k2_t30
@[reducible] def k2_t31_loop : Scf.Loop 32 :=
  let c0_i32_33 : BitVec 32 := 0#32
  let c128_i32_34 : BitVec 32 := 128#32
  let v50 : BitVec 32 := Scalar.addi c0_i32_33 c128_i32_34
  let c1_i32_35 : BitVec 32 := 1#32
  ⟨c0_i32_33, v50, c1_i32_35⟩

def k2_chk19 (i : grid2.Coords) (k2_t27 : Fin (k2_t27_loop i).trips) (v49 : IVec S16 32) (v188 : IVec S16 32) : Prop :=
  (∀ a x, ((![v49, v188] : Fin 2 → IVec S16 32) a x).toNat < S128x128.size a) ∧
  (∀ a x, ((![v49, v188] : Fin 2 → IVec S16 32) a x).toNat < S128x128.size a)
theorem k2_idx55_inb : ∀ (i : grid2.Coords) (k2_t27 : Fin (k2_t27_loop i).trips) (v49 : IVec S16 32) (v188 : IVec S16 32) (k2_hw19 : k2_chk19 i k2_t27 v49 v188), ∀ a x, ((![v49, v188] : Fin 2 → IVec S16 32) a x).toNat < S128x128.size a := fun i k2_t27 v49 v188 k2_hw19 => k2_hw19.1
theorem k2_idx56_inb : ∀ (i : grid2.Coords) (k2_t27 : Fin (k2_t27_loop i).trips) (v49 : IVec S16 32) (v188 : IVec S16 32) (k2_hw19 : k2_chk19 i k2_t27 v49 v188), ∀ a x, ((![v49, v188] : Fin 2 → IVec S16 32) a x).toNat < S128x128.size a := fun i k2_t27 v49 v188 k2_hw19 => k2_hw19.2
@[reducible] def k2_t32_loop (v59 : BitVec 32) : Scf.Loop 32 :=
  let c0_i32_43 : BitVec 32 := 0#32
  let c1_i32_42 : BitVec 32 := 1#32
  let v60 : BitVec 32 := Scalar.addi v59 c1_i32_42
  let v61 : BitVec 32 := Scalar.subi v60 c0_i32_43
  let c1_i32_45 : BitVec 32 := 1#32
  let v63 : BitVec 32 := Scalar.divsi v61 c1_i32_45
  let v64 : BitVec 32 := Scalar.muli v63 c1_i32_45
  let v65 : BitVec 32 := Scalar.addi c0_i32_43 v64
  let c1_i32_46 : BitVec 32 := 1#32
  ⟨c0_i32_43, v65, c1_i32_46⟩

@[reducible] def k2_t33_loop (v59 : BitVec 32) : Scf.Loop 32 :=
  let c0_i32_43 : BitVec 32 := 0#32
  let c1_i32_42 : BitVec 32 := 1#32
  let v60 : BitVec 32 := Scalar.addi v59 c1_i32_42
  let v61 : BitVec 32 := Scalar.subi v60 c0_i32_43
  let c1_i32_45 : BitVec 32 := 1#32
  let v63 : BitVec 32 := Scalar.divsi v61 c1_i32_45
  let v64 : BitVec 32 := Scalar.muli v63 c1_i32_45
  let v65 : BitVec 32 := Scalar.addi c0_i32_43 v64
  let v62 : BitVec 32 := Scalar.addi c0_i32_43 v61
  let c1_i32_47 : BitVec 32 := 1#32
  ⟨v65, v62, c1_i32_47⟩

def k2_chk20 (i : grid2.Coords) (k2_t27 : Fin (k2_t27_loop i).trips) (v52 : IVec S16 32) (v59 : BitVec 32) : Prop :=
  ((k2_t32_loop v59).OK) ∧
  (∀ k2_t32 : Fin (k2_t32_loop v59).trips, ∀ a x, ((![v52] : Fin 1 → IVec S16 32) a x).toNat < S10000.size a) ∧
  (∀ k2_t32 : Fin (k2_t32_loop v59).trips, ∀ a x, ((![v52] : Fin 1 → IVec S16 32) a x).toNat < S10000.size a) ∧
  ((k2_t33_loop v59).OK) ∧
  (∀ k2_t33 : Fin (k2_t33_loop v59).trips, ∀ a x, ((![v52] : Fin 1 → IVec S16 32) a x).toNat < S10000.size a) ∧
  (∀ k2_t33 : Fin (k2_t33_loop v59).trips, ∀ a x, ((![v52] : Fin 1 → IVec S16 32) a x).toNat < S10000.size a)
theorem k2_t32_ok : ∀ (i : grid2.Coords) (k2_t27 : Fin (k2_t27_loop i).trips) (v52 : IVec S16 32) (v59 : BitVec 32) (k2_hw20 : k2_chk20 i k2_t27 v52 v59), (k2_t32_loop v59).OK := fun i k2_t27 v52 v59 k2_hw20 => k2_hw20.1
theorem k2_idx57_inb : ∀ (i : grid2.Coords) (k2_t27 : Fin (k2_t27_loop i).trips) (v52 : IVec S16 32) (v59 : BitVec 32) (k2_hw20 : k2_chk20 i k2_t27 v52 v59) (k2_t32 : Fin (k2_t32_loop v59).trips), ∀ a x, ((![v52] : Fin 1 → IVec S16 32) a x).toNat < S10000.size a := fun i k2_t27 v52 v59 k2_hw20 k2_t32 => k2_hw20.2.1 k2_t32
theorem k2_idx58_inb : ∀ (i : grid2.Coords) (k2_t27 : Fin (k2_t27_loop i).trips) (v52 : IVec S16 32) (v59 : BitVec 32) (k2_hw20 : k2_chk20 i k2_t27 v52 v59) (k2_t32 : Fin (k2_t32_loop v59).trips), ∀ a x, ((![v52] : Fin 1 → IVec S16 32) a x).toNat < S10000.size a := fun i k2_t27 v52 v59 k2_hw20 k2_t32 => k2_hw20.2.2.1 k2_t32
theorem k2_t33_ok : ∀ (i : grid2.Coords) (k2_t27 : Fin (k2_t27_loop i).trips) (v52 : IVec S16 32) (v59 : BitVec 32) (k2_hw20 : k2_chk20 i k2_t27 v52 v59), (k2_t33_loop v59).OK := fun i k2_t27 v52 v59 k2_hw20 => k2_hw20.2.2.2.1
theorem k2_idx59_inb : ∀ (i : grid2.Coords) (k2_t27 : Fin (k2_t27_loop i).trips) (v52 : IVec S16 32) (v59 : BitVec 32) (k2_hw20 : k2_chk20 i k2_t27 v52 v59) (k2_t33 : Fin (k2_t33_loop v59).trips), ∀ a x, ((![v52] : Fin 1 → IVec S16 32) a x).toNat < S10000.size a := fun i k2_t27 v52 v59 k2_hw20 k2_t33 => k2_hw20.2.2.2.2.1 k2_t33
theorem k2_idx60_inb : ∀ (i : grid2.Coords) (k2_t27 : Fin (k2_t27_loop i).trips) (v52 : IVec S16 32) (v59 : BitVec 32) (k2_hw20 : k2_chk20 i k2_t27 v52 v59) (k2_t33 : Fin (k2_t33_loop v59).trips), ∀ a x, ((![v52] : Fin 1 → IVec S16 32) a x).toNat < S10000.size a := fun i k2_t27 v52 v59 k2_hw20 k2_t33 => k2_hw20.2.2.2.2.2 k2_t33
@[reducible] def k2_t34_loop : Scf.Loop 32 :=
  let c0_i32_49 : BitVec 32 := 0#32
  let c128_i32_50 : BitVec 32 := 128#32
  let v70 : BitVec 32 := Scalar.addi c0_i32_49 c128_i32_50
  let c1_i32_51 : BitVec 32 := 1#32
  ⟨c0_i32_49, v70, c1_i32_51⟩

def k2_chk21 (i : grid2.Coords) (k2_t27 : Fin (k2_t27_loop i).trips) (v69 : IVec S16 32) (v188 : IVec S16 32) : Prop :=
  (∀ a x, ((![v69, v188] : Fin 2 → IVec S16 32) a x).toNat < S128x128.size a) ∧
  (∀ a x, ((![v69, v188] : Fin 2 → IVec S16 32) a x).toNat < S128x128.size a)
theorem k2_idx61_inb : ∀ (i : grid2.Coords) (k2_t27 : Fin (k2_t27_loop i).trips) (v69 : IVec S16 32) (v188 : IVec S16 32) (k2_hw21 : k2_chk21 i k2_t27 v69 v188), ∀ a x, ((![v69, v188] : Fin 2 → IVec S16 32) a x).toNat < S128x128.size a := fun i k2_t27 v69 v188 k2_hw21 => k2_hw21.1
theorem k2_idx62_inb : ∀ (i : grid2.Coords) (k2_t27 : Fin (k2_t27_loop i).trips) (v69 : IVec S16 32) (v188 : IVec S16 32) (k2_hw21 : k2_chk21 i k2_t27 v69 v188), ∀ a x, ((![v69, v188] : Fin 2 → IVec S16 32) a x).toNat < S128x128.size a := fun i k2_t27 v69 v188 k2_hw21 => k2_hw21.2
@[reducible] def k2_t35_loop (v79 : BitVec 32) : Scf.Loop 32 :=
  let c0_i32_59 : BitVec 32 := 0#32
  let c1_i32_58 : BitVec 32 := 1#32
  let v80 : BitVec 32 := Scalar.addi v79 c1_i32_58
  let v81 : BitVec 32 := Scalar.subi v80 c0_i32_59
  let c1_i32_61 : BitVec 32 := 1#32
  let v83 : BitVec 32 := Scalar.divsi v81 c1_i32_61
  let v84 : BitVec 32 := Scalar.muli v83 c1_i32_61
  let v85 : BitVec 32 := Scalar.addi c0_i32_59 v84
  let c1_i32_62 : BitVec 32 := 1#32
  ⟨c0_i32_59, v85, c1_i32_62⟩

@[reducible] def k2_t36_loop (v79 : BitVec 32) : Scf.Loop 32 :=
  let c0_i32_59 : BitVec 32 := 0#32
  let c1_i32_58 : BitVec 32 := 1#32
  let v80 : BitVec 32 := Scalar.addi v79 c1_i32_58
  let v81 : BitVec 32 := Scalar.subi v80 c0_i32_59
  let c1_i32_61 : BitVec 32 := 1#32
  let v83 : BitVec 32 := Scalar.divsi v81 c1_i32_61
  let v84 : BitVec 32 := Scalar.muli v83 c1_i32_61
  let v85 : BitVec 32 := Scalar.addi c0_i32_59 v84
  let v82 : BitVec 32 := Scalar.addi c0_i32_59 v81
  let c1_i32_63 : BitVec 32 := 1#32
  ⟨v85, v82, c1_i32_63⟩

def k2_chk22 (i : grid2.Coords) (k2_t27 : Fin (k2_t27_loop i).trips) (v72 : IVec S16 32) (v79 : BitVec 32) : Prop :=
  ((k2_t35_loop v79).OK) ∧
  (∀ k2_t35 : Fin (k2_t35_loop v79).trips, ∀ a x, ((![v72] : Fin 1 → IVec S16 32) a x).toNat < S10000.size a) ∧
  (∀ k2_t35 : Fin (k2_t35_loop v79).trips, ∀ a x, ((![v72] : Fin 1 → IVec S16 32) a x).toNat < S10000.size a) ∧
  ((k2_t36_loop v79).OK) ∧
  (∀ k2_t36 : Fin (k2_t36_loop v79).trips, ∀ a x, ((![v72] : Fin 1 → IVec S16 32) a x).toNat < S10000.size a) ∧
  (∀ k2_t36 : Fin (k2_t36_loop v79).trips, ∀ a x, ((![v72] : Fin 1 → IVec S16 32) a x).toNat < S10000.size a)
theorem k2_t35_ok : ∀ (i : grid2.Coords) (k2_t27 : Fin (k2_t27_loop i).trips) (v72 : IVec S16 32) (v79 : BitVec 32) (k2_hw22 : k2_chk22 i k2_t27 v72 v79), (k2_t35_loop v79).OK := fun i k2_t27 v72 v79 k2_hw22 => k2_hw22.1
theorem k2_idx63_inb : ∀ (i : grid2.Coords) (k2_t27 : Fin (k2_t27_loop i).trips) (v72 : IVec S16 32) (v79 : BitVec 32) (k2_hw22 : k2_chk22 i k2_t27 v72 v79) (k2_t35 : Fin (k2_t35_loop v79).trips), ∀ a x, ((![v72] : Fin 1 → IVec S16 32) a x).toNat < S10000.size a := fun i k2_t27 v72 v79 k2_hw22 k2_t35 => k2_hw22.2.1 k2_t35
theorem k2_idx64_inb : ∀ (i : grid2.Coords) (k2_t27 : Fin (k2_t27_loop i).trips) (v72 : IVec S16 32) (v79 : BitVec 32) (k2_hw22 : k2_chk22 i k2_t27 v72 v79) (k2_t35 : Fin (k2_t35_loop v79).trips), ∀ a x, ((![v72] : Fin 1 → IVec S16 32) a x).toNat < S10000.size a := fun i k2_t27 v72 v79 k2_hw22 k2_t35 => k2_hw22.2.2.1 k2_t35
theorem k2_t36_ok : ∀ (i : grid2.Coords) (k2_t27 : Fin (k2_t27_loop i).trips) (v72 : IVec S16 32) (v79 : BitVec 32) (k2_hw22 : k2_chk22 i k2_t27 v72 v79), (k2_t36_loop v79).OK := fun i k2_t27 v72 v79 k2_hw22 => k2_hw22.2.2.2.1
theorem k2_idx65_inb : ∀ (i : grid2.Coords) (k2_t27 : Fin (k2_t27_loop i).trips) (v72 : IVec S16 32) (v79 : BitVec 32) (k2_hw22 : k2_chk22 i k2_t27 v72 v79) (k2_t36 : Fin (k2_t36_loop v79).trips), ∀ a x, ((![v72] : Fin 1 → IVec S16 32) a x).toNat < S10000.size a := fun i k2_t27 v72 v79 k2_hw22 k2_t36 => k2_hw22.2.2.2.2.1 k2_t36
theorem k2_idx66_inb : ∀ (i : grid2.Coords) (k2_t27 : Fin (k2_t27_loop i).trips) (v72 : IVec S16 32) (v79 : BitVec 32) (k2_hw22 : k2_chk22 i k2_t27 v72 v79) (k2_t36 : Fin (k2_t36_loop v79).trips), ∀ a x, ((![v72] : Fin 1 → IVec S16 32) a x).toNat < S10000.size a := fun i k2_t27 v72 v79 k2_hw22 k2_t36 => k2_hw22.2.2.2.2.2 k2_t36
@[reducible] def k2_t37_loop : Scf.Loop 32 :=
  let c0_i32_64 : BitVec 32 := 0#32
  let c128_i32_65 : BitVec 32 := 128#32
  let v90 : BitVec 32 := Scalar.addi c0_i32_64 c128_i32_65
  let c1_i32_66 : BitVec 32 := 1#32
  ⟨c0_i32_64, v90, c1_i32_66⟩

def k2_chk23 (i : grid2.Coords) (k2_t27 : Fin (k2_t27_loop i).trips) (v89 : IVec S16 32) (v188 : IVec S16 32) : Prop :=
  (∀ a x, ((![v89, v188] : Fin 2 → IVec S16 32) a x).toNat < S128x128.size a) ∧
  (∀ a x, ((![v89, v188] : Fin 2 → IVec S16 32) a x).toNat < S128x128.size a)
theorem k2_idx67_inb : ∀ (i : grid2.Coords) (k2_t27 : Fin (k2_t27_loop i).trips) (v89 : IVec S16 32) (v188 : IVec S16 32) (k2_hw23 : k2_chk23 i k2_t27 v89 v188), ∀ a x, ((![v89, v188] : Fin 2 → IVec S16 32) a x).toNat < S128x128.size a := fun i k2_t27 v89 v188 k2_hw23 => k2_hw23.1
theorem k2_idx68_inb : ∀ (i : grid2.Coords) (k2_t27 : Fin (k2_t27_loop i).trips) (v89 : IVec S16 32) (v188 : IVec S16 32) (k2_hw23 : k2_chk23 i k2_t27 v89 v188), ∀ a x, ((![v89, v188] : Fin 2 → IVec S16 32) a x).toNat < S128x128.size a := fun i k2_t27 v89 v188 k2_hw23 => k2_hw23.2
@[reducible] def k2_t38_loop (v99 : BitVec 32) : Scf.Loop 32 :=
  let c0_i32_74 : BitVec 32 := 0#32
  let c1_i32_73 : BitVec 32 := 1#32
  let v100 : BitVec 32 := Scalar.addi v99 c1_i32_73
  let v101 : BitVec 32 := Scalar.subi v100 c0_i32_74
  let c1_i32_76 : BitVec 32 := 1#32
  let v103 : BitVec 32 := Scalar.divsi v101 c1_i32_76
  let v104 : BitVec 32 := Scalar.muli v103 c1_i32_76
  let v105 : BitVec 32 := Scalar.addi c0_i32_74 v104
  let c1_i32_77 : BitVec 32 := 1#32
  ⟨c0_i32_74, v105, c1_i32_77⟩

@[reducible] def k2_t39_loop (v99 : BitVec 32) : Scf.Loop 32 :=
  let c0_i32_74 : BitVec 32 := 0#32
  let c1_i32_73 : BitVec 32 := 1#32
  let v100 : BitVec 32 := Scalar.addi v99 c1_i32_73
  let v101 : BitVec 32 := Scalar.subi v100 c0_i32_74
  let c1_i32_76 : BitVec 32 := 1#32
  let v103 : BitVec 32 := Scalar.divsi v101 c1_i32_76
  let v104 : BitVec 32 := Scalar.muli v103 c1_i32_76
  let v105 : BitVec 32 := Scalar.addi c0_i32_74 v104
  let v102 : BitVec 32 := Scalar.addi c0_i32_74 v101
  let c1_i32_78 : BitVec 32 := 1#32
  ⟨v105, v102, c1_i32_78⟩

def k2_chk24 (i : grid2.Coords) (k2_t27 : Fin (k2_t27_loop i).trips) (v92 : IVec S16 32) (v99 : BitVec 32) : Prop :=
  ((k2_t38_loop v99).OK) ∧
  (∀ k2_t38 : Fin (k2_t38_loop v99).trips, ∀ a x, ((![v92] : Fin 1 → IVec S16 32) a x).toNat < S10000.size a) ∧
  (∀ k2_t38 : Fin (k2_t38_loop v99).trips, ∀ a x, ((![v92] : Fin 1 → IVec S16 32) a x).toNat < S10000.size a) ∧
  ((k2_t39_loop v99).OK) ∧
  (∀ k2_t39 : Fin (k2_t39_loop v99).trips, ∀ a x, ((![v92] : Fin 1 → IVec S16 32) a x).toNat < S10000.size a) ∧
  (∀ k2_t39 : Fin (k2_t39_loop v99).trips, ∀ a x, ((![v92] : Fin 1 → IVec S16 32) a x).toNat < S10000.size a)
theorem k2_t38_ok : ∀ (i : grid2.Coords) (k2_t27 : Fin (k2_t27_loop i).trips) (v92 : IVec S16 32) (v99 : BitVec 32) (k2_hw24 : k2_chk24 i k2_t27 v92 v99), (k2_t38_loop v99).OK := fun i k2_t27 v92 v99 k2_hw24 => k2_hw24.1
theorem k2_idx69_inb : ∀ (i : grid2.Coords) (k2_t27 : Fin (k2_t27_loop i).trips) (v92 : IVec S16 32) (v99 : BitVec 32) (k2_hw24 : k2_chk24 i k2_t27 v92 v99) (k2_t38 : Fin (k2_t38_loop v99).trips), ∀ a x, ((![v92] : Fin 1 → IVec S16 32) a x).toNat < S10000.size a := fun i k2_t27 v92 v99 k2_hw24 k2_t38 => k2_hw24.2.1 k2_t38
theorem k2_idx70_inb : ∀ (i : grid2.Coords) (k2_t27 : Fin (k2_t27_loop i).trips) (v92 : IVec S16 32) (v99 : BitVec 32) (k2_hw24 : k2_chk24 i k2_t27 v92 v99) (k2_t38 : Fin (k2_t38_loop v99).trips), ∀ a x, ((![v92] : Fin 1 → IVec S16 32) a x).toNat < S10000.size a := fun i k2_t27 v92 v99 k2_hw24 k2_t38 => k2_hw24.2.2.1 k2_t38
theorem k2_t39_ok : ∀ (i : grid2.Coords) (k2_t27 : Fin (k2_t27_loop i).trips) (v92 : IVec S16 32) (v99 : BitVec 32) (k2_hw24 : k2_chk24 i k2_t27 v92 v99), (k2_t39_loop v99).OK := fun i k2_t27 v92 v99 k2_hw24 => k2_hw24.2.2.2.1
theorem k2_idx71_inb : ∀ (i : grid2.Coords) (k2_t27 : Fin (k2_t27_loop i).trips) (v92 : IVec S16 32) (v99 : BitVec 32) (k2_hw24 : k2_chk24 i k2_t27 v92 v99) (k2_t39 : Fin (k2_t39_loop v99).trips), ∀ a x, ((![v92] : Fin 1 → IVec S16 32) a x).toNat < S10000.size a := fun i k2_t27 v92 v99 k2_hw24 k2_t39 => k2_hw24.2.2.2.2.1 k2_t39
theorem k2_idx72_inb : ∀ (i : grid2.Coords) (k2_t27 : Fin (k2_t27_loop i).trips) (v92 : IVec S16 32) (v99 : BitVec 32) (k2_hw24 : k2_chk24 i k2_t27 v92 v99) (k2_t39 : Fin (k2_t39_loop v99).trips), ∀ a x, ((![v92] : Fin 1 → IVec S16 32) a x).toNat < S10000.size a := fun i k2_t27 v92 v99 k2_hw24 k2_t39 => k2_hw24.2.2.2.2.2 k2_t39
@[reducible] def k2_t40_loop : Scf.Loop 32 :=
  let c0_i32_79 : BitVec 32 := 0#32
  let c128_i32_80 : BitVec 32 := 128#32
  let v110 : BitVec 32 := Scalar.addi c0_i32_79 c128_i32_80
  let c1_i32_81 : BitVec 32 := 1#32
  ⟨c0_i32_79, v110, c1_i32_81⟩

def k2_chk25 (i : grid2.Coords) (k2_t27 : Fin (k2_t27_loop i).trips) (v109 : IVec S16 32) (v188 : IVec S16 32) : Prop :=
  (∀ a x, ((![v109, v188] : Fin 2 → IVec S16 32) a x).toNat < S128x128.size a) ∧
  (∀ a x, ((![v109, v188] : Fin 2 → IVec S16 32) a x).toNat < S128x128.size a)
theorem k2_idx73_inb : ∀ (i : grid2.Coords) (k2_t27 : Fin (k2_t27_loop i).trips) (v109 : IVec S16 32) (v188 : IVec S16 32) (k2_hw25 : k2_chk25 i k2_t27 v109 v188), ∀ a x, ((![v109, v188] : Fin 2 → IVec S16 32) a x).toNat < S128x128.size a := fun i k2_t27 v109 v188 k2_hw25 => k2_hw25.1
theorem k2_idx74_inb : ∀ (i : grid2.Coords) (k2_t27 : Fin (k2_t27_loop i).trips) (v109 : IVec S16 32) (v188 : IVec S16 32) (k2_hw25 : k2_chk25 i k2_t27 v109 v188), ∀ a x, ((![v109, v188] : Fin 2 → IVec S16 32) a x).toNat < S128x128.size a := fun i k2_t27 v109 v188 k2_hw25 => k2_hw25.2
@[reducible] def k2_t41_loop (v119 : BitVec 32) : Scf.Loop 32 :=
  let c0_i32_89 : BitVec 32 := 0#32
  let c1_i32_88 : BitVec 32 := 1#32
  let v120 : BitVec 32 := Scalar.addi v119 c1_i32_88
  let v121 : BitVec 32 := Scalar.subi v120 c0_i32_89
  let c1_i32_91 : BitVec 32 := 1#32
  let v123 : BitVec 32 := Scalar.divsi v121 c1_i32_91
  let v124 : BitVec 32 := Scalar.muli v123 c1_i32_91
  let v125 : BitVec 32 := Scalar.addi c0_i32_89 v124
  let c1_i32_92 : BitVec 32 := 1#32
  ⟨c0_i32_89, v125, c1_i32_92⟩

@[reducible] def k2_t42_loop (v119 : BitVec 32) : Scf.Loop 32 :=
  let c0_i32_89 : BitVec 32 := 0#32
  let c1_i32_88 : BitVec 32 := 1#32
  let v120 : BitVec 32 := Scalar.addi v119 c1_i32_88
  let v121 : BitVec 32 := Scalar.subi v120 c0_i32_89
  let c1_i32_91 : BitVec 32 := 1#32
  let v123 : BitVec 32 := Scalar.divsi v121 c1_i32_91
  let v124 : BitVec 32 := Scalar.muli v123 c1_i32_91
  let v125 : BitVec 32 := Scalar.addi c0_i32_89 v124
  let v122 : BitVec 32 := Scalar.addi c0_i32_89 v121
  let c1_i32_93 : BitVec 32 := 1#32
  ⟨v125, v122, c1_i32_93⟩

def k2_chk26 (i : grid2.Coords) (k2_t27 : Fin (k2_t27_loop i).trips) (v112 : IVec S16 32) (v119 : BitVec 32) : Prop :=
  ((k2_t41_loop v119).OK) ∧
  (∀ k2_t41 : Fin (k2_t41_loop v119).trips, ∀ a x, ((![v112] : Fin 1 → IVec S16 32) a x).toNat < S10000.size a) ∧
  (∀ k2_t41 : Fin (k2_t41_loop v119).trips, ∀ a x, ((![v112] : Fin 1 → IVec S16 32) a x).toNat < S10000.size a) ∧
  ((k2_t42_loop v119).OK) ∧
  (∀ k2_t42 : Fin (k2_t42_loop v119).trips, ∀ a x, ((![v112] : Fin 1 → IVec S16 32) a x).toNat < S10000.size a) ∧
  (∀ k2_t42 : Fin (k2_t42_loop v119).trips, ∀ a x, ((![v112] : Fin 1 → IVec S16 32) a x).toNat < S10000.size a)
theorem k2_t41_ok : ∀ (i : grid2.Coords) (k2_t27 : Fin (k2_t27_loop i).trips) (v112 : IVec S16 32) (v119 : BitVec 32) (k2_hw26 : k2_chk26 i k2_t27 v112 v119), (k2_t41_loop v119).OK := fun i k2_t27 v112 v119 k2_hw26 => k2_hw26.1
theorem k2_idx75_inb : ∀ (i : grid2.Coords) (k2_t27 : Fin (k2_t27_loop i).trips) (v112 : IVec S16 32) (v119 : BitVec 32) (k2_hw26 : k2_chk26 i k2_t27 v112 v119) (k2_t41 : Fin (k2_t41_loop v119).trips), ∀ a x, ((![v112] : Fin 1 → IVec S16 32) a x).toNat < S10000.size a := fun i k2_t27 v112 v119 k2_hw26 k2_t41 => k2_hw26.2.1 k2_t41
theorem k2_idx76_inb : ∀ (i : grid2.Coords) (k2_t27 : Fin (k2_t27_loop i).trips) (v112 : IVec S16 32) (v119 : BitVec 32) (k2_hw26 : k2_chk26 i k2_t27 v112 v119) (k2_t41 : Fin (k2_t41_loop v119).trips), ∀ a x, ((![v112] : Fin 1 → IVec S16 32) a x).toNat < S10000.size a := fun i k2_t27 v112 v119 k2_hw26 k2_t41 => k2_hw26.2.2.1 k2_t41
theorem k2_t42_ok : ∀ (i : grid2.Coords) (k2_t27 : Fin (k2_t27_loop i).trips) (v112 : IVec S16 32) (v119 : BitVec 32) (k2_hw26 : k2_chk26 i k2_t27 v112 v119), (k2_t42_loop v119).OK := fun i k2_t27 v112 v119 k2_hw26 => k2_hw26.2.2.2.1
theorem k2_idx77_inb : ∀ (i : grid2.Coords) (k2_t27 : Fin (k2_t27_loop i).trips) (v112 : IVec S16 32) (v119 : BitVec 32) (k2_hw26 : k2_chk26 i k2_t27 v112 v119) (k2_t42 : Fin (k2_t42_loop v119).trips), ∀ a x, ((![v112] : Fin 1 → IVec S16 32) a x).toNat < S10000.size a := fun i k2_t27 v112 v119 k2_hw26 k2_t42 => k2_hw26.2.2.2.2.1 k2_t42
theorem k2_idx78_inb : ∀ (i : grid2.Coords) (k2_t27 : Fin (k2_t27_loop i).trips) (v112 : IVec S16 32) (v119 : BitVec 32) (k2_hw26 : k2_chk26 i k2_t27 v112 v119) (k2_t42 : Fin (k2_t42_loop v119).trips), ∀ a x, ((![v112] : Fin 1 → IVec S16 32) a x).toNat < S10000.size a := fun i k2_t27 v112 v119 k2_hw26 k2_t42 => k2_hw26.2.2.2.2.2 k2_t42
@[reducible] def k2_t43_loop : Scf.Loop 32 :=
  let c0_i32_94 : BitVec 32 := 0#32
  let c128_i32_95 : BitVec 32 := 128#32
  let v130 : BitVec 32 := Scalar.addi c0_i32_94 c128_i32_95
  let c1_i32_96 : BitVec 32 := 1#32
  ⟨c0_i32_94, v130, c1_i32_96⟩

def k2_chk27 (i : grid2.Coords) (k2_t27 : Fin (k2_t27_loop i).trips) (v129 : IVec S16 32) (v188 : IVec S16 32) : Prop :=
  (∀ a x, ((![v129, v188] : Fin 2 → IVec S16 32) a x).toNat < S128x128.size a) ∧
  (∀ a x, ((![v129, v188] : Fin 2 → IVec S16 32) a x).toNat < S128x128.size a)
theorem k2_idx79_inb : ∀ (i : grid2.Coords) (k2_t27 : Fin (k2_t27_loop i).trips) (v129 : IVec S16 32) (v188 : IVec S16 32) (k2_hw27 : k2_chk27 i k2_t27 v129 v188), ∀ a x, ((![v129, v188] : Fin 2 → IVec S16 32) a x).toNat < S128x128.size a := fun i k2_t27 v129 v188 k2_hw27 => k2_hw27.1
theorem k2_idx80_inb : ∀ (i : grid2.Coords) (k2_t27 : Fin (k2_t27_loop i).trips) (v129 : IVec S16 32) (v188 : IVec S16 32) (k2_hw27 : k2_chk27 i k2_t27 v129 v188), ∀ a x, ((![v129, v188] : Fin 2 → IVec S16 32) a x).toNat < S128x128.size a := fun i k2_t27 v129 v188 k2_hw27 => k2_hw27.2
@[reducible] def k2_t44_loop (v139 : BitVec 32) : Scf.Loop 32 :=
  let c0_i32_104 : BitVec 32 := 0#32
  let c1_i32_103 : BitVec 32 := 1#32
  let v140 : BitVec 32 := Scalar.addi v139 c1_i32_103
  let v141 : BitVec 32 := Scalar.subi v140 c0_i32_104
  let c1_i32_106 : BitVec 32 := 1#32
  let v143 : BitVec 32 := Scalar.divsi v141 c1_i32_106
  let v144 : BitVec 32 := Scalar.muli v143 c1_i32_106
  let v145 : BitVec 32 := Scalar.addi c0_i32_104 v144
  let c1_i32_107 : BitVec 32 := 1#32
  ⟨c0_i32_104, v145, c1_i32_107⟩

@[reducible] def k2_t45_loop (v139 : BitVec 32) : Scf.Loop 32 :=
  let c0_i32_104 : BitVec 32 := 0#32
  let c1_i32_103 : BitVec 32 := 1#32
  let v140 : BitVec 32 := Scalar.addi v139 c1_i32_103
  let v141 : BitVec 32 := Scalar.subi v140 c0_i32_104
  let c1_i32_106 : BitVec 32 := 1#32
  let v143 : BitVec 32 := Scalar.divsi v141 c1_i32_106
  let v144 : BitVec 32 := Scalar.muli v143 c1_i32_106
  let v145 : BitVec 32 := Scalar.addi c0_i32_104 v144
  let v142 : BitVec 32 := Scalar.addi c0_i32_104 v141
  let c1_i32_108 : BitVec 32 := 1#32
  ⟨v145, v142, c1_i32_108⟩

def k2_chk28 (i : grid2.Coords) (k2_t27 : Fin (k2_t27_loop i).trips) (v132 : IVec S16 32) (v139 : BitVec 32) : Prop :=
  ((k2_t44_loop v139).OK) ∧
  (∀ k2_t44 : Fin (k2_t44_loop v139).trips, ∀ a x, ((![v132] : Fin 1 → IVec S16 32) a x).toNat < S10000.size a) ∧
  (∀ k2_t44 : Fin (k2_t44_loop v139).trips, ∀ a x, ((![v132] : Fin 1 → IVec S16 32) a x).toNat < S10000.size a) ∧
  ((k2_t45_loop v139).OK) ∧
  (∀ k2_t45 : Fin (k2_t45_loop v139).trips, ∀ a x, ((![v132] : Fin 1 → IVec S16 32) a x).toNat < S10000.size a) ∧
  (∀ k2_t45 : Fin (k2_t45_loop v139).trips, ∀ a x, ((![v132] : Fin 1 → IVec S16 32) a x).toNat < S10000.size a)
theorem k2_t44_ok : ∀ (i : grid2.Coords) (k2_t27 : Fin (k2_t27_loop i).trips) (v132 : IVec S16 32) (v139 : BitVec 32) (k2_hw28 : k2_chk28 i k2_t27 v132 v139), (k2_t44_loop v139).OK := fun i k2_t27 v132 v139 k2_hw28 => k2_hw28.1
theorem k2_idx81_inb : ∀ (i : grid2.Coords) (k2_t27 : Fin (k2_t27_loop i).trips) (v132 : IVec S16 32) (v139 : BitVec 32) (k2_hw28 : k2_chk28 i k2_t27 v132 v139) (k2_t44 : Fin (k2_t44_loop v139).trips), ∀ a x, ((![v132] : Fin 1 → IVec S16 32) a x).toNat < S10000.size a := fun i k2_t27 v132 v139 k2_hw28 k2_t44 => k2_hw28.2.1 k2_t44
theorem k2_idx82_inb : ∀ (i : grid2.Coords) (k2_t27 : Fin (k2_t27_loop i).trips) (v132 : IVec S16 32) (v139 : BitVec 32) (k2_hw28 : k2_chk28 i k2_t27 v132 v139) (k2_t44 : Fin (k2_t44_loop v139).trips), ∀ a x, ((![v132] : Fin 1 → IVec S16 32) a x).toNat < S10000.size a := fun i k2_t27 v132 v139 k2_hw28 k2_t44 => k2_hw28.2.2.1 k2_t44
theorem k2_t45_ok : ∀ (i : grid2.Coords) (k2_t27 : Fin (k2_t27_loop i).trips) (v132 : IVec S16 32) (v139 : BitVec 32) (k2_hw28 : k2_chk28 i k2_t27 v132 v139), (k2_t45_loop v139).OK := fun i k2_t27 v132 v139 k2_hw28 => k2_hw28.2.2.2.1
theorem k2_idx83_inb : ∀ (i : grid2.Coords) (k2_t27 : Fin (k2_t27_loop i).trips) (v132 : IVec S16 32) (v139 : BitVec 32) (k2_hw28 : k2_chk28 i k2_t27 v132 v139) (k2_t45 : Fin (k2_t45_loop v139).trips), ∀ a x, ((![v132] : Fin 1 → IVec S16 32) a x).toNat < S10000.size a := fun i k2_t27 v132 v139 k2_hw28 k2_t45 => k2_hw28.2.2.2.2.1 k2_t45
theorem k2_idx84_inb : ∀ (i : grid2.Coords) (k2_t27 : Fin (k2_t27_loop i).trips) (v132 : IVec S16 32) (v139 : BitVec 32) (k2_hw28 : k2_chk28 i k2_t27 v132 v139) (k2_t45 : Fin (k2_t45_loop v139).trips), ∀ a x, ((![v132] : Fin 1 → IVec S16 32) a x).toNat < S10000.size a := fun i k2_t27 v132 v139 k2_hw28 k2_t45 => k2_hw28.2.2.2.2.2 k2_t45
@[reducible] def k2_t46_loop : Scf.Loop 32 :=
  let c0_i32_109 : BitVec 32 := 0#32
  let c128_i32_110 : BitVec 32 := 128#32
  let v150 : BitVec 32 := Scalar.addi c0_i32_109 c128_i32_110
  let c1_i32_111 : BitVec 32 := 1#32
  ⟨c0_i32_109, v150, c1_i32_111⟩

def k2_chk29 (i : grid2.Coords) (k2_t27 : Fin (k2_t27_loop i).trips) (v149 : IVec S16 32) (v188 : IVec S16 32) : Prop :=
  (∀ a x, ((![v149, v188] : Fin 2 → IVec S16 32) a x).toNat < S128x128.size a) ∧
  (∀ a x, ((![v149, v188] : Fin 2 → IVec S16 32) a x).toNat < S128x128.size a)
theorem k2_idx85_inb : ∀ (i : grid2.Coords) (k2_t27 : Fin (k2_t27_loop i).trips) (v149 : IVec S16 32) (v188 : IVec S16 32) (k2_hw29 : k2_chk29 i k2_t27 v149 v188), ∀ a x, ((![v149, v188] : Fin 2 → IVec S16 32) a x).toNat < S128x128.size a := fun i k2_t27 v149 v188 k2_hw29 => k2_hw29.1
theorem k2_idx86_inb : ∀ (i : grid2.Coords) (k2_t27 : Fin (k2_t27_loop i).trips) (v149 : IVec S16 32) (v188 : IVec S16 32) (k2_hw29 : k2_chk29 i k2_t27 v149 v188), ∀ a x, ((![v149, v188] : Fin 2 → IVec S16 32) a x).toNat < S128x128.size a := fun i k2_t27 v149 v188 k2_hw29 => k2_hw29.2
@[reducible] def k2_t47_loop (v159 : BitVec 32) : Scf.Loop 32 :=
  let c0_i32_119 : BitVec 32 := 0#32
  let c1_i32_118 : BitVec 32 := 1#32
  let v160 : BitVec 32 := Scalar.addi v159 c1_i32_118
  let v161 : BitVec 32 := Scalar.subi v160 c0_i32_119
  let c1_i32_121 : BitVec 32 := 1#32
  let v163 : BitVec 32 := Scalar.divsi v161 c1_i32_121
  let v164 : BitVec 32 := Scalar.muli v163 c1_i32_121
  let v165 : BitVec 32 := Scalar.addi c0_i32_119 v164
  let c1_i32_122 : BitVec 32 := 1#32
  ⟨c0_i32_119, v165, c1_i32_122⟩

@[reducible] def k2_t48_loop (v159 : BitVec 32) : Scf.Loop 32 :=
  let c0_i32_119 : BitVec 32 := 0#32
  let c1_i32_118 : BitVec 32 := 1#32
  let v160 : BitVec 32 := Scalar.addi v159 c1_i32_118
  let v161 : BitVec 32 := Scalar.subi v160 c0_i32_119
  let c1_i32_121 : BitVec 32 := 1#32
  let v163 : BitVec 32 := Scalar.divsi v161 c1_i32_121
  let v164 : BitVec 32 := Scalar.muli v163 c1_i32_121
  let v165 : BitVec 32 := Scalar.addi c0_i32_119 v164
  let v162 : BitVec 32 := Scalar.addi c0_i32_119 v161
  let c1_i32_123 : BitVec 32 := 1#32
  ⟨v165, v162, c1_i32_123⟩

def k2_chk30 (i : grid2.Coords) (k2_t27 : Fin (k2_t27_loop i).trips) (v152 : IVec S16 32) (v159 : BitVec 32) : Prop :=
  ((k2_t47_loop v159).OK) ∧
  (∀ k2_t47 : Fin (k2_t47_loop v159).trips, ∀ a x, ((![v152] : Fin 1 → IVec S16 32) a x).toNat < S10000.size a) ∧
  (∀ k2_t47 : Fin (k2_t47_loop v159).trips, ∀ a x, ((![v152] : Fin 1 → IVec S16 32) a x).toNat < S10000.size a) ∧
  ((k2_t48_loop v159).OK) ∧
  (∀ k2_t48 : Fin (k2_t48_loop v159).trips, ∀ a x, ((![v152] : Fin 1 → IVec S16 32) a x).toNat < S10000.size a) ∧
  (∀ k2_t48 : Fin (k2_t48_loop v159).trips, ∀ a x, ((![v152] : Fin 1 → IVec S16 32) a x).toNat < S10000.size a)
theorem k2_t47_ok : ∀ (i : grid2.Coords) (k2_t27 : Fin (k2_t27_loop i).trips) (v152 : IVec S16 32) (v159 : BitVec 32) (k2_hw30 : k2_chk30 i k2_t27 v152 v159), (k2_t47_loop v159).OK := fun i k2_t27 v152 v159 k2_hw30 => k2_hw30.1
theorem k2_idx87_inb : ∀ (i : grid2.Coords) (k2_t27 : Fin (k2_t27_loop i).trips) (v152 : IVec S16 32) (v159 : BitVec 32) (k2_hw30 : k2_chk30 i k2_t27 v152 v159) (k2_t47 : Fin (k2_t47_loop v159).trips), ∀ a x, ((![v152] : Fin 1 → IVec S16 32) a x).toNat < S10000.size a := fun i k2_t27 v152 v159 k2_hw30 k2_t47 => k2_hw30.2.1 k2_t47
theorem k2_idx88_inb : ∀ (i : grid2.Coords) (k2_t27 : Fin (k2_t27_loop i).trips) (v152 : IVec S16 32) (v159 : BitVec 32) (k2_hw30 : k2_chk30 i k2_t27 v152 v159) (k2_t47 : Fin (k2_t47_loop v159).trips), ∀ a x, ((![v152] : Fin 1 → IVec S16 32) a x).toNat < S10000.size a := fun i k2_t27 v152 v159 k2_hw30 k2_t47 => k2_hw30.2.2.1 k2_t47
theorem k2_t48_ok : ∀ (i : grid2.Coords) (k2_t27 : Fin (k2_t27_loop i).trips) (v152 : IVec S16 32) (v159 : BitVec 32) (k2_hw30 : k2_chk30 i k2_t27 v152 v159), (k2_t48_loop v159).OK := fun i k2_t27 v152 v159 k2_hw30 => k2_hw30.2.2.2.1
theorem k2_idx89_inb : ∀ (i : grid2.Coords) (k2_t27 : Fin (k2_t27_loop i).trips) (v152 : IVec S16 32) (v159 : BitVec 32) (k2_hw30 : k2_chk30 i k2_t27 v152 v159) (k2_t48 : Fin (k2_t48_loop v159).trips), ∀ a x, ((![v152] : Fin 1 → IVec S16 32) a x).toNat < S10000.size a := fun i k2_t27 v152 v159 k2_hw30 k2_t48 => k2_hw30.2.2.2.2.1 k2_t48
theorem k2_idx90_inb : ∀ (i : grid2.Coords) (k2_t27 : Fin (k2_t27_loop i).trips) (v152 : IVec S16 32) (v159 : BitVec 32) (k2_hw30 : k2_chk30 i k2_t27 v152 v159) (k2_t48 : Fin (k2_t48_loop v159).trips), ∀ a x, ((![v152] : Fin 1 → IVec S16 32) a x).toNat < S10000.size a := fun i k2_t27 v152 v159 k2_hw30 k2_t48 => k2_hw30.2.2.2.2.2 k2_t48
@[reducible] def k2_t49_loop : Scf.Loop 32 :=
  let c0_i32_124 : BitVec 32 := 0#32
  let c128_i32_125 : BitVec 32 := 128#32
  let v170 : BitVec 32 := Scalar.addi c0_i32_124 c128_i32_125
  let c1_i32_126 : BitVec 32 := 1#32
  ⟨c0_i32_124, v170, c1_i32_126⟩

def k2_chk31 (i : grid2.Coords) (k2_t27 : Fin (k2_t27_loop i).trips) (v169 : IVec S16 32) (v188 : IVec S16 32) : Prop :=
  (∀ a x, ((![v169, v188] : Fin 2 → IVec S16 32) a x).toNat < S128x128.size a) ∧
  (∀ a x, ((![v169, v188] : Fin 2 → IVec S16 32) a x).toNat < S128x128.size a)
theorem k2_idx91_inb : ∀ (i : grid2.Coords) (k2_t27 : Fin (k2_t27_loop i).trips) (v169 : IVec S16 32) (v188 : IVec S16 32) (k2_hw31 : k2_chk31 i k2_t27 v169 v188), ∀ a x, ((![v169, v188] : Fin 2 → IVec S16 32) a x).toNat < S128x128.size a := fun i k2_t27 v169 v188 k2_hw31 => k2_hw31.1
theorem k2_idx92_inb : ∀ (i : grid2.Coords) (k2_t27 : Fin (k2_t27_loop i).trips) (v169 : IVec S16 32) (v188 : IVec S16 32) (k2_hw31 : k2_chk31 i k2_t27 v169 v188), ∀ a x, ((![v169, v188] : Fin 2 → IVec S16 32) a x).toNat < S128x128.size a := fun i k2_t27 v169 v188 k2_hw31 => k2_hw31.2
@[reducible] def k2_t50_loop (v179 : BitVec 32) : Scf.Loop 32 :=
  let c0_i32_134 : BitVec 32 := 0#32
  let c1_i32_133 : BitVec 32 := 1#32
  let v180 : BitVec 32 := Scalar.addi v179 c1_i32_133
  let v181 : BitVec 32 := Scalar.subi v180 c0_i32_134
  let c1_i32_136 : BitVec 32 := 1#32
  let v183 : BitVec 32 := Scalar.divsi v181 c1_i32_136
  let v184 : BitVec 32 := Scalar.muli v183 c1_i32_136
  let v185 : BitVec 32 := Scalar.addi c0_i32_134 v184
  let c1_i32_137 : BitVec 32 := 1#32
  ⟨c0_i32_134, v185, c1_i32_137⟩

@[reducible] def k2_t51_loop (v179 : BitVec 32) : Scf.Loop 32 :=
  let c0_i32_134 : BitVec 32 := 0#32
  let c1_i32_133 : BitVec 32 := 1#32
  let v180 : BitVec 32 := Scalar.addi v179 c1_i32_133
  let v181 : BitVec 32 := Scalar.subi v180 c0_i32_134
  let c1_i32_136 : BitVec 32 := 1#32
  let v183 : BitVec 32 := Scalar.divsi v181 c1_i32_136
  let v184 : BitVec 32 := Scalar.muli v183 c1_i32_136
  let v185 : BitVec 32 := Scalar.addi c0_i32_134 v184
  let v182 : BitVec 32 := Scalar.addi c0_i32_134 v181
  let c1_i32_138 : BitVec 32 := 1#32
  ⟨v185, v182, c1_i32_138⟩

def k2_chk32 (i : grid2.Coords) (k2_t27 : Fin (k2_t27_loop i).trips) (v172 : IVec S16 32) (v179 : BitVec 32) : Prop :=
  ((k2_t50_loop v179).OK) ∧
  (∀ k2_t50 : Fin (k2_t50_loop v179).trips, ∀ a x, ((![v172] : Fin 1 → IVec S16 32) a x).toNat < S10000.size a) ∧
  (∀ k2_t50 : Fin (k2_t50_loop v179).trips, ∀ a x, ((![v172] : Fin 1 → IVec S16 32) a x).toNat < S10000.size a) ∧
  ((k2_t51_loop v179).OK) ∧
  (∀ k2_t51 : Fin (k2_t51_loop v179).trips, ∀ a x, ((![v172] : Fin 1 → IVec S16 32) a x).toNat < S10000.size a) ∧
  (∀ k2_t51 : Fin (k2_t51_loop v179).trips, ∀ a x, ((![v172] : Fin 1 → IVec S16 32) a x).toNat < S10000.size a)
theorem k2_t50_ok : ∀ (i : grid2.Coords) (k2_t27 : Fin (k2_t27_loop i).trips) (v172 : IVec S16 32) (v179 : BitVec 32) (k2_hw32 : k2_chk32 i k2_t27 v172 v179), (k2_t50_loop v179).OK := fun i k2_t27 v172 v179 k2_hw32 => k2_hw32.1
theorem k2_idx93_inb : ∀ (i : grid2.Coords) (k2_t27 : Fin (k2_t27_loop i).trips) (v172 : IVec S16 32) (v179 : BitVec 32) (k2_hw32 : k2_chk32 i k2_t27 v172 v179) (k2_t50 : Fin (k2_t50_loop v179).trips), ∀ a x, ((![v172] : Fin 1 → IVec S16 32) a x).toNat < S10000.size a := fun i k2_t27 v172 v179 k2_hw32 k2_t50 => k2_hw32.2.1 k2_t50
theorem k2_idx94_inb : ∀ (i : grid2.Coords) (k2_t27 : Fin (k2_t27_loop i).trips) (v172 : IVec S16 32) (v179 : BitVec 32) (k2_hw32 : k2_chk32 i k2_t27 v172 v179) (k2_t50 : Fin (k2_t50_loop v179).trips), ∀ a x, ((![v172] : Fin 1 → IVec S16 32) a x).toNat < S10000.size a := fun i k2_t27 v172 v179 k2_hw32 k2_t50 => k2_hw32.2.2.1 k2_t50
theorem k2_t51_ok : ∀ (i : grid2.Coords) (k2_t27 : Fin (k2_t27_loop i).trips) (v172 : IVec S16 32) (v179 : BitVec 32) (k2_hw32 : k2_chk32 i k2_t27 v172 v179), (k2_t51_loop v179).OK := fun i k2_t27 v172 v179 k2_hw32 => k2_hw32.2.2.2.1
theorem k2_idx95_inb : ∀ (i : grid2.Coords) (k2_t27 : Fin (k2_t27_loop i).trips) (v172 : IVec S16 32) (v179 : BitVec 32) (k2_hw32 : k2_chk32 i k2_t27 v172 v179) (k2_t51 : Fin (k2_t51_loop v179).trips), ∀ a x, ((![v172] : Fin 1 → IVec S16 32) a x).toNat < S10000.size a := fun i k2_t27 v172 v179 k2_hw32 k2_t51 => k2_hw32.2.2.2.2.1 k2_t51
theorem k2_idx96_inb : ∀ (i : grid2.Coords) (k2_t27 : Fin (k2_t27_loop i).trips) (v172 : IVec S16 32) (v179 : BitVec 32) (k2_hw32 : k2_chk32 i k2_t27 v172 v179) (k2_t51 : Fin (k2_t51_loop v179).trips), ∀ a x, ((![v172] : Fin 1 → IVec S16 32) a x).toNat < S10000.size a := fun i k2_t27 v172 v179 k2_hw32 k2_t51 => k2_hw32.2.2.2.2.2 k2_t51
def k2_off6 (i : grid2.Coords) : Fin 2 → Nat :=
  let c2_i32 : BitVec 32 := 2#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let v17 : BitVec 32 := Scalar.muli c2_i32 v1
  let c0_i32_12_r4 : BitVec 32 := 0#32
  ![v17.toNat, 0]
def k2_off7 (i : grid2.Coords) : Fin 2 → Nat :=
  let c2_i32_10 : BitVec 32 := 2#32
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let v18 : BitVec 32 := Scalar.muli c2_i32_10 v1
  let c1_i32_11 : BitVec 32 := 1#32
  let v19 : BitVec 32 := Scalar.addi v18 c1_i32_11
  let c0_i32_12_r5 : BitVec 32 := 0#32
  ![v19.toNat, 0]
abbrev grid3 : Pipeline.Grid := ⟨1, ![5], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![c0_i32.toNat, arg0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2048x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S64x2048 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S8x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S2048x128 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== KernelIdeal.lean ====
variable {F : FTy → Type} [FloatOps F] [Named F]
def κ : String → Option EReal := fun
  | "mask" => some ⊥
  | _ => none
-- ==== ReferenceIdeal.lean ====
abbrev S10000x128 : Shape := ⟨2, ![10000, 128]⟩
abbrev S2x320000 : Shape := ⟨2, ![2, 320000]⟩
abbrev S1x128 : Shape := ⟨2, ![1, 128]⟩
abbrev S1x1x128 : Shape := ⟨3, ![1, 1, 128]⟩
abbrev S128x128 : Shape := ⟨2, ![128, 128]⟩
abbrev S128 : Shape := ⟨1, ![128]⟩
abbrev S1x320000 : Shape := ⟨2, ![1, 320000]⟩
abbrev S320000 : Shape := ⟨1, ![320000]⟩
abbrev S_ : Shape := ⟨0, ![]⟩
abbrev S10000 : Shape := ⟨1, ![10000]⟩
abbrev S10000x1 : Shape := ⟨2, ![10000, 1]⟩
abbrev S320000x1 : Shape := ⟨2, ![320000, 1]⟩
abbrev S320000x128 : Shape := ⟨2, ![320000, 128]⟩
abbrev S10000x1x128 : Shape := ⟨3, ![10000, 1, 128]⟩
abbrev S10000x3x128 : Shape := ⟨3, ![10000, 3, 128]⟩
abbrev S10000x4x128 : Shape := ⟨3, ![10000, 4, 128]⟩
abbrev S10000x4 : Shape := ⟨2, ![10000, 4]⟩
abbrev S10000x128x4 : Shape := ⟨3, ![10000, 128, 4]⟩
abbrev S10000x4x4 : Shape := ⟨3, ![10000, 4, 4]⟩
abbrev S10000x1x4 : Shape := ⟨3, ![10000, 1, 4]⟩
abbrev S10000x4x1 : Shape := ⟨3, ![10000, 4, 1]⟩

abbrev nBuf : Space → Nat
  | .hbm => 153
  | .vmem => 0
  | .smem => 0
  | _ => 0

abbrev hbmTy0_0 (i : Nat) : BufTy := match i % 128 with
  | 0 => ⟨S10000x128, .f32⟩
  | 1 => ⟨S2x320000, .i32⟩
  | 2 => ⟨S1x128, .f32⟩
  | 3 => ⟨S1x128, .f32⟩
  | 4 => ⟨S1x128, .f32⟩
  | 5 => ⟨S1x1x128, .f32⟩
  | 6 => ⟨S128x128, .f32⟩
  | 7 => ⟨S128, .f32⟩
  | 8 => ⟨S128x128, .f32⟩
  | 9 => ⟨S128, .f32⟩
  | 10 => ⟨S128x128, .f32⟩
  | 11 => ⟨S128, .f32⟩
  | 12 => ⟨S128x128, .f32⟩
  | 13 => ⟨S128, .f32⟩
  | 14 => ⟨S1x320000, .i32⟩
  | 15 => ⟨S320000, .i32⟩
  | 16 => ⟨S1x320000, .i32⟩
  | 17 => ⟨S320000, .i32⟩
  | 18 => ⟨S10000x128, .f32⟩
  | 19 => ⟨S_, .f32⟩
  | 20 => ⟨S10000, .f32⟩
  | 21 => ⟨S10000, .f32⟩
  | 22 => ⟨S10000x1, .f32⟩
  | 23 => ⟨S10000x128, .f32⟩
  | 24 => ⟨S10000x128, .f32⟩
  | 25 => ⟨S_, .i32⟩
  | 26 => ⟨S320000, .i32⟩
  | 27 => ⟨S320000, .i1⟩
  | 28 => ⟨S_, .i32⟩
  | 29 => ⟨S320000, .i32⟩
  | 30 => ⟨S320000, .i32⟩
  | 31 => ⟨S320000, .i32⟩
  | 32 => ⟨S320000x1, .i32⟩
  | 33 => ⟨S320000x128, .f32⟩
  | 34 => ⟨S_, .i32⟩
  | 35 => ⟨S320000, .i32⟩
  | 36 => ⟨S320000, .i1⟩
  | 37 => ⟨S_, .i32⟩
  | 38 => ⟨S320000, .i32⟩
  | 39 => ⟨S320000, .i32⟩
  | 40 => ⟨S320000, .i32⟩
  | 41 => ⟨S320000x1, .i32⟩
  | 42 => ⟨S320000x128, .f32⟩
  | 43 => ⟨S320000x128, .f32⟩
  | 44 => ⟨S_, .f32⟩
  | 45 => ⟨S320000, .f32⟩
  | 46 => ⟨S_, .f32⟩
  | 47 => ⟨S10000, .f32⟩
  | 48 => ⟨S_, .i32⟩
  | 49 => ⟨S320000, .i32⟩
  | 50 => ⟨S320000, .i1⟩
  | 51 => ⟨S_, .i32⟩
  | 52 => ⟨S320000, .i32⟩
  | 53 => ⟨S320000, .i32⟩
  | 54 => ⟨S320000, .i32⟩
  | 55 => ⟨S320000x1, .i32⟩
  | 56 => ⟨S10000, .f32⟩
  | 57 => ⟨S_, .f32⟩
  | 58 => ⟨S10000, .f32⟩
  | 59 => ⟨S_, .f32⟩
  | 60 => ⟨S320000, .f32⟩
  | 61 => ⟨S_, .i32⟩
  | 62 => ⟨S320000, .i32⟩
  | 63 => ⟨S320000, .i1⟩
  | 64 => ⟨S_, .i32⟩
  | 65 => ⟨S320000, .i32⟩
  | 66 => ⟨S320000, .i32⟩
  | 67 => ⟨S320000, .i32⟩
  | 68 => ⟨S320000x1, .i32⟩
  | 69 => ⟨S10000, .f32⟩
  | 70 => ⟨S10000, .f32⟩
  | 71 => ⟨S_, .f32⟩
  | 72 => ⟨S10000, .f32⟩
  | 73 => ⟨S10000, .i1⟩
  | 74 => ⟨S_, .f32⟩
  | 75 => ⟨S10000, .f32⟩
  | 76 => ⟨S10000, .i1⟩
  | 77 => ⟨S10000, .i1⟩
  | 78 => ⟨S10000, .i1⟩
  | 79 => ⟨S_, .f32⟩
  | 80 => ⟨S10000x128, .f32⟩
  | 81 => ⟨S10000x1, .i1⟩
  | 82 => ⟨S10000x128, .i1⟩
  | 83 => ⟨S10000x128, .f32⟩
  | 84 => ⟨S10000x128, .f32⟩
  | 85 => ⟨S10000x1, .i1⟩
  | 86 => ⟨S10000x128, .i1⟩
  | 87 => ⟨S10000x128, .f32⟩
  | 88 => ⟨S10000x128, .f32⟩
  | 89 => ⟨S10000x1, .i1⟩
  | 90 => ⟨S10000x128, .i1⟩
  | 91 => ⟨S10000x128, .f32⟩
  | 92 => ⟨S10000x128, .f32⟩
  | 93 => ⟨S10000x1x128, .f32⟩
  | 94 => ⟨S10000x1x128, .f32⟩
  | 95 => ⟨S10000x1x128, .f32⟩
  | 96 => ⟨S10000x3x128, .f32⟩
  | 97 => ⟨S10000x1x128, .f32⟩
  | 98 => ⟨S10000x4x128, .f32⟩
  | 99 => ⟨S_, .f32⟩
  | 100 => ⟨S10000x4x128, .f32⟩
  | 101 => ⟨S10000x4x128, .i1⟩
  | 102 => ⟨S_, .i1⟩
  | 103 => ⟨S10000x4, .i1⟩
  | 104 => ⟨S128x128, .f32⟩
  | 105 => ⟨S10000x4x128, .f32⟩
  | 106 => ⟨S1x1x128, .f32⟩
  | 107 => ⟨S10000x4x128, .f32⟩
  | 108 => ⟨S10000x4x128, .f32⟩
  | 109 => ⟨S128x128, .f32⟩
  | 110 => ⟨S10000x4x128, .f32⟩
  | 111 => ⟨S1x1x128, .f32⟩
  | 112 => ⟨S10000x4x128, .f32⟩
  | 113 => ⟨S10000x4x128, .f32⟩
  | 114 => ⟨S128x128, .f32⟩
  | 115 => ⟨S10000x4x128, .f32⟩
  | 116 => ⟨S1x1x128, .f32⟩
  | 117 => ⟨S10000x4x128, .f32⟩
  | 118 => ⟨S10000x4x128, .f32⟩
  | 119 => ⟨S10000x128x4, .f32⟩
  | 120 => ⟨S10000x4x4, .f32⟩
  | 121 => ⟨S_, .f32⟩
  | 122 => ⟨S_, .f32⟩
  | 123 => ⟨S10000x4x4, .f32⟩
  | 124 => ⟨S10000x4x4, .f32⟩
  | 125 => ⟨S10000x1x4, .i1⟩
  | 126 => ⟨S_, .f32⟩
  | 127 => ⟨S10000x4x4, .i1⟩
  | _ => ⟨S10000x128, .f32⟩

abbrev hbmTy0_1 (i : Nat) : BufTy := match i % 128 with
  | 0 => ⟨S10000x4x4, .f32⟩
  | 1 => ⟨S10000x4x4, .f32⟩
  | 2 => ⟨S_, .f32⟩
  | 3 => ⟨S10000x4, .f32⟩
  | 4 => ⟨S_, .f32⟩
  | 5 => ⟨S10000x4, .f32⟩
  | 6 => ⟨S10000x4, .f32⟩
  | 7 => ⟨S10000x4x1, .f32⟩
  | 8 => ⟨S10000x4x4, .f32⟩
  | 9 => ⟨S10000x4x4, .f32⟩
  | 10 => ⟨S10000x4x4, .f32⟩
  | 11 => ⟨S_, .f32⟩
  | 12 => ⟨S10000x4, .f32⟩
  | 13 => ⟨S10000x4x1, .f32⟩
  | 14 => ⟨S10000x4x4, .f32⟩
  | 15 => ⟨S10000x4x4, .f32⟩
  | 16 => ⟨S10000x4x128, .f32⟩
  | 17 => ⟨S128x128, .f32⟩
  | 18 => ⟨S10000x4x128, .f32⟩
  | 19 => ⟨S1x1x128, .f32⟩
  | 20 => ⟨S10000x4x128, .f32⟩
  | 21 => ⟨S10000x4x128, .f32⟩
  | 22 => ⟨S10000x1x128, .f32⟩
  | 23 => ⟨S10000x128, .f32⟩
  | 24 => ⟨S10000x128, .f32⟩
  | _ => ⟨S10000x128, .f32⟩

abbrev hbmTy (i : Nat) : BufTy := match i / 128 with
  | 0 => hbmTy0_0 i
  | 1 => hbmTy0_1 i
  | _ => ⟨S10000x128, .f32⟩

abbrev bufTy : (tb : Table) → Fin (tcTables nBuf tb) → BufTy
  | .hbm, ⟨i, _⟩ => hbmTy i
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_cst : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_c : Ref sig .tc := ⟨.hbm, 25, rfl⟩
abbrev main_v10 : Ref sig .tc := ⟨.hbm, 26, rfl⟩
abbrev main_v11 : Ref sig .tc := ⟨.hbm, 27, rfl⟩
abbrev main_c_0 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_c_1 : Ref sig .tc := ⟨.hbm, 34, rfl⟩
abbrev main_v17 : Ref sig .tc := ⟨.hbm, 35, rfl⟩
abbrev main_v18 : Ref sig .tc := ⟨.hbm, 36, rfl⟩
abbrev main_c_2 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_cst_3 : Ref sig .tc := ⟨.hbm, 44, rfl⟩
abbrev main_v25 : Ref sig .tc := ⟨.hbm, 45, rfl⟩
abbrev main_cst_4 : Ref sig .tc := ⟨.hbm, 46, rfl⟩
abbrev main_v26 : Ref sig .tc := ⟨.hbm, 47, rfl⟩
abbrev main_c_5 : Ref sig .tc := ⟨.hbm, 48, rfl⟩
abbrev main_v27 : Ref sig .tc := ⟨.hbm, 49, rfl⟩
abbrev main_v28 : Ref sig .tc := ⟨.hbm, 50, rfl⟩
abbrev main_c_6 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_cst_7 : Ref sig .tc := ⟨.hbm, 57, rfl⟩
abbrev main_v34 : Ref sig .tc := ⟨.hbm, 58, rfl⟩
abbrev main_cst_8 : Ref sig .tc := ⟨.hbm, 59, rfl⟩
abbrev main_v35 : Ref sig .tc := ⟨.hbm, 60, rfl⟩
abbrev main_c_9 : Ref sig .tc := ⟨.hbm, 61, rfl⟩
abbrev main_v36 : Ref sig .tc := ⟨.hbm, 62, rfl⟩
abbrev main_v37 : Ref sig .tc := ⟨.hbm, 63, rfl⟩
abbrev main_c_10 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_cst_11 : Ref sig .tc := ⟨.hbm, 71, rfl⟩
abbrev main_v44 : Ref sig .tc := ⟨.hbm, 72, rfl⟩
abbrev main_v45 : Ref sig .tc := ⟨.hbm, 73, rfl⟩
abbrev main_cst_12 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_cst_13 : Ref sig .tc := ⟨.hbm, 79, rfl⟩
abbrev main_v50 : Ref sig .tc := ⟨.hbm, 80, rfl⟩
abbrev main_v51 : Ref sig .tc := ⟨.hbm, 81, rfl⟩
abbrev main_call0_v0 : Ref sig .tc := ⟨.hbm, 82, rfl⟩
abbrev main_call0_v1 : Ref sig .tc := ⟨.hbm, 83, rfl⟩
abbrev main_v52 : Ref sig .tc := ⟨.hbm, 84, rfl⟩
abbrev main_v53 : Ref sig .tc := ⟨.hbm, 85, rfl⟩
abbrev main_call1_v0 : Ref sig .tc := ⟨.hbm, 86, rfl⟩
abbrev main_call1_v1 : Ref sig .tc := ⟨.hbm, 87, rfl⟩
abbrev main_v54 : Ref sig .tc := ⟨.hbm, 88, rfl⟩
abbrev main_v55 : Ref sig .tc := ⟨.hbm, 89, rfl⟩
abbrev main_call2_v0 : Ref sig .tc := ⟨.hbm, 90, rfl⟩
abbrev main_call2_v1 : Ref sig .tc := ⟨.hbm, 91, rfl⟩
abbrev main_v56 : Ref sig .tc := ⟨.hbm, 92, rfl⟩
abbrev main_v57 : Ref sig .tc := ⟨.hbm, 93, rfl⟩
abbrev main_v58 : Ref sig .tc := ⟨.hbm, 94, rfl⟩
abbrev main_v59 : Ref sig .tc := ⟨.hbm, 95, rfl⟩
abbrev main_v60 : Ref sig .tc := ⟨.hbm, 96, rfl⟩
abbrev main_v61 : Ref sig .tc := ⟨.hbm, 97, rfl⟩
abbrev main_v62 : Ref sig .tc := ⟨.hbm, 98, rfl⟩
abbrev main_cst_14 : Ref sig .tc := ⟨.hbm, 99, rfl⟩
abbrev main_v63 : Ref sig .tc := ⟨.hbm, 100, rfl⟩
abbrev main_v64 : Ref sig .tc := ⟨.hbm, 101, rfl⟩
abbrev main_c_15 : Ref sig .tc := ⟨.hbm, 102, rfl⟩
abbrev main_v65 : Ref sig .tc := ⟨.hbm, 103, rfl⟩
abbrev main_v66 : Ref sig .tc := ⟨.hbm, 104, rfl⟩
abbrev main_v67 : Ref sig .tc := ⟨.hbm, 105, rfl⟩
abbrev main_v68 : Ref sig .tc := ⟨.hbm, 106, rfl⟩
abbrev main_v69 : Ref sig .tc := ⟨.hbm, 107, rfl⟩
abbrev main_v70 : Ref sig .tc := ⟨.hbm, 108, rfl⟩
abbrev main_v71 : Ref sig .tc := ⟨.hbm, 109, rfl⟩
abbrev main_v72 : Ref sig .tc := ⟨.hbm, 110, rfl⟩
abbrev main_v73 : Ref sig .tc := ⟨.hbm, 111, rfl⟩
abbrev main_v74 : Ref sig .tc := ⟨.hbm, 112, rfl⟩
abbrev main_v75 : Ref sig .tc := ⟨.hbm, 113, rfl⟩
abbrev main_v76 : Ref sig .tc := ⟨.hbm, 114, rfl⟩
abbrev main_v77 : Ref sig .tc := ⟨.hbm, 115, rfl⟩
abbrev main_v78 : Ref sig .tc := ⟨.hbm, 116, rfl⟩
abbrev main_v79 : Ref sig .tc := ⟨.hbm, 117, rfl⟩
abbrev main_v80 : Ref sig .tc := ⟨.hbm, 118, rfl⟩
abbrev main_v81 : Ref sig .tc := ⟨.hbm, 119, rfl⟩
abbrev main_v82 : Ref sig .tc := ⟨.hbm, 120, rfl⟩
abbrev main_cst_16 : Ref sig .tc := ⟨.hbm, 121, rfl⟩
abbrev main_v83 : Ref sig .tc := ⟨.hbm, 122, rfl⟩
abbrev main_v84 : Ref sig .tc := ⟨.hbm, 123, rfl⟩
abbrev main_v85 : Ref sig .tc := ⟨.hbm, 124, rfl⟩
abbrev main_v86 : Ref sig .tc := ⟨.hbm, 125, rfl⟩
abbrev main_cst_17 : Ref sig .tc := ⟨.hbm, 126, rfl⟩
abbrev main_call3_v0 : Ref sig .tc := ⟨.hbm, 127, rfl⟩
abbrev main_call3_v1 : Ref sig .tc := ⟨.hbm, 128, rfl⟩
abbrev main_v87 : Ref sig .tc := ⟨.hbm, 129, rfl⟩
abbrev main_cst_18 : Ref sig .tc := ⟨.hbm, 130, rfl⟩
abbrev main_v88 : Ref sig .tc := ⟨.hbm, 131, rfl⟩
abbrev main_cst_19 : Ref sig .tc := ⟨.hbm, 132, rfl⟩
abbrev main_v89 : Ref sig .tc := ⟨.hbm, 133, rfl⟩
abbrev main_v90 : Ref sig .tc := ⟨.hbm, 134, rfl⟩
abbrev main_v91 : Ref sig .tc := ⟨.hbm, 135, rfl⟩
abbrev main_v92 : Ref sig .tc := ⟨.hbm, 136, rfl⟩
abbrev main_v93 : Ref sig .tc := ⟨.hbm, 137, rfl⟩
abbrev main_v94 : Ref sig .tc := ⟨.hbm, 138, rfl⟩
abbrev main_cst_20 : Ref sig .tc := ⟨.hbm, 139, rfl⟩
abbrev main_v95 : Ref sig .tc := ⟨.hbm, 140, rfl⟩
abbrev main_v96 : Ref sig .tc := ⟨.hbm, 141, rfl⟩
abbrev main_v97 : Ref sig .tc := ⟨.hbm, 142, rfl⟩
abbrev main_v98 : Ref sig .tc := ⟨.hbm, 143, rfl⟩
abbrev main_v99 : Ref sig .tc := ⟨.hbm, 144, rfl⟩
abbrev main_v100 : Ref sig .tc := ⟨.hbm, 145, rfl⟩
abbrev main_v101 : Ref sig .tc := ⟨.hbm, 146, rfl⟩
abbrev main_v102 : Ref sig .tc := ⟨.hbm, 147, rfl⟩
abbrev main_v103 : Ref sig .tc := ⟨.hbm, 148, rfl⟩
abbrev main_v104 : Ref sig .tc := ⟨.hbm, 149, rfl⟩
abbrev main_v105 : Ref sig .tc := ⟨.hbm, 150, rfl⟩
abbrev main_v106 : Ref sig .tc := ⟨.hbm, 151, rfl⟩
abbrev main_v107 : Ref sig .tc := ⟨.hbm, 152, rfl⟩

abbrev nD : Nat := 1
abbrev τ : Topo := Topo.v7x

variable {F : FTy → Type} [FloatOps F]
-- ==== Proof.Setup.lean ====
/-
  The program as the launch theorem sees it: its labels, its SparseCore configuration, the resource algebra (the launch
  handshakes' rounds, the transfers' counters), and the names of the buffers the SparseCore call works on.
-/
module

public import proofs.«01_k».proof.Defs
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Pipeline.Regions
public import Idealize.ShloMosaic.Lib.LoopRemainder
public import Idealize.ShloMosaic.Lib.Tactic
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points

@[expose] public section

noncomputable section

namespace Cert.Proof.K

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

abbrev ΛP : Labels := Pipeline.Sig Λ₀ (Fin 3) fun p => (pcfgs (F := F) p).Adm
abbrev K : SparseCore.Cfg τ sig (ΛP (F := F)) 1 := sc (F := F)
theorem nCore_zero : (K (F := F)).nCore 0 = 2 := rfl
theorem nSub_zero : (K (F := F)).nSub 0 = 16 := rfl
abbrev D [FloatOps F] [Named F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds, the pipelined calls' rounds, the transfers' counters -/

abbrev UH : Type := URounds (GSem nD τ sig) ℕ
abbrev UP : Type := URounds (GSem nD τ sig) Unit
abbrev UU : Type := UH × (UP × Counters)

abbrev EH : Emb UH (MT nD τ sig (HIx 1) (Elt F) ℕ UU ℕ) := embL

/-- The pipelined calls' rounds: the first factor of the second. -/
def EP : Emb UP (MT nD τ sig (HIx 1) (Elt F) ℕ UU ℕ) :=
  ((Emb.inl : Emb UP (UP × Counters)).trans (Emb.inr : Emb (UP × Counters) UU)).trans
    (uEmb (nD := nD) (sig := sig) (Ix := HIx 1) (Val := Elt F) (Name := ℕ) (U := UU) (Lvl := ℕ)).toEmb

instance EP_landsIn : (EP : Emb UP (MT nD τ sig (HIx 1) (Elt F) ℕ UU ℕ)).LandsIn (upEmb : UEmb _ (MT nD τ sig (HIx 1) (Elt F) ℕ UU ℕ)) := by
  unfold EP; infer_instance

/-! ## The tile's buffers, as its body addresses them -/

abbrev xnV : Memref sig .scVector .hbm S10000x128 .f32 := Memref.whole main_v0_scv
abbrev edV : Memref sig .scVector .hbm S640000 .i32 := Memref.whole main_v2_scv
abbrev paV : Memref sig .scVector .hbm S64x10000 .f32 := Memref.whole main_v3_scv
abbrev riV : Memref sig .scVector .vmem S128 .i32 := Memref.whole cc2_scratch0
abbrev ciV : Memref sig .scVector .vmem S128 .i32 := Memref.whole cc2_scratch1
abbrev rrV : Memref sig .scVector .vmem S128x128 .f32 := Memref.whole cc2_scratch2
abbrev crV : Memref sig .scVector .vmem S128x128 .f32 := Memref.whole cc2_scratch3
abbrev caV : Memref sig .scVector .vmem S10000 .f32 := Memref.whole cc2_scratch4
abbrev daV : Memref sig .scVector .vmem S10000 .f32 := Memref.whole cc2_scratch5

/-- The tile's processor. -/
abbrev cV (L : grid2.Coords) : Fin τ.nSC := (L 0).castLE hcore2
abbrev jV (L : grid2.Coords) : Fin τ.nSub := (L 1).castLE hsub2

/-- The tile's number: 16 tiles on SparseCore 0, then 16 on SparseCore 1. -/
abbrev tileNo (L : grid2.Coords) : ℕ := 16 * (L 0).val + (L 1).val

end Cert.Proof.K

end
-- ==== Proof.Region.lean ====
/-
  A TensorCore call of `@main`, as the launch proof meets it: one pipelined region entered from its windows' arrays and
  the TensorCore's state between SparseCore calls, left with the arrays written back and that state unchanged. Stated
  once for the three calls.
-/
module

public import proofs.«01_k».proof.Proof.Setup
public import Idealize.ShloMosaic.Lib.Pipeline.RegionArrays
public import Idealize.ShloMosaic.Lib.Pipeline.Value

@[expose] public section

noncomputable section

namespace Cert.Proof.K

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

local notation "𝕄" => MT nD τ sig (HIx 1) (Elt F) ℕ UU ℕ

/-- No call prefetches a table. -/
abbrev adm : (p : Fin 3) → (pcfgs (F := F) p).Adm := fun p => (cfgs p).toPCfg_adm

/-- The recorded waits a TensorCore may have behind it before SparseCore call `n`. -/
def below (n : ℕ) (d : Dev nD) : Set (SemLoc sig × HIx 1) :=
  {p | (K (F := F)).lev (SparseCore.T d, p.1) p.2 ≤ 8 * SparseCore.Cfg.Blocks.fst (Q := 1) (N := 1) n}

/-- The proof data of one call, on every device, meets what a region needs. -/
structure CallOK (n : ℕ) (p : Fin 3)
    (dats : (p : Fin 3) → (c : Dev nD) → Pipeline.Dat τ (Elt F) (HIx 1) ℕ UU ℕ (Pipeline.pin (pcfgs (F := F)) adm p) c) : Prop where
  kit : Pipeline.LaunchFacts (nD := nD) (τ := τ) cfgs p
  body : ∀ c, Pipeline.BodyObligationLoose (dats p c) (defs₀ (F := F)) 𝒱₀ none Set.univ
  owed : ∀ c t, (dats p c).owed t = (K (F := F)).Otc c n
  recorded : ∀ c t, (dats p c).recorded t = below (F := F) n c
  share : ∀ c w, (dats p c).share w = fullShare
  inv : ∀ c t, (dats p c).Φ t = Pipeline.scopedRest (Pipeline.pin (pcfgs (F := F)) adm p).spec c

variable {n : ℕ} {p : Fin 3}
  {dats : (p : Fin 3) → (c : Dev nD) → Pipeline.Dat τ (Elt F) (HIx 1) ℕ UU ℕ (Pipeline.pin (pcfgs (F := F)) adm p) c}

/-- What the core owes around a call, its recorded waits bounded. -/
abbrev owing (n : ℕ) (d : Dev nD) : sProp 𝕄 :=
  iprop(∃ W, ⌜(K (F := F)).WBelow (SparseCore.T d) W (8 * SparseCore.Cfg.Blocks.fst (Q := 1) (N := 1) n)⌝ ∗ owes (SparseCore.T d) ((K (F := F)).Otc d n) W)

def region (h : CallOK (F := F) n p dats) :
    Pipeline.RegionSeg (pcfgs (F := F)) adm dats none defs₀ 𝒱₀ (K (F := F)).L (K (F := F)).lev p where
  win := (Pipeline.LaunchFacts.toP (Val := Elt F) h.kit).win.to₀
  block_pos := (Pipeline.LaunchFacts.toP (Val := Elt F) h.kit).block_pos
  stage_whole := (Pipeline.LaunchFacts.toP (Val := Elt F) h.kit).stage_whole
  K := PEmpty
  osem k := k.elim
  ho := Pipeline.OwnSemFacts.none _
  hbody := h.body
  hwaits c := Pipeline.cellsWaits_of_cut (Pipeline.pin (pcfgs (F := F)) adm) dats none p c 0 ((K (F := F)).Otc c n) (h.owed c)
    (fun _ _ => Finset.mem_univ _) (fun _ _ => le_rfl)
    (fun g i hg => ⟨Finset.mem_univ _, lt_of_lt_of_le (Nat.succ_pos _) ((K (F := F)).lev_of_Otc_pos hg)⟩)
  pre c := iprop((dats p c).arrays (dats p c).A ∗ owing n c)
  post c := iprop((dats p c).arrays ((dats p c).arrAt · (Pipeline.pin (pcfgs (F := F)) adm p).N) ∗ owing n c)
  X _ := BI.emp
  Y _ := BI.emp
  Z _ := BI.emp
  hentry c := by
    rw [Pipeline.ownSems0_none, Pipeline.prefHeld_of_none _ rfl]
    iintro ⟨⟨Ha, HO⟩, -, -⟩
    imodintro
    isplitl [Ha]; · iexact Ha
    isplitr; · iempintro
    isplitl [HO]
    · unfold Pipeline.Dat.owesAt Pipeline.owesWithin Pipeline.Dat.bound owing
      rw [h.owed c 0, h.recorded c 0]
      icases HO with ⟨%W, %hW, HO⟩; iexists W; isplitr
      · ipureintro; exact fun q hq => Or.inl (hW q hq)
      iexact HO
    isplitl <;> iempintro
  hin c := by
    rw [h.inv c 0]
    iintro ⟨-, -, Hr⟩
    iexact Hr
  hout c := by
    rw [Pipeline.ownSems0_none, h.inv c]
    iintro Hr
    isplitr; · iempintro
    isplitr; · iempintro
    iexact Hr
  hexit c := by
    iintro ⟨Ha, HO, -, -⟩
    imodintro
    isplitl [Ha]; · iexact Ha
    unfold Pipeline.Dat.owesAt Pipeline.owesWithin Pipeline.Dat.bound owing
    rw [h.owed c (Fin.last _), h.recorded c (Fin.last _)]
    icases HO with ⟨%W, %hW, HO⟩; iexists W; isplitr
    · ipureintro
      intro q hq
      rcases hW hq with h' | ⟨w, s, rfl⟩
      · exact h'
      · exact Nat.zero_le _
    iexact HO

theorem cells_inj : Function.Injective (Pipeline.cellOf (nD := nD) (τ := τ) (Pipeline.pin (pcfgs (F := F)) adm)) :=
  (Pipeline.LaunchFacts.toP (Val := Elt F) launch0).cellOf_inj adm

/-- THE CALL: from the windows' arrays at the entry contents to the arrays at the exit contents. -/
theorem call_wp (h : CallOK (F := F) n p dats) (d : Dev nD) :
    iprop(levAts (K (F := F)).L (K (F := F)).lev ∗ (K (F := F)).tcSt EH d n ∗ boundary (SparseCore.T d)
        ∗ (Pipeline.cellsGhost (Pipeline.pin (pcfgs (F := F)) adm) EP p d ∗ Pipeline.toksInit (Pipeline.pin (pcfgs (F := F)) adm) EP p d)
        ∗ (dats p d).arrays (dats p d).A)
      ⊢ wp frame (wpE ((K (F := F)).defs (D (F := F))) 𝒱 (SparseCore.T d) none) Set.univ
          (Prog.lift (.customCall (SparseCore.inner (Pipeline.entry p)) ()))
          fun _ => (iprop((K (F := F)).tcSt EH d n ∗ boundary (SparseCore.T d)
            ∗ (dats p d).arrays ((dats p d).arrAt · (Pipeline.pin (pcfgs (F := F)) adm p).N)) : sProp 𝕄) := by
  have hl := (K (F := F)).wp_liftProg (nD := nD) (N := 1) (D (F := F)) 𝒱 (SparseCore.T d) Set.univ none
    (.op (.customCall (Pipeline.entry p) ()) fun _ => .ret ⟨⟩ : Prog (TpuEff nD τ sig (Elt F) (ΛP (F := F)) .tc) PUnit)
    (fun _ => (iprop((K (F := F)).tcSt EH d n ∗ boundary (SparseCore.T d)
            ∗ (dats p d).arrays ((dats p d).arrAt · (Pipeline.pin (pcfgs (F := F)) adm p).N)) : sProp 𝕄))
  refine BIBase.Entails.trans ?_ hl
  have hw := Pipeline.RegionSeg.wp (pcfgs (F := F)) adm dats none cells_inj EP defs₀ 𝒱₀ (K (F := F)).L (K (F := F)).lev (region h) d none
    (fun _ hu => absurd hu (Option.not_mem_none _)) (α := PUnit)
    (fun _ => .ret ⟨⟩) (fun _ => (iprop((K (F := F)).tcSt EH d n ∗ boundary (SparseCore.T d)
            ∗ (dats p d).arrays ((dats p d).arrAt · (Pipeline.pin (pcfgs (F := F)) adm p).N)) : sProp 𝕄))
  refine BIBase.Entails.trans ?_ hw
  unfold SparseCore.Cfg.tcSt
  iintro ⟨#Hl, ⟨HO, Hst⟩, Hb, ⟨Hg, Ht⟩, Ha⟩
  isplitl [Hst]
  · iintro ⟨Hb, Hpost⟩
    rw [wp_ret]
    imodintro
    ihave Hpost' := (Entails.of_eq (show (region h).post d = iprop((dats p d).arrays ((dats p d).arrAt · (Pipeline.pin (pcfgs (F := F)) adm p).N) ∗ owing n d) from rfl)) $$ Hpost
    icases Hpost' with ⟨Ha, HO⟩
    isplitl [HO Hst]
    · isplitl [HO]; · iexact HO
      iexact Hst
    isplitl [Hb]; · iexact Hb
    iexact Ha
  isplitl [Hb]; · iexact Hb
  isplitl [Ha HO]
  · rw [show (region h).pre d = iprop((dats p d).arrays (dats p d).A ∗ owing n d) from rfl]
    isplitl [Ha]; · iexact Ha
    iexact HO
  isplitr; · iexact Hl
  isplitl [Hg] <;> iassumption

end Cert.Proof.K

end
-- ==== Proof.TileMath.lean ====
/-
  What one tile of the SparseCore call computes, as functions of what it reads: the lane-wise dot products of 16 gathered
  row pairs (`dotFold`), the conflict-free accumulation of 16 lanes onto their columns (`peelFold`), a group of 16 edges
  (`grpC`, `grpD`), a chunk of 128 edges, and all the tile's chunks.
-/
module

public import proofs.«01_k».proof.Proof.Setup

@[expose] public section

noncomputable section

namespace Cert.Proof.K

open Cert.KernelIdeal Cert.KernelIdeal.Gen
open Idealize.ShloMosaic

variable {F : FTy → Type}

/-! ## Words -/

/-- The lane numbers from `b` on. -/
def lanes (b : BitVec 32) : IVec S16 32 := addi (broadcast S16 b) (iota .scVector S16 32 [0] iota_S16_d0_w32_scVector)

/-- The word `k` in every lane. -/
def colWord (k : ℕ) : IVec S16 32 := broadcast S16 (Scf.iv 0#32 1#32 k)

theorem iv_eq (k : ℕ) : Scf.iv 0#32 1#32 k = BitVec.ofNat 32 k := by
  unfold Scf.iv; simp

theorem lanes_toNat (b : BitVec 32) (hb : b.toNat ≤ 112) (x : S16.Idx) : (lanes b x).toNat = b.toNat + (x 0).val := by
  have hx : (x 0).val < 16 := (x 0).isLt
  simp only [lanes, addi, broadcast, iota, IntOp.addi, List.foldl, BitVec.toNat_add, BitVec.toNat_ofNat]
  omega

theorem colWord_toNat {k : ℕ} (hk : k < 128) (x : S16.Idx) : (colWord k x).toNat = k := by
  simp only [colWord, broadcast, iv_eq, BitVec.toNat_ofNat]; omega

/-- The cells the lanes of a group read at step `k` of the dot product lie in the row buffer. -/
theorem cell_ok {b : BitVec 32} (hb : b.toNat ≤ 112) {k : ℕ} (hk : k < 128) :
    ∀ a x, ((![lanes b, colWord k] : Fin 2 → IVec S16 32) a x).toNat < S128x128.size a := by
  intro a x
  have hx : (x 0).val < 16 := (x 0).isLt
  match a with
  | 0 => show (lanes b x).toNat < 128; rw [lanes_toNat b hb]; omega
  | 1 => show (colWord k x).toNat < 128; rw [colWord_toNat hk]; omega

/-! ## How often each lane's column has occurred -/

/-- Per lane, how many lanes up to and including it name the same column. -/
def cnt (cols : IVec S16 32) : IVec S16 32 := (scanCount (broadcast S16 1#1) cols).2

/-- The largest of the counts. -/
def mx (cols : IVec S16 32) : BitVec 32 :=
  extractAt ![15] (xori (scan .max (xori (cnt cols) (broadcast S16 2147483648#32))) (broadcast S16 2147483648#32)) inpos_S16_p15

theorem cnt_eq (cols : IVec S16 32) (x : S16.Idx) :
    cnt cols x = BitVec.ofNat 32 (Finset.univ.filter fun j : S16.Idx => (S16.rowMajor j).val ≤ (S16.rowMajor x).val ∧ cols j = cols x).card := by
  simp [cnt, scanCount, broadcast]

theorem cnt_card_le (cols : IVec S16 32) (x : S16.Idx) :
    (Finset.univ.filter fun j : S16.Idx => (S16.rowMajor j).val ≤ (S16.rowMajor x).val ∧ cols j = cols x).card ≤ 16 := by
  refine (Finset.card_filter_le _ _).trans ?_
  simp [Finset.card_univ, Shape.Idx]

theorem cnt_toNat (cols : IVec S16 32) (x : S16.Idx) :
    (cnt cols x).toNat = (Finset.univ.filter fun j : S16.Idx => (S16.rowMajor j).val ≤ (S16.rowMajor x).val ∧ cols j = cols x).card := by
  have := cnt_card_le cols x
  rw [cnt_eq, BitVec.toNat_ofNat]; omega

theorem cnt_le (cols : IVec S16 32) (x : S16.Idx) : (cnt cols x).toNat ≤ 16 := by rw [cnt_toNat]; exact cnt_card_le cols x

theorem cnt_pos (cols : IVec S16 32) (x : S16.Idx) : 0 < (cnt cols x).toNat := by
  rw [cnt_toNat]; exact Finset.card_pos.mpr ⟨x, by simp⟩

theorem flip_toNat (w : BitVec 32) (h : w.toNat ≤ 16) : (w ^^^ 2147483648#32).toNat = w.toNat + 2147483648 := by
  obtain ⟨n, hn, rfl⟩ : ∃ n, n ≤ 16 ∧ w = BitVec.ofNat 32 n := ⟨w.toNat, h, by simp⟩
  interval_cases n <;> rfl

/-- A running maximum is one of the words it ran over, and at least each of them. -/
theorem foldl_maxui {ι : Type} (f : ι → BitVec 32) (l : List ι) (a : BitVec 32) :
    (l.foldl (fun r k => IntOp.maxui r (f k)) a = a ∨ ∃ k ∈ l, l.foldl (fun r k => IntOp.maxui r (f k)) a = f k)
      ∧ a.toNat ≤ (l.foldl (fun r k => IntOp.maxui r (f k)) a).toNat
      ∧ ∀ k ∈ l, (f k).toNat ≤ (l.foldl (fun r k => IntOp.maxui r (f k)) a).toNat := by
  induction l generalizing a with
  | nil => exact ⟨.inl rfl, le_rfl, fun k hk => absurd hk (List.not_mem_nil)⟩
  | cons i l ih =>
    have hm : (IntOp.maxui a (f i) = a ∨ IntOp.maxui a (f i) = f i) ∧ a.toNat ≤ (IntOp.maxui a (f i)).toNat ∧ (f i).toNat ≤ (IntOp.maxui a (f i)).toNat := by
      unfold IntOp.maxui
      split <;> rename_i h <;> simp_all [BitVec.ult, BitVec.ule] <;> omega
    obtain ⟨h1, h2, h3⟩ := ih (IntOp.maxui a (f i))
    simp only [List.foldl_cons]
    refine ⟨?_, hm.2.1.trans h2, ?_⟩
    · rcases h1 with h1 | ⟨k, hk, h1⟩
      · rw [h1]
        rcases hm.1 with h | h
        · exact .inl h
        · exact .inr ⟨i, List.mem_cons_self, h⟩
      · exact .inr ⟨k, List.mem_cons_of_mem _ hk, h1⟩
    · intro k hk
      rcases List.mem_cons.mp hk with rfl | hk
      · exact hm.2.2.trans h2
      · exact h3 k hk

/-- The largest count is a lane's count, and at least every lane's. -/
theorem mx_spec (cols : IVec S16 32) : (∃ y, mx cols = cnt cols y) ∧ ∀ x, (cnt cols x).toNat ≤ (mx cols).toNat := by
  let f : Fin 16 → BitVec 32 := fun k => cnt cols (Shape.ofLane (d := ![16]) k) ^^^ 2147483648#32
  let l : List (Fin 16) := (List.finRange 16).filter fun k => decide (0 < k.val ∧ k.val ≤ 15)
  let r := l.foldl (fun r k => IntOp.maxui r (f k)) (f 0)
  have hmx : mx cols = r ^^^ 2147483648#32 := rfl
  obtain ⟨h1, h2, h3⟩ := foldl_maxui f l (f 0)
  have hr : ∃ k, r = f k := by
    rcases h1 with h | ⟨k, -, h⟩
    · exact ⟨0, h⟩
    · exact ⟨k, h⟩
  have hall : ∀ k, (f k).toNat ≤ r.toNat := by
    intro k
    by_cases hk : k = 0
    · subst hk; exact h2
    · refine h3 k (List.mem_filter.mpr ⟨List.mem_finRange k, ?_⟩)
      have := k.isLt
      have : k.val ≠ 0 := fun h => hk (Fin.ext h)
      simp; omega
  obtain ⟨k₀, hk₀⟩ := hr
  have hm : mx cols = cnt cols (Shape.ofLane (d := ![16]) k₀) := by
    rw [hmx, hk₀]; simp only [f]; rw [BitVec.xor_assoc, BitVec.xor_self, BitVec.xor_zero]
  refine ⟨⟨_, hm⟩, fun x => ?_⟩
  have hx : x = Shape.ofLane (d := ![16]) (x 0) := by
    funext a; rw [Fin.eq_zero a]; rfl
  have := hall (x 0)
  rw [hk₀] at this
  simp only [f] at this
  rw [← hx, flip_toNat _ (cnt_le _ _), flip_toNat _ (cnt_le _ _)] at this
  rw [hm]; omega

theorem mx_le (cols : IVec S16 32) : (mx cols).toNat ≤ 16 := by
  obtain ⟨⟨y, hy⟩, -⟩ := mx_spec cols
  rw [hy]; exact cnt_le cols y

/-- Every lane's column is one of the 10000. -/
def ColsOK (cols : IVec S16 32) : Prop := ∀ x, (cols x).toNat < 10000

theorem ColsOK.idx {cols : IVec S16 32} (h : ColsOK cols) : ∀ a x, ((![cols] : Fin 1 → IVec S16 32) a x).toNat < S10000.size a := by
  intro a x; match a with | 0 => exact h x

theorem peel_trips (cols : IVec S16 32) : (k2_t4_loop (mx cols)).trips = (mx cols).toNat + 1 := by
  have h := mx_le cols
  obtain ⟨n, hn, e⟩ : ∃ n, n ≤ 16 ∧ mx cols = BitVec.ofNat 32 n := ⟨(mx cols).toNat, h, by simp⟩
  rw [e]
  interval_cases n <;> decide

/-- The condition the body checks before it accumulates a group's lanes. -/
theorem chk_ok {cols : IVec S16 32} (h : ColsOK cols) : k2_chk2 cols (mx cols) := by
  have hok : (k2_t4_loop (mx cols)).OK := by
    have h := mx_le cols
    obtain ⟨n, hn, e⟩ : ∃ n, n ≤ 16 ∧ mx cols = BitVec.ofNat 32 n := ⟨(mx cols).toNat, h, by simp⟩
    rw [e]
    interval_cases n <;> decide
  exact ⟨hok, fun _ => h.idx, fun _ => h.idx, Scf.rem_ok _ _, fun _ => h.idx, fun _ => h.idx⟩

/-! ## A group of 16 edges -/

variable [FloatOps F]

/-- The zero and the one vectors. -/
def zero16 : FVec F S16 .f32 := broadcast S16 (Scalar.ofBits .f32 0x00000000#32)
def one16 : FVec F S16 .f32 := broadcast S16 (Scalar.ofBits .f32 0x3F800000#32)

/-- The lanes' partial dot products after `n` columns: lane `x` holds row `b + x` of `R` times row `b + x` of `C`. -/
def dotFold {b : BitVec 32} (hb : b.toNat ≤ 112) (R C : Vec F S128x128 .f32) : ℕ → FVec F S16 .f32
  | 0 => zero16
  | k + 1 => if hk : k < 128 then
      addf (dotFold hb R C k) (mulf (loadIdx R ![lanes b, colWord k] (cell_ok hb hk)) (loadIdx C ![lanes b, colWord k] (cell_ok hb hk)))
    else dotFold hb R C k

/-- The accumulator after `n` rounds: round `i` adds the lanes whose count is `i`. -/
def peelFold {cols : IVec S16 32} (h : ColsOK cols) (v : FVec F S16 .f32) (c : Vec F S10000 .f32) : ℕ → Vec F S10000 .f32
  | 0 => c
  | n + 1 => storeIdx (peelFold h v c n) ![cols] v (cmpi .eq (cnt cols) (colWord n)) true h.idx

/-- The accumulator after every round. -/
def peelAll {cols : IVec S16 32} (h : ColsOK cols) (v : FVec F S16 .f32) (c : Vec F S10000 .f32) : Vec F S10000 .f32 :=
  peelFold h v c ((mx cols).toNat + 1)

end Cert.Proof.K

end
-- ==== Proof.Loops.lean ====
/-
  The two loops of a group of 16 edges, as programs: the dot-product loop leaves the lanes' dot products (`dotFold`), the
  accumulation loop leaves both accumulators with every lane added (`peelAll`).
-/
module

public import proofs.«01_k».proof.Proof.TileMath

@[expose] public section

noncomputable section

namespace Cert.Proof.K

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F] [Named F] (d : Dev nD) (L : grid2.Coords)

/-- The tile's thread. -/
abbrev tile (d : Dev nD) (L : grid2.Coords) : Thread nD τ := V d (cV L) (jV L)

/-- The tile's two row buffers, its two accumulators and its column list, held outright. -/
abbrev rrPts (R : Vec F S128x128 .f32) : sProp 𝕄 := (tile d L).loc cc2_scratch2 ↦{fullShare} R
abbrev crPts (C : Vec F S128x128 .f32) : sProp 𝕄 := (tile d L).loc cc2_scratch3 ↦{fullShare} C
abbrev caPts (c : Vec F S10000 .f32) : sProp 𝕄 := (tile d L).loc cc2_scratch4 ↦{fullShare} c
abbrev daPts (g : Vec F S10000 .f32) : sProp 𝕄 := (tile d L).loc cc2_scratch5 ↦{fullShare} g
abbrev riPts (r : Vec F S128 .i32) : sProp 𝕄 := (tile d L).loc cc2_scratch0 ↦{fullShare} r
abbrev ciPts (r : Vec F S128 .i32) : sProp 𝕄 := (tile d L).loc cc2_scratch1 ↦{fullShare} r

omit [FloatOps F] [Named F] in
theorem caPts_acc (c : Vec F S10000 .f32) :
    (caPts d L c : sProp 𝕄) = ((caV.access (.whole S10000)).loc (tile d L) ↦[(caV.access (.whole S10000)).set]{fullShare} c) := by
  rw [show (caV.access (.whole S10000)).set = Finset.univ from Memref.set_access_whole ..]
omit [FloatOps F] [Named F] in
theorem daPts_acc (c : Vec F S10000 .f32) :
    (daPts d L c : sProp 𝕄) = ((daV.access (.whole S10000)).loc (tile d L) ↦[(daV.access (.whole S10000)).set]{fullShare} c) := by
  rw [show (daV.access (.whole S10000)).set = Finset.univ from Memref.set_access_whole ..]

/-- The dot-product loop, at the head of a program. -/
theorem dot_loop {b : BitVec 32} (hb : b.toNat ≤ 112) (R C : Vec F S128x128 .f32) {P : IVec S16 32 → Prop} {dec : ∀ v, Decidable (P v)}
    (hP : ∀ k < 128, P (colWord k)) {pf1 pf2 : ∀ v, P v → ∀ a x, ((![lanes b, v] : Fin 2 → IVec S16 32) a x).toNat < S128x128.size a}
    {hok : k2_t3_loop.OK} {hl1 : rrV.view.Loads} {hl2 : crV.view.Loads} {β : Type}
    {kk : FVec F S16 .f32 → Prog (TpuEff nD τ sig (Elt F) Λ₀ (.scVector (cV L) (jV L))) β} {Q : β → sProp 𝕄} :
    iprop(rrPts d L R ∗ crPts d L C)
      ⊢ iprop((rrPts d L R ∗ crPts d L C -∗ wp frame (wpE (defs₀ (F := F)) 𝒱₀ (tile d L) none) Set.univ (kk (dotFold hb R C 128)) Q)
        -∗ wp frame (wpE (defs₀ (F := F)) 𝒱₀ (tile d L) none) Set.univ
          (Scf.Loop.for k2_t3_loop hok (zero16 : FVec F S16 .f32) (fun k acc => (do
            have h : P (colWord k) := (← Prog.lift (TpuEff.assume (P (colWord k)) (dec _))).down
            let v1 : Vec F S16 .f32 ← SparseCore.vectorLoadIdx rrV ![lanes b, colWord k] (pf1 _ h) hl1
            let v2 : Vec F S16 .f32 ← SparseCore.vectorLoadIdx crV ![lanes b, colWord k] (pf2 _ h) hl2
            pure (addf acc (mulf v1 v2)) : Prog (TpuEff nD τ sig (Elt F) Λ₀ (.scVector (cV L) (jV L))) (FVec F S16 .f32))) >>= kk) Q) := by
  have htr : k2_t3_loop.trips = 128 := by decide
  iintro ⟨HR, HC⟩ Hk
  iapply (Scf.wp_for_bind frame (wpE (defs₀ (F := F)) 𝒱₀ (tile d L) none) Set.univ _ _ _ hok zero16 _
    (fun n acc => iprop(⌜acc = dotFold hb R C n⌝ ∗ rrPts d L R ∗ crPts d L C)) ?_) $$ [HR HC] [Hk]
  · intro k acc
    have hk : k.val < 128 := lt_of_lt_of_eq k.isLt htr
    iintro ⟨%he, HR, HC⟩
    subst he
    rw [show (Prog.lift (TpuEff.assume (P (colWord k)) (dec _)) : Prog (TpuEff nD τ sig (Elt F) Λ₀ (.scVector (cV L) (jV L))) _) = .op (.assume (P (colWord k)) (dec _)) .ret from rfl]
    simp only [Prog.bind_op, Prog.bind_ret]
    rw [wp_assume_of _ _ _ _ (hP k.val hk)]
    iapply (SparseCore.wp_vectorLoadIdx 𝒱₀ (tile d L) none Set.univ (base := rrV) (f := R) (q := fullShare) (S := Finset.univ) (Finset.subset_univ _)) $$ HR
    iintro HR
    iapply (SparseCore.wp_vectorLoadIdx 𝒱₀ (tile d L) none Set.univ (base := crV) (f := C) (q := fullShare) (S := Finset.univ) (Finset.subset_univ _)) $$ HC
    iintro HC
    rw [wp_pure]
    imodintro
    isplitr [HR HC]
    · ipureintro
      have e1 : View.read (Elt F) (rrV.access (Rect.whole S128x128)) R = R := Memref.read_access_whole ..
      have e2 : View.read (Elt F) (crV.access (Rect.whole S128x128)) C = C := Memref.read_access_whole ..
      rw [dotFold, dif_pos hk, e1, e2]
    isplitl [HR] <;> iassumption
  · isplitr [HR HC]
    · ipureintro; rfl
    isplitl [HR] <;> iassumption
  · iintro %acc ⟨%he, H⟩
    rw [show Scf.trips k2_t3_loop.lb k2_t3_loop.ub k2_t3_loop.st = 128 from htr] at he
    subst he
    iapply Hk $$ H

/-- The dot-product loop, at the end of a program. -/
theorem dot_loop_last {b : BitVec 32} (hb : b.toNat ≤ 112) (R C : Vec F S128x128 .f32) {P : IVec S16 32 → Prop} {dec : ∀ v, Decidable (P v)}
    (hP : ∀ k < 128, P (colWord k)) {pf1 pf2 : ∀ v, P v → ∀ a x, ((![lanes b, v] : Fin 2 → IVec S16 32) a x).toNat < S128x128.size a}
    {hok : k2_t3_loop.OK} {hl1 : rrV.view.Loads} {hl2 : crV.view.Loads} {Q : FVec F S16 .f32 → sProp 𝕄} :
    iprop(rrPts d L R ∗ crPts d L C)
      ⊢ iprop((rrPts d L R ∗ crPts d L C -∗ Q (dotFold hb R C 128))
        -∗ wp frame (wpE (defs₀ (F := F)) 𝒱₀ (tile d L) none) Set.univ
          (Scf.Loop.for k2_t3_loop hok (zero16 : FVec F S16 .f32) (fun k acc => (do
            have h : P (colWord k) := (← Prog.lift (TpuEff.assume (P (colWord k)) (dec _))).down
            let v1 : Vec F S16 .f32 ← SparseCore.vectorLoadIdx rrV ![lanes b, colWord k] (pf1 _ h) hl1
            let v2 : Vec F S16 .f32 ← SparseCore.vectorLoadIdx crV ![lanes b, colWord k] (pf2 _ h) hl2
            pure (addf acc (mulf v1 v2)) : Prog (TpuEff nD τ sig (Elt F) Λ₀ (.scVector (cV L) (jV L))) (FVec F S16 .f32)))) Q) := by
  rw [← bind_pure (Scf.Loop.for k2_t3_loop hok (zero16 : FVec F S16 .f32) _)]
  iintro H Hk
  iapply (dot_loop d L hb R C (P := P) hP) $$ H
  iintro H
  rw [wp_pure]
  imodintro
  iapply Hk $$ H

/-- The accumulation loop, at the head of a program: the columns and the counts are the group's, each round one trip. -/
theorem peel_loop {cols : IVec S16 32} (h : ColsOK cols) (v : FVec F S16 .f32) (c g : Vec F S10000 .f32) {init : BitVec 32}
    {hok : (k2_t4_loop (mx cols)).OK}
    {pf1 pf2 : ∀ k : Fin (k2_t4_loop (mx cols)).trips, ∀ a x, ((![cols] : Fin 1 → IVec S16 32) a x).toNat < S10000.size a}
    {hs1 : (caV.access (.whole S10000)).Stores Finset.univ} {hs2 : (daV.access (.whole S10000)).Stores Finset.univ} {β : Type}
    {kk : BitVec 32 → Prog (TpuEff nD τ sig (Elt F) Λ₀ (.scVector (cV L) (jV L))) β} {Q : β → sProp 𝕄} :
    iprop(caPts d L c ∗ daPts d L g)
      ⊢ iprop((∀ r, caPts d L (peelAll h v c) ∗ daPts d L (peelAll h one16 g) -∗ wp frame (wpE (defs₀ (F := F)) 𝒱₀ (tile d L) none) Set.univ (kk r) Q)
        -∗ wp frame (wpE (defs₀ (F := F)) 𝒱₀ (tile d L) none) Set.univ
          (Scf.Loop.for (k2_t4_loop (mx cols)) hok init (fun k _ => (do
            SparseCore.vectorStoreIdx caV ![cols] v (cmpi .eq (cnt cols) (colWord k)) true (pf1 k) hs1
            SparseCore.vectorStoreIdx daV ![cols] one16 (cmpi .eq (cnt cols) (colWord k)) true (pf2 k) hs2
            pure 0#32 : Prog (TpuEff nD τ sig (Elt F) Λ₀ (.scVector (cV L) (jV L))) (BitVec 32))) >>= kk) Q) := by
  iintro ⟨Hc, Hg⟩ Hk
  iapply (Scf.wp_for_bind frame (wpE (defs₀ (F := F)) 𝒱₀ (tile d L) none) Set.univ _ _ _ hok init _
    (fun n _ => iprop(caPts d L (peelFold h v c n) ∗ daPts d L (peelFold h one16 g n))) ?_) $$ [Hc Hg] [Hk]
  · intro k acc
    iintro ⟨Hc, Hg⟩
    ihave Hc' := (Entails.of_eq (caPts_acc d L _)) $$ Hc
    ihave Hg' := (Entails.of_eq (daPts_acc d L _)) $$ Hg
    iapply (SparseCore.wp_vectorStoreIdx 𝒱₀ (tile d L) none Set.univ (base := caV) (f := peelFold h v c k.val)) $$ Hc'
    iintro Hc
    iapply (SparseCore.wp_vectorStoreIdx 𝒱₀ (tile d L) none Set.univ (base := daV) (f := peelFold h one16 g k.val)) $$ Hg'
    iintro Hg
    rw [wp_pure]
    imodintro
    have e1 : ∀ f : Vec F S10000 .f32, View.read (Elt F) (caV.access (Rect.whole S10000)) f = f := fun f => Memref.read_access_whole ..
    have e2 : ∀ f : Vec F S10000 .f32, View.read (Elt F) (daV.access (Rect.whole S10000)) f = f := fun f => Memref.read_access_whole ..
    have w1 : ∀ f w : Vec F S10000 .f32, View.write (Elt F) (caV.access (Rect.whole S10000)) f w Finset.univ = w := fun f w => Memref.write_access_whole_univ ..
    have w2 : ∀ f w : Vec F S10000 .f32, View.write (Elt F) (daV.access (Rect.whole S10000)) f w Finset.univ = w := fun f w => Memref.write_access_whole_univ ..
    isplitl [Hc]
    · rw [caPts_acc, peelFold]
      rw [w1, e1]
      iexact Hc
    · rw [daPts_acc, peelFold]
      rw [w2, e2]
      iexact Hg
  · isplitl [Hc]
    · iexact Hc
    · iexact Hg
  · iintro %acc H
    rw [show Scf.trips (k2_t4_loop (mx cols)).lb (k2_t4_loop (mx cols)).ub (k2_t4_loop (mx cols)).st = (mx cols).toNat + 1 from peel_trips cols]
    iapply Hk $$ %acc
    iexact H

omit [FloatOps F] [Named F] in
/-- The remainder loop behind the accumulation loop makes no trip. -/
theorem rem_loop [FloatOps F] [Named F] {m : BitVec 32} {hok : (k2_t5_loop m).OK} {init : BitVec 32}
    {body : Fin (k2_t5_loop m).trips → BitVec 32 → Prog (TpuEff nD τ sig (Elt F) Λ₀ (.scVector (cV L) (jV L))) (BitVec 32)} {β : Type}
    {kk : BitVec 32 → Prog (TpuEff nD τ sig (Elt F) Λ₀ (.scVector (cV L) (jV L))) β} {Q : β → sProp 𝕄} :
    wp frame (wpE (defs₀ (F := F)) 𝒱₀ (tile d L) none) Set.univ (kk init) Q
      ⊢ wp frame (wpE (defs₀ (F := F)) 𝒱₀ (tile d L) none) Set.univ (Scf.Loop.for (k2_t5_loop m) hok init body >>= kk) Q := by
  rw [show Scf.Loop.for (k2_t5_loop m) hok init body = .ret init from Scf.for_rem_eq 0#32 _ hok init body]
  exact .rfl

/-- Sixteen words of the column list from `16 n` on. -/
abbrev colsRect (o : ℕ) (h : ∀ a, (![o] : Fin 1 → ℕ) a + S16.size a ≤ S128.size a) : Rect S128 := Rect.unit (s := S128) ![o] S16.size h

end Cert.Proof.K

end
-- ==== Proof.Groups.lean ====
/-
  The groups of 16 edges of one chunk, as the body's parts run them: part by part, what the tile's buffers hold.
-/
module

public import proofs.«01_k».proof.Proof.Loops

@[expose] public section

noncomputable section

namespace Cert.Proof.K

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-! ## A group's columns and its two accumulations -/

/-- Place `o + x` of the column list. -/
def slotAt (o : ℕ) (ho : o ≤ 112) (x : S16.Idx) : S128.Idx := fun a => match a with
  | 0 => ⟨o + (x 0).val, by have : (x 0).val < 16 := (x 0).isLt; show o + (x 0).val < 128; omega⟩

/-- The sixteen columns of the group that starts at place `o`. -/
def colsAt (o : ℕ) (ho : o ≤ 112) (ei : Vec F S128 .i32) : IVec S16 32 := fun x => ei (slotAt o ho x)

/-- Every word of the list is the number of a row. -/
def ListOK (ei : Vec F S128 .i32) : Prop := ∀ j, (ei j : BitVec 32).toNat < 10000

theorem ListOK.cols {ei : Vec F S128 .i32} (h : ListOK ei) (o : ℕ) (ho : o ≤ 112) : ColsOK (colsAt o ho ei) := fun x => h _

theorem base_le (o : ℕ) (ho : o ≤ 112) : (BitVec.ofNat 32 o).toNat ≤ 112 := by rw [BitVec.toNat_ofNat]; omega

variable [FloatOps F]

/-- The dot products of the group at `o`. -/
def dotAt (o : ℕ) (ho : o ≤ 112) (R C : Vec F S128x128 .f32) : FVec F S16 .f32 := dotFold (base_le o ho) R C 128

/-- The first accumulator after the group at `o`: its dot products added on its columns. -/
def grpC (o : ℕ) (ho : o ≤ 112) {ei : Vec F S128 .i32} (h : ListOK ei) (R C : Vec F S128x128 .f32) (c : Vec F S10000 .f32) : Vec F S10000 .f32 :=
  peelAll (h.cols o ho) (dotAt o ho R C) c

/-- The second accumulator after the group at `o`: one added on each of its columns. -/
def grpD (o : ℕ) (ho : o ≤ 112) {ei : Vec F S128 .i32} (h : ListOK ei) (g : Vec F S10000 .f32) : Vec F S10000 .f32 :=
  peelAll (h.cols o ho) one16 g

variable [Named F] (d : Dev nD) (L : grid2.Coords)

theorem read_cols (o : ℕ) (ho : o ≤ 112) (h : ∀ a, (![o] : Fin 1 → ℕ) a + S16.size a ≤ S128.size a) (ei : Vec F S128 .i32) :
    ciV.view.readAt (Elt F) (Rect.unit (s := S128) ![o] S16.size h).toLoadRect ei = colsAt o ho ei := by
  funext x
  rw [View.readAt_rect]
  show (View.read (Elt F) (ciV.view.slice (Rect.unit (s := S128) ![o] S16.size h)) ei) x = _
  rw [View.read_apply]
  refine (cast_eq _ _).trans (congrArg ei ?_)
  funext a
  rw [Fin.eq_zero a]
  apply Fin.ext
  show o + 1 * (x 0).val = o + (x 0).val
  omega

/-- The load of a group's columns, at the head of a program. -/
theorem load_cols (o : ℕ) (ho : o ≤ 112) {h : ∀ a, (![o] : Fin 1 → ℕ) a + S16.size a ≤ S128.size a} (ei : Vec F S128 .i32)
    {hl : ciV.view.LoadsAt (Rect.unit (s := S128) ![o] S16.size h).toLoadRect} {β : Type}
    {kk : Vec F S16 .i32 → Prog (TpuEff nD τ sig (Elt F) Λ₀ (.scVector (cV L) (jV L))) β} {Q : β → sProp 𝕄} :
    (ciPts d L ei)
      ⊢ iprop((ciPts d L ei -∗ wp frame (wpE (defs₀ (F := F)) 𝒱₀ (tile d L) none) Set.univ (kk (colsAt o ho ei)) Q)
        -∗ wp frame (wpE (defs₀ (F := F)) 𝒱₀ (tile d L) none) Set.univ
          ((Prog.lift (.load ciV (Rect.unit (s := S128) ![o] S16.size h).toLoadRect hl) : Prog (TpuEff nD τ sig (Elt F) Λ₀ (.scVector (cV L) (jV L))) (Vec F S16 .i32)) >>= kk) Q) := by
  iintro H Hk
  rw [show ((Prog.lift (.load ciV (Rect.unit (s := S128) ![o] S16.size h).toLoadRect hl) : Prog (TpuEff nD τ sig (Elt F) Λ₀ (.scVector (cV L) (jV L))) (Vec F S16 .i32)) >>= kk)
    = .op (.load ciV (Rect.unit (s := S128) ![o] S16.size h).toLoadRect hl) kk from rfl]
  iapply (wp_load (defs := defs₀ (F := F)) 𝒱₀ (tile d L) none Set.univ (m := ciV) (q := fullShare) (f := ei) (S := Finset.univ) (Finset.subset_univ _)) $$ H
  iintro H
  rw [read_cols o ho h ei]
  iapply Hk $$ H

/-- A check that holds, at the head of a program. -/
theorem chk_step {P : Prop} (h : P) {dec : Decidable P} {β : Type}
    {kk : PLift P → Prog (TpuEff nD τ sig (Elt F) Λ₀ (.scVector (cV L) (jV L))) β} {Q : β → sProp 𝕄} :
    wp frame (wpE (defs₀ (F := F)) 𝒱₀ (tile d L) none) Set.univ (kk ⟨h⟩) Q
      ⊢ wp frame (wpE (defs₀ (F := F)) 𝒱₀ (tile d L) none) Set.univ
          ((Prog.lift (TpuEff.assume P dec) : Prog (TpuEff nD τ sig (Elt F) Λ₀ (.scVector (cV L) (jV L))) (PLift P)) >>= kk) Q := by
  rw [show ((Prog.lift (TpuEff.assume P dec) : Prog (TpuEff nD τ sig (Elt F) Λ₀ (.scVector (cV L) (jV L))) (PLift P)) >>= kk) = .op (.assume P dec) kk from rfl,
    wp_assume_of _ _ _ _ h]

/-- What the tile holds while it works through a chunk's groups. -/
abbrev St (ei : Vec F S128 .i32) (R C : Vec F S128x128 .f32) (c g : Vec F S10000 .f32) : sProp 𝕄 :=
  iprop(ciPts d L ei ∗ (rrPts d L R ∗ crPts d L C) ∗ (caPts d L c ∗ daPts d L g))

/-- The lane numbers. -/
abbrev iota16 : IVec S16 32 := iota .scVector S16 32 [0] iota_S16_d0_w32_scVector

variable {ei : Vec F S128 .i32} (h : ListOK ei) (R C : Vec F S128x128 .f32) (c g : Vec F S10000 .f32)

theorem part2_wp {hw : k2_chk2 (colsAt 0 (by decide) ei) (mx (colsAt 0 (by decide) ei))} :
    (St d L ei R C c g)
      ⊢ wp frame (wpE (defs₀ (F := F)) 𝒱₀ (tile d L) none) Set.univ
          (k2_part2 L xnV (Memref.isWhole_whole _) edV (Memref.isWhole_whole _) paV (Memref.isWhole_whole _) riV (Memref.isWhole_whole _) ciV (Memref.isWhole_whole _)
            rrV (Memref.isWhole_whole _) crV (Memref.isWhole_whole _) caV (Memref.isWhole_whole _) daV (Memref.isWhole_whole _)
            cc2_scratch6 cc2_scratch7 cc2_scoped0 cc2_scoped1 cc2_scoped2 cc2_scoped3 cc2_scoped4 cc2_scoped5 iota16 zero16 one16
            (dotAt 0 (by decide) R C) (colsAt 0 (by decide) ei) (cnt (colsAt 0 (by decide) ei)) (mx (colsAt 0 (by decide) ei)) hw)
          fun r => iprop(⌜r = dotAt 32 (by decide) R C⌝
            ∗ St d L ei R C (grpC 16 (by decide) h R C (grpC 0 (by decide) h R C c)) (grpD 16 (by decide) h (grpD 0 (by decide) h g))) := by
  unfold k2_part2
  iintro ⟨Hi, HRC, Hcg⟩
  iapply (peel_loop d L (h.cols 0 (by decide)) (dotAt 0 (by decide) R C) c g) $$ Hcg
  iintro %r0 Hcg
  iapply (rem_loop d L)
  iapply (dot_loop d L (b := 16#32) (base_le 16 (by decide)) R C (P := k2_chk3 (lanes 16#32)) (fun k hk => ⟨cell_ok (by decide) hk, cell_ok (by decide) hk⟩)) $$ HRC
  iintro HRC
  iapply (load_cols d L 16 (by decide) ei) $$ Hi
  iintro Hi
  iapply (chk_step d L (chk_ok (h.cols 16 (by decide))))
  iapply (peel_loop d L (h.cols 16 (by decide)) (dotAt 16 (by decide) R C) _ _) $$ Hcg
  iintro %r1 Hcg
  iapply (rem_loop d L)
  iapply (dot_loop_last d L (b := 32#32) (base_le 32 (by decide)) R C (P := k2_chk5 (lanes 32#32)) (fun k hk => ⟨cell_ok (by decide) hk, cell_ok (by decide) hk⟩)) $$ HRC
  iintro HRC
  isplitr
  · ipureintro; rfl
  isplitl [Hi]; · iexact Hi
  isplitl [HRC]; · iexact HRC
  iexact Hcg

theorem part3_wp :
    (St d L ei R C c g)
      ⊢ wp frame (wpE (defs₀ (F := F)) 𝒱₀ (tile d L) none) Set.univ
          (k2_part3 L xnV (Memref.isWhole_whole _) edV (Memref.isWhole_whole _) paV (Memref.isWhole_whole _) riV (Memref.isWhole_whole _) ciV (Memref.isWhole_whole _)
            rrV (Memref.isWhole_whole _) crV (Memref.isWhole_whole _) caV (Memref.isWhole_whole _) daV (Memref.isWhole_whole _)
            cc2_scratch6 cc2_scratch7 cc2_scoped0 cc2_scoped1 cc2_scoped2 cc2_scoped3 cc2_scoped4 cc2_scoped5 iota16 zero16 one16
            (dotAt 32 (by decide) R C))
          fun r => iprop(⌜r = ⟨(dotAt 48 (by decide) R C), (colsAt 48 (by decide) ei), cnt (colsAt 48 (by decide) ei), mx (colsAt 48 (by decide) ei), chk_ok (h.cols 48 (by decide)), 0#32, 0#32, Scalar.subi (Scalar.addi (mx (colsAt 48 (by decide) ei)) 1#32) 0#32⟩⌝
            ∗ St d L ei R C (grpC 32 (by decide) h R C c) (grpD 32 (by decide) h g)) := by
  unfold k2_part3
  iintro ⟨Hi, HRC, Hcg⟩
  iapply (load_cols d L 32 (by decide) ei) $$ Hi
  iintro Hi
  iapply (chk_step d L (chk_ok (h.cols 32 (by decide))))
  iapply (peel_loop d L (h.cols 32 (by decide)) (dotAt 32 (by decide) R C) _ _) $$ Hcg
  iintro %r0 Hcg
  iapply (rem_loop d L)
  iapply (dot_loop d L (b := 48#32) (base_le 48 (by decide)) R C (P := k2_chk7 (lanes 48#32)) (fun k hk => ⟨cell_ok (by decide) hk, cell_ok (by decide) hk⟩)) $$ HRC
  iintro HRC
  iapply (load_cols d L 48 (by decide) ei) $$ Hi
  iintro Hi
  iapply (chk_step d L (chk_ok (h.cols 48 (by decide))))
  rw [wp_pure]
  imodintro
  isplitr
  · ipureintro; rfl
  isplitl [Hi]; · iexact Hi
  isplitl [HRC]; · iexact HRC
  iexact Hcg

theorem part4_wp {hw : k2_chk8 (colsAt 48 (by decide) ei) (mx (colsAt 48 (by decide) ei))} :
    (St d L ei R C c g)
      ⊢ wp frame (wpE (defs₀ (F := F)) 𝒱₀ (tile d L) none) Set.univ
          (k2_part4 L xnV (Memref.isWhole_whole _) edV (Memref.isWhole_whole _) paV (Memref.isWhole_whole _) riV (Memref.isWhole_whole _) ciV (Memref.isWhole_whole _)
            rrV (Memref.isWhole_whole _) crV (Memref.isWhole_whole _) caV (Memref.isWhole_whole _) daV (Memref.isWhole_whole _)
            cc2_scratch6 cc2_scratch7 cc2_scoped0 cc2_scoped1 cc2_scoped2 cc2_scoped3 cc2_scoped4 cc2_scoped5 iota16 zero16 one16
            (dotAt 48 (by decide) R C) (colsAt 48 (by decide) ei) (cnt (colsAt 48 (by decide) ei)) (mx (colsAt 48 (by decide) ei)) hw 0#32 0#32 (Scalar.subi (Scalar.addi (mx (colsAt 48 (by decide) ei)) 1#32) 0#32))
          fun r => iprop(⌜r = ⟨(dotAt 80 (by decide) R C), (colsAt 80 (by decide) ei), broadcast S16 1#1⟩⌝
            ∗ St d L ei R C (grpC 64 (by decide) h R C (grpC 48 (by decide) h R C c)) (grpD 64 (by decide) h (grpD 48 (by decide) h g))) := by
  unfold k2_part4
  iintro ⟨Hi, HRC, Hcg⟩
  iapply (peel_loop d L (h.cols 48 (by decide)) (dotAt 48 (by decide) R C) _ _) $$ Hcg
  iintro %r0 Hcg
  iapply (rem_loop d L)
  iapply (dot_loop d L (b := 64#32) (base_le 64 (by decide)) R C (P := k2_chk9 (lanes 64#32)) (fun k hk => ⟨cell_ok (by decide) hk, cell_ok (by decide) hk⟩)) $$ HRC
  iintro HRC
  iapply (load_cols d L 64 (by decide) ei) $$ Hi
  iintro Hi
  iapply (chk_step d L (chk_ok (h.cols 64 (by decide))))
  iapply (peel_loop d L (h.cols 64 (by decide)) (dotAt 64 (by decide) R C) _ _) $$ Hcg
  iintro %r1 Hcg
  iapply (rem_loop d L)
  iapply (dot_loop d L (b := 80#32) (base_le 80 (by decide)) R C (P := k2_chk11 (lanes 80#32)) (fun k hk => ⟨cell_ok (by decide) hk, cell_ok (by decide) hk⟩)) $$ HRC
  iintro HRC
  iapply (load_cols d L 80 (by decide) ei) $$ Hi
  iintro Hi
  rw [wp_pure]
  imodintro
  isplitr
  · ipureintro; rfl
  isplitl [Hi]; · iexact Hi
  isplitl [HRC]; · iexact HRC
  iexact Hcg

theorem part5_wp :
    (St d L ei R C c g)
      ⊢ wp frame (wpE (defs₀ (F := F)) 𝒱₀ (tile d L) none) Set.univ
          (k2_part5 L xnV (Memref.isWhole_whole _) edV (Memref.isWhole_whole _) paV (Memref.isWhole_whole _) riV (Memref.isWhole_whole _) ciV (Memref.isWhole_whole _)
            rrV (Memref.isWhole_whole _) crV (Memref.isWhole_whole _) caV (Memref.isWhole_whole _) daV (Memref.isWhole_whole _)
            cc2_scratch6 cc2_scratch7 cc2_scoped0 cc2_scoped1 cc2_scoped2 cc2_scoped3 cc2_scoped4 cc2_scoped5 iota16 zero16 one16
            (dotAt 80 (by decide) R C) (colsAt 80 (by decide) ei) (broadcast S16 1#1))
          fun r => iprop(⌜∃ v165 v166, r = ⟨(dotAt 96 (by decide) R C), (colsAt 96 (by decide) ei), cnt (colsAt 96 (by decide) ei), mx (colsAt 96 (by decide) ei), chk_ok (h.cols 96 (by decide)), v165, v166⟩⌝
            ∗ St d L ei R C (grpC 96 (by decide) h R C (grpC 80 (by decide) h R C c)) (grpD 96 (by decide) h (grpD 80 (by decide) h g))) := by
  unfold k2_part5
  iintro ⟨Hi, HRC, Hcg⟩
  iapply (chk_step d L (chk_ok (h.cols 80 (by decide))))
  iapply (peel_loop d L (h.cols 80 (by decide)) (dotAt 80 (by decide) R C) _ _) $$ Hcg
  iintro %r0 Hcg
  iapply (rem_loop d L)
  iapply (dot_loop d L (b := 96#32) (base_le 96 (by decide)) R C (P := k2_chk13 (lanes 96#32)) (fun k hk => ⟨cell_ok (by decide) hk, cell_ok (by decide) hk⟩)) $$ HRC
  iintro HRC
  iapply (load_cols d L 96 (by decide) ei) $$ Hi
  iintro Hi
  iapply (chk_step d L (chk_ok (h.cols 96 (by decide))))
  iapply (peel_loop d L (h.cols 96 (by decide)) (dotAt 96 (by decide) R C) _ _) $$ Hcg
  iintro %r1 Hcg
  rw [wp_pure]
  imodintro
  isplitr
  · ipureintro; exact ⟨_, _, rfl⟩
  isplitl [Hi]; · iexact Hi
  isplitl [HRC]; · iexact HRC
  iexact Hcg

end Cert.Proof.K

end
-- ==== Proof.Chunk.lean ====
/-
  The head of a chunk: its two lists of 128 node numbers copied in, the rows they name gathered, the first group's dot
  products.
-/
module

public import proofs.«01_k».proof.Proof.Groups

@[expose] public section

noncomputable section

namespace Cert.Proof.K

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-! ## What the copies bring -/

/-- The 128 places of the flat edge list a chunk reads its row numbers from, and those of its column numbers. -/
abbrev riSrc (L : grid2.Coords) (t : Fin (k2_t2_loop L).trips) : Memref sig .scVector .hbm S128 .i32 :=
  edV.slice (Rect.unit (s := S640000) (k2_off2 L t) S128.size (k2_off2_inb L t)) (fun _ => rfl)
abbrev ciSrc (L : grid2.Coords) (t : Fin (k2_t2_loop L).trips) : Memref sig .scVector .hbm S128 .i32 :=
  edV.slice (Rect.unit (s := S640000) (k2_off3 L t) S128.size (k2_off3_inb L t)) (fun _ => rfl)

/-- The row numbers and the column numbers of chunk `t`. -/
def riList (L : grid2.Coords) (EF : Vec F S640000 .i32) (t : Fin (k2_t2_loop L).trips) : Vec F S128 .i32 := (riSrc L t).view.read (Elt F) EF
def ciList (L : grid2.Coords) (EF : Vec F S640000 .i32) (t : Fin (k2_t2_loop L).trips) : Vec F S128 .i32 := (ciSrc L t).view.read (Elt F) EF

/-- Place `n` of the flat edge list. -/
def flatAt (n : ℕ) (hn : n < 640000) : S640000.Idx := fun a => match a with | 0 => ⟨n, hn⟩

/-- Chunk `t`'s first edge. -/
abbrev edge0 (L : grid2.Coords) (t : ℕ) : ℕ := 4096 * t + 2048 * (L 0).val + 128 * (L 1).val

theorem edge_lt (L : grid2.Coords) (t : Fin (k2_t2_loop L).trips) (x : S128.Idx) : edge0 L t.val + (x 0).val < 320000 := by
  have h := k2_off3_inb L t 0
  rw [k2_off3_eq, Matrix.cons_val_zero, show S128.size 0 = 128 from rfl, show S640000.size 0 = 640000 from rfl] at h
  have hx : (x 0).val < 128 := (x 0).isLt
  unfold edge0
  omega

theorem riList_apply (L : grid2.Coords) (EF : Vec F S640000 .i32) (t : Fin (k2_t2_loop L).trips) (x : S128.Idx) :
    riList L EF t x = EF (flatAt (edge0 L t.val + (x 0).val) (by have := edge_lt L t x; omega)) := by
  unfold riList
  rw [View.read_apply]
  refine (cast_eq _ _).trans (congrArg EF ?_)
  funext a
  rw [Fin.eq_zero a]
  apply Fin.ext
  show k2_off2 L t 0 + 1 * (x 0).val = _
  rw [k2_off2_eq]
  show edge0 L t.val + 1 * (x 0).val = edge0 L t.val + (x 0).val
  omega

theorem ciList_apply (L : grid2.Coords) (EF : Vec F S640000 .i32) (t : Fin (k2_t2_loop L).trips) (x : S128.Idx) :
    ciList L EF t x = EF (flatAt (320000 + (edge0 L t.val + (x 0).val)) (by have := edge_lt L t x; omega)) := by
  unfold ciList
  rw [View.read_apply]
  refine (cast_eq _ _).trans (congrArg EF ?_)
  funext a
  rw [Fin.eq_zero a]
  apply Fin.ext
  show k2_off3 L t 0 + 1 * (x 0).val = _
  rw [k2_off3_eq, Matrix.cons_val_zero]
  show _ = 320000 + (edge0 L t.val + (x 0).val)
  unfold edge0
  omega

/-- Every word of the flat edge list is the number of a row. -/
def EdgesOK (EF : Vec F S640000 .i32) : Prop := ∀ j, (EF j : BitVec 32).toNat < 10000

theorem EdgesOK.ri {EF : Vec F S640000 .i32} (h : EdgesOK EF) (L : grid2.Coords) (t : Fin (k2_t2_loop L).trips) : ListOK (riList L EF t) :=
  fun j => by rw [riList_apply]; exact h _
theorem EdgesOK.ci {EF : Vec F S640000 .i32} (h : EdgesOK EF) (L : grid2.Coords) (t : Fin (k2_t2_loop L).trips) : ListOK (ciList L EF t) :=
  fun j => by rw [ciList_apply]; exact h _

/-- Place `n` of a list of 128. -/
def placeAt (n : Fin 128) : S128.Idx := fun a => match a with | 0 => n

/-- A row's and a lane's place in the table of rows. -/
def cellAt (r : ℕ) (hr : r < 10000) (k : Fin 128) : S10000x128.Idx := fun a => match a with
  | 0 => ⟨r, hr⟩
  | 1 => k

/-- The 128 rows the list names. -/
def rowsOf (XN : Vec F S10000x128 .f32) {ei : Vec F S128 .i32} (h : ListOK ei) : Vec F S128x128 .f32 :=
  fun x => XN (cellAt (ei (placeAt (x 0)) : BitVec 32).toNat (h _) (x 1))

/-- All of the table, as the gathers address it. -/
abbrev xnAll : Memref sig .scVector .hbm S10000x128 .f32 :=
  xnV.slice (Rect.unit (s := S10000x128) ![0, 0] S10000x128.size inb_S10000x128_S10000x128_0_0) (fun _ => rfl)

theorem read_xnAll (XN : Vec F S10000x128 .f32) : xnAll.view.read (Elt F) XN = XN := by
  funext x
  rw [View.read_apply]
  refine (cast_eq _ _).trans (congrArg XN ?_)
  funext a
  apply Fin.ext
  match a with
  | 0 => show 0 + 1 * (x 0).val = (x 0).val; omega
  | 1 => show 0 + 1 * (x 1).val = (x 1).val; omega

theorem placeAt_eq (k : Fin (S128x128.size gathers_S10000x128_S128x128.axis')) (h : S128.numel = S128x128.size gathers_S10000x128_S128x128.axis') :
    S128.rowMajor.symm (k.cast h.symm) = placeAt k := by
  rw [Equiv.symm_apply_eq]
  apply Fin.ext
  exact (Shape.rowMajor_val_one (placeAt k)).symm

theorem gather_eq (XN : Vec F S10000x128 .f32) {ei : Vec F S128 .i32} (h : ListOK ei)
    (hn : S128.numel = S128x128.size gathers_S10000x128_S128x128.axis') (hin : ∀ x, (ei x : BitVec 32).toNat < S10000x128.size gathers_S10000x128_S128x128.axis) :
    SparseCore.gatherPayload (F := F) (e := .f32) gathers_S10000x128_S128x128 XN (SparseCore.rows ei hn hin) = rowsOf XN h := by
  funext x
  unfold SparseCore.gatherPayload rowsOf
  refine congrArg XN ?_
  funext a
  apply Fin.ext
  match a with
  | 0 =>
    show (ei (S128.rowMajor.symm ((x 0).cast hn.symm)) : BitVec 32).toNat = _
    rw [placeAt_eq _ hn]; rfl
  | 1 => rfl

/-! ## The head of a chunk -/

variable [FloatOps F] [Named F] (d : Dev nD) (L : grid2.Coords)

/-- The tile's share of the table of rows, and of the flat edge list. -/
abbrev xnPts (q : PosShare TreeShare) (XN : Vec F S10000x128 .f32) : sProp 𝕄 := xnV.view.loc (tile d L) ↦{q} XN
abbrev edPts (q : PosShare TreeShare) (EF : Vec F S640000 .i32) : sProp 𝕄 := edV.view.loc (tile d L) ↦{q} EF

/-- The four semaphores a chunk waits on, at zero. -/
abbrev chunkSems : sProp 𝕄 :=
  iprop(semVal (tile d L, .dma cc2_scoped0.sem) 0 ∗ semVal (tile d L, .dma cc2_scoped1.sem) 0
    ∗ semVal (tile d L, .dma cc2_scratch6.sem) 0 ∗ semVal (tile d L, .dma cc2_scratch7.sem) 0)

/-- The waits recorded so far add none but the tile's own to those at the start. -/
abbrev owesOwn (O : CellTallies nD τ sig (HIx 1)) (W : Waits sig (HIx 1)) : sProp 𝕄 :=
  iprop(∃ W', ⌜∀ p ∈ W', p ∈ W ∨ p.2 = none⌝ ∗ owes (tile d L) O W')

omit [FloatOps F] [Named F] in
theorem sum_credit : ∀ h : S10000x128.Gathers 0 S128x128, ∑ j, (rrV.slice (S128x128.rowRect h.axis' j) (S128x128.stride_rowRect h.axis' j)).view.dmaCredit
    = rrV.view.dmaCredit := by decide
omit [FloatOps F] [Named F] in
theorem sum_credit' : ∀ h : S10000x128.Gathers 0 S128x128, ∑ j, (crV.slice (S128x128.rowRect h.axis' j) (S128x128.stride_rowRect h.axis' j)).view.dmaCredit
    = crV.view.dmaCredit := by decide

set_option maxHeartbeats 4000000 in
theorem part1_wp (q : PosShare TreeShare) (XN : Vec F S10000x128 .f32) {EF : Vec F S640000 .i32} (hE : EdgesOK EF) (t : Fin (k2_t2_loop L).trips)
    (O : CellTallies nD τ sig (HIx 1)) (W : Waits sig (HIx 1)) (v1 : BitVec 32) :
    iprop(Transfers.MayWaits (tile d L) (default : HIx 1) O ∗ xnPts d L q XN ∗ edPts d L q EF ∗ (∃ f, riPts d L f) ∗ (∃ f, ciPts d L f)
        ∗ (∃ f, rrPts d L f) ∗ (∃ f, crPts d L f) ∗ chunkSems d L ∗ owesOwn d L O W)
      ⊢ wp frame (wpE (defs₀ (F := F)) 𝒱₀ (tile d L) none) Set.univ
          (k2_part1 L xnV (Memref.isWhole_whole _) edV (Memref.isWhole_whole _) paV (Memref.isWhole_whole _) riV (Memref.isWhole_whole _) ciV (Memref.isWhole_whole _)
            rrV (Memref.isWhole_whole _) crV (Memref.isWhole_whole _) caV (Memref.isWhole_whole _) daV (Memref.isWhole_whole _)
            cc2_scratch6 cc2_scratch7 cc2_scoped0 cc2_scoped1 cc2_scoped2 cc2_scoped3 cc2_scoped4 cc2_scoped5 v1 iota16 zero16 0#32 1#32 t)
          fun r => iprop(⌜r = ⟨dotAt 0 (by decide) (rowsOf XN (hE.ri L t)) (rowsOf XN (hE.ci L t)), colsAt 0 (by decide) (ciList L EF t),
                cnt (colsAt 0 (by decide) (ciList L EF t)), mx (colsAt 0 (by decide) (ciList L EF t)), chk_ok ((hE.ci L t).cols 0 (by decide))⟩⌝
            ∗ xnPts d L q XN ∗ edPts d L q EF ∗ (∃ f, riPts d L f) ∗ ciPts d L (ciList L EF t)
            ∗ (rrPts d L (rowsOf XN (hE.ri L t)) ∗ crPts d L (rowsOf XN (hE.ci L t))) ∗ chunkSems d L ∗ owesOwn d L O W) := by
  unfold k2_part1
  iintro ⟨#Hmw, Hx, He, ⟨%f0, Hri⟩, ⟨%f1, Hci⟩, ⟨%f2, Hrr⟩, ⟨%f3, Hcr⟩, ⟨HsA, HsB, HsC, HsD⟩, ⟨%W', %hW', HO⟩⟩
  ihave Hri' := (Entails.of_eq (show (riPts d L f0 : sProp 𝕄) = riV.view.loc (tile d L) ↦{fullShare} f0 from rfl)) $$ Hri
  ihave Hci' := (Entails.of_eq (show (ciPts d L f1 : sProp 𝕄) = ciV.view.loc (tile d L) ↦{fullShare} f1 from rfl)) $$ Hci
  sl_exec
  ihave Hri := (Entails.of_eq (show (riV.view.loc (tile d L) ↦{fullShare} View.write (Elt F) riV.view f0 (part1_wp.sl.dma0 L t) Finset.univ : sProp 𝕄)
      = riV.view.loc (tile d L) ↦[riV.view.set]{fullShare} riList L EF t by
        rw [show riV.view.set = Finset.univ from View.set_whole _, View.write_whole_univ]; rfl)) $$ Hri'
  ihave Hci := (Entails.of_eq (show (ciV.view.loc (tile d L) ↦{fullShare} View.write (Elt F) ciV.view f1 (part1_wp.sl.dma0_1 L t) Finset.univ : sProp 𝕄)
      = ciV.view.loc (tile d L) ↦[ciV.view.set]{fullShare} ciList L EF t by
        rw [show ciV.view.set = Finset.univ from View.set_whole _, View.write_whole_univ]; rfl)) $$ Hci'
  ihave Hrr' := (Entails.of_eq (show (rrPts d L f2 : sProp 𝕄) = rrV.view.loc (tile d L) ↦[rrV.view.set]{fullShare} f2 by
        rw [show rrV.view.set = Finset.univ from View.set_whole _])) $$ Hrr
  ihave Hcr' := (Entails.of_eq (show (crPts d L f3 : sProp 𝕄) = crV.view.loc (tile d L) ↦[crV.view.set]{fullShare} f3 by
        rw [show crV.view.set = Finset.univ from View.set_whole _])) $$ Hcr
  ihave Hxx := (pointsTo_share (PosShare.mem_left_op_right q)).1 $$ Hx
  icases Hxx with ⟨Hxl, Hxr⟩
  ihave Hxl' := (pointsTo_split_subset (ℓ := xnV.view.loc (tile d L)) (q := q.left) (f := XN) (S := Finset.univ) (Finset.subset_univ xnAll.view.set)).1 $$ Hxl
  icases Hxl' with ⟨Hxl, Hxl0⟩
  ihave Hxr' := (pointsTo_split_subset (ℓ := xnV.view.loc (tile d L)) (q := q.right) (f := XN) (S := Finset.univ) (Finset.subset_univ xnAll.view.set)).1 $$ Hxr
  icases Hxr' with ⟨Hxr, Hxr0⟩
  iapply (SparseCore.wp_indirectGatherLocal countersEmb 𝒱₀ (tile d L) none (hg := gathers_S10000x128_S128x128) (default : HIx 1)
      rrV.view.dmaCredit (sum_credit _) (by decide) (src := xnAll) (dst := rrV) (offs := riV) (fo := riList L EF t) (hE.ri L t)) $$ [Hxl Hrr' Hri HsC]
  · isplitl [Hxl]; · iexact Hxl
    isplitl [Hrr']; · iexact Hrr'
    isplitl [Hri]; · iexact Hri
    iexact HsC
  iintro HflA
  iapply (SparseCore.wp_indirectGatherLocal countersEmb 𝒱₀ (tile d L) none (hg := gathers_S10000x128_S128x128) (default : HIx 1)
      crV.view.dmaCredit (sum_credit' _) (by decide) (src := xnAll) (dst := crV) (offs := ciV) (fo := ciList L EF t) (hE.ci L t)) $$ [Hxr Hcr' Hci HsD]
  · isplitl [Hxr]; · iexact Hxr
    isplitl [Hcr']; · iexact Hcr'
    isplitl [Hci]; · iexact Hci
    iexact HsD
  iintro HflB
  iapply (Transfers.wp_waitLocalO countersEmb 𝒱₀ (tile d L) none (default : HIx 1) (rfl : rrV.view.dmaCredit = _)) $$ [HflA HO]
  · isplitl [HflA]; · iexact HflA
    isplitl [HO]; · iexact HO
    iapply (Transfers.MayWaits.elim (SemLoc.dma cc2_scratch6.sem)) $$ Hmw
  iintro ⟨⟨Hrr', Hxl, Hri⟩, HsC, HO⟩
  iapply (Transfers.wp_waitLocalO countersEmb 𝒱₀ (tile d L) none (default : HIx 1) (rfl : crV.view.dmaCredit = _)) $$ [HflB HO]
  · isplitl [HflB]; · iexact HflB
    isplitl [HO]; · iexact HO
    iapply (Transfers.MayWaits.elim (SemLoc.dma cc2_scratch7.sem)) $$ Hmw
  iintro ⟨⟨Hcr', Hxr, Hci⟩, HsD, HO⟩
  ihave Hxl := (pointsTo_split_subset (ℓ := xnV.view.loc (tile d L)) (q := q.left) (f := XN) (S := Finset.univ) (Finset.subset_univ xnAll.view.set)).2 $$ [Hxl Hxl0]
  · isplitl [Hxl] <;> iassumption
  ihave Hxr := (pointsTo_split_subset (ℓ := xnV.view.loc (tile d L)) (q := q.right) (f := XN) (S := Finset.univ) (Finset.subset_univ xnAll.view.set)).2 $$ [Hxr Hxr0]
  · isplitl [Hxr] <;> iassumption
  ihave Hx := (pointsTo_share (PosShare.mem_left_op_right q)).2 $$ [Hxl Hxr]
  · isplitl [Hxl] <;> iassumption
  ihave Hrr := (Entails.of_eq (show (rrV.view.loc (tile d L) ↦[rrV.view.set]{fullShare} View.write (Elt F) rrV.view f2
      (SparseCore.gatherPayload gathers_S10000x128_S128x128 (xnAll.view.read (Elt F) XN) (SparseCore.rows (riV.view.read (Elt F) (riList L EF t)) rfl (hE.ri L t))) Finset.univ : sProp 𝕄)
      = rrPts d L (rowsOf XN (hE.ri L t)) by
        rw [show rrV.view.set = Finset.univ from View.set_whole _, View.write_whole_univ, read_xnAll]
        exact congrArg (fun f : Vec F S128x128 .f32 => rrPts d L f) (gather_eq XN (hE.ri L t) rfl (hE.ri L t)))) $$ Hrr'
  ihave Hcr := (Entails.of_eq (show (crV.view.loc (tile d L) ↦[crV.view.set]{fullShare} View.write (Elt F) crV.view f3
      (SparseCore.gatherPayload gathers_S10000x128_S128x128 (xnAll.view.read (Elt F) XN) (SparseCore.rows (ciV.view.read (Elt F) (ciList L EF t)) rfl (hE.ci L t))) Finset.univ : sProp 𝕄)
      = crPts d L (rowsOf XN (hE.ci L t)) by
        rw [show crV.view.set = Finset.univ from View.set_whole _, View.write_whole_univ, read_xnAll]
        exact congrArg (fun f : Vec F S128x128 .f32 => crPts d L f) (gather_eq XN (hE.ci L t) rfl (hE.ci L t)))) $$ Hcr'
  ihave Hci' := (Entails.of_eq (show (ciV.view.loc (tile d L) ↦[ciV.view.set]{fullShare} ciList L EF t : sProp 𝕄)
      = ciPts d L (ciList L EF t) by rw [show ciV.view.set = Finset.univ from View.set_whole _])) $$ Hci
  ihave Hri' := (Entails.of_eq (show (riV.view.loc (tile d L) ↦[riV.view.set]{fullShare} riList L EF t : sProp 𝕄)
      = riPts d L (riList L EF t) by rw [show riV.view.set = Finset.univ from View.set_whole _])) $$ Hri
  iapply (dot_loop d L (b := 0#32) (base_le 0 (by decide)) (rowsOf XN (hE.ri L t)) (rowsOf XN (hE.ci L t)) (P := k2_chk1 (lanes 0#32))
    (fun k hk => ⟨cell_ok (by decide) hk, cell_ok (by decide) hk⟩)) $$ [Hrr Hcr]
  · isplitl [Hrr]; · iexact Hrr
    iexact Hcr
  iintro HRC
  iapply (load_cols d L 0 (by decide) (ciList L EF t)) $$ Hci'
  iintro Hci
  iapply (chk_step d L (chk_ok ((hE.ci L t).cols 0 (by decide))))
  rw [wp_pure]
  imodintro
  isplitr
  · ipureintro; rfl
  isplitl [Hx]; · iexact Hx
  isplitl [He]; · iexact He
  isplitl [Hri']; · iexists _; iexact Hri'
  isplitl [Hci]; · iexact Hci
  isplitl [HRC]; · iexact HRC
  isplitl [HsA HsB HsC HsD]
  · isplitl [HsA]; · iexact HsA
    isplitl [HsB]; · iexact HsB
    isplitl [HsC]; · iexact HsC
    iexact HsD
  iexists _
  isplitr
  swap; · iexact HO
  ipureintro; intro p hp
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  exact hW' p hp

end Cert.Proof.K

end
-- ==== Proof.TcNorm.lean ====
/-
  The first TensorCore call: every row of `x` divided by its length, two thousand rows at a time.
-/
module

public import proofs.«01_k».proof.Proof.Region
public import proofs.«01_k».proof.Proof.Chunk
public import Idealize.ShloMosaic.Lib.Pipeline.ValueKit

@[expose] public section

noncomputable section

namespace Cert.Proof.K

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

local notation "𝕄" => MT nD τ sig (HIx 1) (Elt F) ℕ UU ℕ

/-- A whole buffer owned at `X` is its one points-to. -/
theorem owns_isWhole (c : Dev nD) {sp : Space} {s : Shape} {e : EltTy} {M : Memref sig .tc sp s e} (h : M.IsWhole) (X : s.Idx → Elt F e) :
    (owns (c.tc : Thread nD τ) M fullShare X : sProp 𝕄) = (M.view.loc (c.tc : Thread nD τ) ↦{fullShare} h.unread X) := by
  have h1 : (owns (c.tc : Thread nD τ) M fullShare X : sProp 𝕄) ⊢ (M.view.loc (c.tc : Thread nD τ) ↦{fullShare} h.unread X) := by
    unfold owns
    rw [h.set_eq_univ]
    iintro ⟨%f, %hf, H⟩
    rw [h.eq_unread hf]
    iexact H
  have h2 : (M.view.loc (c.tc : Thread nD τ) ↦{fullShare} h.unread X) ⊢ (owns (c.tc : Thread nD τ) M fullShare X : sProp 𝕄) := by
    unfold owns
    rw [h.set_eq_univ]
    iintro H
    iexists h.unread X
    isplitr; · ipureintro; exact h.read_unread X
    iexact H
  exact BI.Entails.antisymm h1 h2

/-- A whole buffer loaded whole, at the contents that read `X`. -/
theorem load_whole {sp : Space} {s : Shape} {e : EltTy} {M : Memref sig .tc sp s e} (h : M.IsWhole) (X : s.Idx → Elt F e)
    {off : Fin s.rank → Nat} (inb : ∀ a, off a + s.size a ≤ s.size a) (h0 : ∀ a, off a = 0) :
    M.view.readAt (Elt F) (Rect.unit off s.size inb).toLoadRect (h.unread X) = X := by
  rw [View.readAt_eq_ld, View.ld_unit_lit _ _ h0, h.read_unread]

/-- One block of rows, each divided by its length. -/
def normBlk (X : Vec F S2000x128 .f32) : Vec F S2000x128 .f32 :=
  divf X (broadcastTo S2000x128 (sqrt (shapeCast S2000x1
    (multiReduction .add [1] S2000 (mulf X X) 0x00000000#32 reduces_S2000x128_S2000 (.inl rfl) rfl) shapeCasts_S2000_S2000x1)) broadcasts_S2000x1_S2000x128)

theorem norm_run (c : Dev nD) (i : grid0.Coords) {M0 M1 : Memref sig .tc .vmem S2000x128 .f32} (h0 : M0.IsWhole) (h1 : M1.IsWhole)
    (X Y : Vec F S2000x128 .f32) :
    iprop(owns (c.tc : Thread nD τ) M0 fullShare X ∗ owns (c.tc : Thread nD τ) M1 fullShare Y)
      ⊢ wp frame (wpE (defs₀ (F := F)) 𝒱₀ (c.tc : Thread nD τ) none) Set.univ (cc0__norm_body i M0 h0 M1 h1)
          fun _ => (iprop(owns (c.tc : Thread nD τ) M0 fullShare X ∗ owns (c.tc : Thread nD τ) M1 fullShare (normBlk X)) : sProp 𝕄) := by
  simp only [owns_isWhole c h0, owns_isWhole c h1]
  iintro ⟨H0, H1⟩
  sl_exec!
  sl_step
  isplitl [H0]; · iexact H0
  refine BIBase.Entails.trans (Entails.of_eq (congrArg _ (h1.eq_unread ?_))) .rfl
  rw [View.read_writes_junk_eq_canon]
  unfold norm_run.sl.H1_1
  rw [View.canon_cons_unit_lit _ _ _ (by decide)]
  exact congrArg (normBlk (F := F)) (load_whole h0 X _ (by decide))

/-! ## The call's data -/

/-- Anything: the data of a call that is not the one at hand. -/
def idleDat {cfg : Pipeline.Cfg sig Λ₀} (c : Dev nD) : Pipeline.Dat τ (Elt F) (HIx 1) ℕ UU ℕ cfg c where
  A _ := fun _ => Classical.arbitrary _
  after _ _ := fun _ => Classical.arbitrary _
  Φ _ := BI.emp
  q _ := fullShare
  owed _ := 0

variable (X Z : Dev nD → Vec F S10000x128 .f32)

/-- The rows the call fetches at grid point `t`. -/
abbrev normIn (c : Dev nD) (t : Fin cfg0.N) : Vec F S2000x128 .f32 := ((cfg0.win 0).blk t).view.read (Elt F) (X c)

def normDat (c : Dev nD) : Pipeline.Dat τ (Elt F) (HIx 1) ℕ UU ℕ cfg0 c where
  A w := match w with
    | ⟨0, _⟩ => X c
    | ⟨1, _⟩ => Z c
  after w t := match w with
    | ⟨0, _⟩ => normIn X c t
    | ⟨1, _⟩ => normBlk (normIn X c t)
  Φ _ := Pipeline.scopedRest spec0 c
  q _ := fullShare
  owed _ := (K (F := F)).Otc c 0
  recorded _ := below (F := F) 0 c

def normDats : (p : Fin 3) → (c : Dev nD) → Pipeline.Dat τ (Elt F) (HIx 1) ℕ UU ℕ (Pipeline.pin (pcfgs (F := F)) adm p) c
  | ⟨0, _⟩ => fun c => normDat X Z c
  | ⟨1, _⟩ => fun c => idleDat c
  | ⟨2, _⟩ => fun c => idleDat c

theorem norm_before (c : Dev nD) (t : Fin cfg0.N) (d : Vec F S2000x128 .f32) : (normDat X Z c).before 0 t d = normIn X c t := by
  rw [(normDat X Z c).before_fetched 0 t (fetch0_0 t)]
  rfl

theorem norm_body (c : Dev nD) : Pipeline.BodyObligation (normDat X Z c) (defs₀ (F := F)) 𝒱₀ none Set.univ := fun t => by
  rw [bigSep_W0, bigSep_W0]
  rw [show (normDat X Z c).owesAt none t.succ = (normDat X Z c).owesAt none t.castSucc from rfl,
    show (normDat X Z c).Φ t.succ = (normDat X Z c).Φ t.castSucc from rfl]
  iintro ⟨HΦ, HO, ⟨%d0, H0⟩, ⟨%d1, H1⟩⟩
  rw [norm_before]
  ihave Hr := (norm_run c (grid0.coords t) (hstage0_0 ((cfg0.slots t 0).cast nbuf0_0)) (hstage0_1 ((cfg0.slots t 1).cast nbuf0_1))
    (normIn X c t) ((normDat X Z c).before 1 t d1)) $$ [H0 H1]
  · isplitl [H0]; · iexact H0
    iexact H1
  iapply (wp_wand_r frame _ Set.univ)
  isplitl [Hr]; · iexact Hr
  iintro %_ ⟨H0, H1⟩
  isplitl [HΦ]; · iexact HΦ
  isplitl [HO]; · iexact HO
  isplitl [H0]; · iexact H0
  iexact H1

theorem norm_ok : CallOK (F := F) 0 0 (normDats X Z) where
  kit := launch0
  body c := (norm_body X Z c).loose
  owed _ _ := rfl
  recorded _ _ := rfl
  share c := (normDat X Z c).share_full fun _ => rfl
  inv _ _ := rfl

/-- An element of a block of rows. -/
def normIx (r : Fin 2000) (k : Fin 128) : S2000x128.Idx := fun a => match a with
  | ⟨0, _⟩ => r
  | ⟨1, _⟩ => k

/-- Every row of `X` divided by its length. -/
def normAll (X : Vec F S10000x128 .f32) : Vec F S10000x128 .f32 := fun y =>
  normBlk (fun z => X (cellAt (2000 * ((y 0).val / 2000) + (z 0).val) (by
      have h : (y 0).val < 10000 := (y 0).isLt
      have h' : (z 0).val < 2000 := (z 0).isLt
      omega) (z 1)))
    (normIx ⟨(y 0).val % 2000, Nat.mod_lt _ (by decide)⟩ (y 1))

theorem norm_ix0 : ∀ t : Fin cfg0.N, win0_0.index t = ![t.val, 0] := (by decide +kernel : ∀ t : Fin grid0.N, _)
theorem norm_ix1 : ∀ t : Fin cfg0.N, win0_1.index t = ![t.val, 0] := (by decide +kernel : ∀ t : Fin grid0.N, _)

theorem norm_value (c : Dev nD) : (normDat X Z c).arrAt 1 cfg0.N = normAll (X c) := by
  refine (normDat X Z c).arrAt_eq_of_covers 1 _ (by decide +kernel) fun t hf y => ?_
  blk_simp
  have hy0 : (y 0).val < 2000 := (y 0).isLt
  have e0 : ((win0_1.blk t).view.emb y 0 : ℕ) = t.val * 2000 + (y 0).val := by blk_simp [norm_ix1]
  have e1 : ((win0_1.blk t).view.emb y 1 : ℕ) = (y 1).val := by blk_simp [norm_ix1]
  show normBlk (normIn X c t) y = _
  unfold normAll
  congr 1
  · funext z
    show X c _ = X c _
    congr 1
    funext a
    apply Fin.ext
    have hz0 : (z 0).val < 2000 := (z 0).isLt
    match a with
    | ⟨0, _⟩ =>
      have e : ((win0_0.blk t).view.emb z 0 : ℕ) = t.val * 2000 + (z 0).val := by blk_simp [norm_ix0]
      exact e.trans (by show _ = 2000 * (((win0_1.blk t).view.emb y 0 : ℕ) / 2000) + (z 0).val; rw [e0]; omega)
    | ⟨1, _⟩ =>
      have e : ((win0_0.blk t).view.emb z 1 : ℕ) = (z 1).val := by blk_simp [norm_ix0]
      exact e
  · funext a
    apply Fin.ext
    match a with
    | ⟨0, _⟩ => show (y 0).val = ((win0_1.blk t).view.emb y 0 : ℕ) % 2000; rw [e0]; omega
    | ⟨1, _⟩ => exact e1.symm

end Cert.Proof.K

end
-- ==== Proof.TcTable.lean ====
/-
  The second TensorCore call: the four rows of the prompt table, one per pair of flags, each the attention's first row over
  its own four slots (and four slots of padding).
-/
module

public import proofs.«01_k».proof.Proof.TcNorm

@[expose] public section

noncomputable section

namespace Cert.Proof.K

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

local notation "𝕄" => MT nD τ sig (HIx 1) (Elt F) ℕ UU ℕ

/-! ## The table as a function of the arguments -/

section Table

variable (ps pd po : Vec F S1x128 .f32) (ro : Vec F S1x1x128 .f32)
  (wq : Vec F S128x128 .f32) (bq : Vec F S128 .f32) (wk : Vec F S128x128 .f32) (bk : Vec F S128 .f32)
  (wv : Vec F S128x128 .f32) (bv : Vec F S128 .f32) (wo : Vec F S128x128 .f32) (bo : Vec F S128 .f32)

/-- Four slots over four rows of zeros. -/
def slots (a b c d : Vec F S1x128 .f32) : Vec F S8x128 .f32 :=
  concatenate S8x128 0 [⟨S1x128, a⟩, ⟨S1x128, b⟩, ⟨S1x128, c⟩, ⟨S1x128, d⟩, ⟨S4x128, broadcast S4x128 (Scalar.ofBits .f32 0x00000000#32)⟩]
    concatenates_S1x128_S1x128_S1x128_S1x128_S4x128_S8x128_d0

/-- An empty slot: minus ones. -/
def empty : Vec F S1x128 .f32 := broadcast S1x128 (Scalar.ofBits .f32 0xBF800000#32)

/-- The slots that take no part: those that are minus ones throughout, and the padding. -/
def padded (r : Vec F S8x128 .f32) : IVec S8 1 :=
  ori (cmpf .ogt (multiReduction .minimumf [1] S8
      (select (cmpf .oeq r (broadcast S8x128 (Scalar.ofBits .f32 0xBF800000#32))) (broadcast S8x128 (Scalar.ofBits (F := F) .f32 0x3F800000#32))
        (broadcast S8x128 (Scalar.ofBits .f32 0x00000000#32)))
      0x7F800000#32 reduces_S8x128_S8 (.inl rfl) rfl) (broadcast S8 (Scalar.ofBits .f32 0x00000000#32)))
    (cmpi .sge (shapeCast S8 (iota .tc S1x8 32 [1] iota_S1x8_d1_w32) shapeCasts_S1x8_S8) (broadcast S8 4#32))

/-- Every row times the transpose of `w`, plus `b`. -/
def project (r : Vec F S8x128 .f32) (w : Vec F S128x128 .f32) (b : Vec F S128 .f32) : Vec F S8x128 .f32 :=
  addf (matmul dot_S8x128_S128x128_S8x128_1_1_0_0_n_n none r w (constant S8x128 .f32 0x00000000#32))
    (broadcastTo S8x128 (shapeCast S1x128 b shapeCasts_S128_S1x128) broadcasts_S1x128_S8x128)

/-- The scores of the slots against each other, the slots of `p` masked. -/
def scores (p : IVec S8 1) (q k : Vec F S8x128 .f32) : Vec F S8x8 .f32 :=
  select (broadcastTo S8x8 (shapeCast S1x8 (shapeCast S1x8 p shapeCasts_S8_S1x8) shapeCasts_S1x8_S1x8) broadcasts_S1x8_S8x8)
    (broadcast S8x8 (Named.named κ "mask" 0xF149F2CA#32))
    (mulf (matmul dot_S8x128_S8x128_S8x8_1_1_0_0_n_n none q k (constant S8x8 .f32 0x00000000#32))
      (broadcast S8x8 (Scalar.divf (Scalar.ofBits .f32 0x3F800000#32) (Scalar.sqrt (Scalar.ofBits .f32 0x43000000#32)))))

/-- The exponentials of the scores, each row less its maximum. -/
def weights (s : Vec F S8x8 .f32) : Vec F S8x8 .f32 :=
  exp (subf s (broadcastTo S8x8 (shapeCast S8x1 (multiReduction .maximumf [1] S8 s 0xFF800000#32 reduces_S8x8_S8 (.inl rfl) rfl) shapeCasts_S8_S8x1)
    broadcasts_S8x1_S8x8))

/-- Each row over its sum. -/
def shares' (e : Vec F S8x8 .f32) : Vec F S8x8 .f32 :=
  divf e (broadcastTo S8x8 (shapeCast S8x1 (multiReduction .add [1] S8 e 0x00000000#32 reduces_S8x8_S8 (.inl rfl) rfl) shapeCasts_S8_S8x1)
    broadcasts_S8x1_S8x8)

/-- The attention's first row over the slots `r`. -/
def attend (r : Vec F S8x128 .f32) : Vec F S1x128 .f32 :=
  extractStridedSlice S1x128 ![0, 0]
    (project (matmul dot_S8x8_S8x128_S8x128_1_0_0_1_n_n none
      (shares' (weights (scores (padded r) (project r wq bq) (project r wk bk)))) (project r wv bv) (constant S8x128 .f32 0x00000000#32)) wo bo)
    slices_S8x128_o0_0_S1x128

/-- The readout as one row. -/
def readout : Vec F S1x128 .f32 := shapeCast S1x128 ro shapeCasts_S1x1x128_S1x128

/-- The table: the row of no flag, of the similarity flag, of the degree flag, of both. -/
def tableOf : Vec F S8x128 .f32 :=
  slots (attend wq bq wk bk wv bv wo bo (slots (readout ro) empty empty po))
    (attend wq bq wk bk wv bv wo bo (slots (readout ro) ps empty empty))
    (attend wq bq wk bk wv bv wo bo (slots (readout ro) empty pd empty))
    (attend wq bq wk bk wv bv wo bo (slots (readout ro) ps pd empty))

end Table

theorem table_run (c : Dev nD) {M0 : Memref sig .tc .vmem S1x128 .f32} {M1 : Memref sig .tc .vmem S1x128 .f32} {M2 : Memref sig .tc .vmem S1x128 .f32} {M3 : Memref sig .tc .vmem S1x1x128 .f32} {M4 : Memref sig .tc .vmem S128x128 .f32} {M5 : Memref sig .tc .vmem S128 .f32} {M6 : Memref sig .tc .vmem S128x128 .f32} {M7 : Memref sig .tc .vmem S128 .f32} {M8 : Memref sig .tc .vmem S128x128 .f32} {M9 : Memref sig .tc .vmem S128 .f32} {M10 : Memref sig .tc .vmem S128x128 .f32} {M11 : Memref sig .tc .vmem S128 .f32} {M12 : Memref sig .tc .vmem S8x128 .f32}
     (h0 : M0.IsWhole) (h1 : M1.IsWhole) (h2 : M2.IsWhole) (h3 : M3.IsWhole) (h4 : M4.IsWhole) (h5 : M5.IsWhole) (h6 : M6.IsWhole) (h7 : M7.IsWhole) (h8 : M8.IsWhole) (h9 : M9.IsWhole) (h10 : M10.IsWhole) (h11 : M11.IsWhole) (h12 : M12.IsWhole)
    (ps : Vec F S1x128 .f32) (pd : Vec F S1x128 .f32) (po : Vec F S1x128 .f32) (ro : Vec F S1x1x128 .f32) (wq : Vec F S128x128 .f32) (bq : Vec F S128 .f32) (wk : Vec F S128x128 .f32) (bk : Vec F S128 .f32) (wv : Vec F S128x128 .f32) (bv : Vec F S128 .f32) (wo : Vec F S128x128 .f32) (bo : Vec F S128 .f32) (Y : Vec F S8x128 .f32) :
    iprop(owns (c.tc : Thread nD τ) M0 fullShare ps ∗ owns (c.tc : Thread nD τ) M1 fullShare pd ∗ owns (c.tc : Thread nD τ) M2 fullShare po ∗ owns (c.tc : Thread nD τ) M3 fullShare ro ∗ owns (c.tc : Thread nD τ) M4 fullShare wq ∗ owns (c.tc : Thread nD τ) M5 fullShare bq ∗ owns (c.tc : Thread nD τ) M6 fullShare wk ∗ owns (c.tc : Thread nD τ) M7 fullShare bk ∗ owns (c.tc : Thread nD τ) M8 fullShare wv ∗ owns (c.tc : Thread nD τ) M9 fullShare bv ∗ owns (c.tc : Thread nD τ) M10 fullShare wo ∗ owns (c.tc : Thread nD τ) M11 fullShare bo ∗ owns (c.tc : Thread nD τ) M12 fullShare Y)
      ⊢ wp frame (wpE (defs₀ (F := F)) 𝒱₀ (c.tc : Thread nD τ) none) Set.univ (cc1__table_body M0 h0 M1 h1 M2 h2 M3 h3 M4 h4 M5 h5 M6 h6 M7 h7 M8 h8 M9 h9 M10 h10 M11 h11 M12 h12)
          fun _ => (iprop(owns (c.tc : Thread nD τ) M0 fullShare ps ∗ owns (c.tc : Thread nD τ) M1 fullShare pd ∗ owns (c.tc : Thread nD τ) M2 fullShare po ∗ owns (c.tc : Thread nD τ) M3 fullShare ro ∗ owns (c.tc : Thread nD τ) M4 fullShare wq ∗ owns (c.tc : Thread nD τ) M5 fullShare bq ∗ owns (c.tc : Thread nD τ) M6 fullShare wk ∗ owns (c.tc : Thread nD τ) M7 fullShare bk ∗ owns (c.tc : Thread nD τ) M8 fullShare wv ∗ owns (c.tc : Thread nD τ) M9 fullShare bv ∗ owns (c.tc : Thread nD τ) M10 fullShare wo ∗ owns (c.tc : Thread nD τ) M11 fullShare bo ∗ owns (c.tc : Thread nD τ) M12 fullShare (tableOf ps pd po ro wq bq wk bk wv bv wo bo)) : sProp 𝕄) := by
  simp only [owns_isWhole c h0, owns_isWhole c h1, owns_isWhole c h2, owns_isWhole c h3, owns_isWhole c h4, owns_isWhole c h5, owns_isWhole c h6, owns_isWhole c h7, owns_isWhole c h8, owns_isWhole c h9, owns_isWhole c h10, owns_isWhole c h11, owns_isWhole c h12]
  iintro ⟨H0, H1, H2, H3, H4, H5, H6, H7, H8, H9, H10, H11, H12⟩
  sl_exec!
  sl_step
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  refine BIBase.Entails.trans (Entails.of_eq (congrArg _ (h12.eq_unread ?_))) .rfl
  rw [View.read_writes_junk_eq_canon]
  unfold table_run.sl.H12_1
  rw [View.canon_cons_unit_lit _ _ _ (by decide)]
  have e0 := load_whole h0 ps inb_S1x128_S1x128_0_0 (by decide)
  have e1 := load_whole h1 pd inb_S1x128_S1x128_0_0 (by decide)
  have e2 := load_whole h2 po inb_S1x128_S1x128_0_0 (by decide)
  have e3 := load_whole h3 ro inb_S1x1x128_S1x1x128_0_0_0 (by decide)
  have e4 := load_whole h4 wq inb_S128x128_S128x128_0_0 (by decide)
  have e5 := load_whole h5 bq inb_S128_S128_0 (by decide)
  have e6 := load_whole h6 wk inb_S128x128_S128x128_0_0 (by decide)
  have e7 := load_whole h7 bk inb_S128_S128_0 (by decide)
  have e8 := load_whole h8 wv inb_S128x128_S128x128_0_0 (by decide)
  have e9 := load_whole h9 bv inb_S128_S128_0 (by decide)
  have e10 := load_whole h10 wo inb_S128x128_S128x128_0_0 (by decide)
  have e11 := load_whole h11 bo inb_S128_S128_0 (by decide)
  refine Eq.trans (b := tableOf _ _ _ _ _ _ _ _ _ _ _ _) ?_
    (congr (congr (congr (congr (congr (congr (congr (congr (congr (congr (congr (congrArg tableOf e0) e1) e2) e3) e4) e5) e6) e7) e8) e9) e10) e11)
  rfl

/-! ## The call's data -/

/-- What the call reads: the prompts, the readout, the four weights and biases. -/
structure TableArgs (F : FTy → Type) where
  ps : Vec F S1x128 .f32
  pd : Vec F S1x128 .f32
  po : Vec F S1x128 .f32
  ro : Vec F S1x1x128 .f32
  wq : Vec F S128x128 .f32
  bq : Vec F S128 .f32
  wk : Vec F S128x128 .f32
  bk : Vec F S128 .f32
  wv : Vec F S128x128 .f32
  bv : Vec F S128 .f32
  wo : Vec F S128x128 .f32
  bo : Vec F S128 .f32

/-- The table of them. -/
def TableArgs.table (A : TableArgs F) : Vec F S8x128 .f32 :=
  tableOf A.ps A.pd A.po A.ro A.wq A.bq A.wk A.bk A.wv A.bv A.wo A.bo

variable (A : Dev nD → TableArgs F) (Z : Dev nD → Vec F S8x128 .f32)

/-- The thirteen arrays at the call's entry, by window. -/
def tableIn (c : Dev nD) (o : Vec F S8x128 .f32) : (w : Fin 13) → Buf (Elt F) (((win1 w).arr.view.loc (c.tc : Thread nD τ)))
  | ⟨0, _⟩ => (A c).ps | ⟨1, _⟩ => (A c).pd | ⟨2, _⟩ => (A c).po | ⟨3, _⟩ => (A c).ro
  | ⟨4, _⟩ => (A c).wq | ⟨5, _⟩ => (A c).bq | ⟨6, _⟩ => (A c).wk | ⟨7, _⟩ => (A c).bk
  | ⟨8, _⟩ => (A c).wv | ⟨9, _⟩ => (A c).bv | ⟨10, _⟩ => (A c).wo | ⟨11, _⟩ => (A c).bo
  | ⟨12, _⟩ => o

def tableDat (c : Dev nD) : Pipeline.Dat τ (Elt F) (HIx 1) ℕ UU ℕ cfg1 c where
  A w := tableIn A c (Z c) w
  after w _ := match w with
    | ⟨0, _⟩ => (A c).ps | ⟨1, _⟩ => (A c).pd | ⟨2, _⟩ => (A c).po | ⟨3, _⟩ => (A c).ro | ⟨4, _⟩ => (A c).wq | ⟨5, _⟩ => (A c).bq | ⟨6, _⟩ => (A c).wk | ⟨7, _⟩ => (A c).bk | ⟨8, _⟩ => (A c).wv | ⟨9, _⟩ => (A c).bv | ⟨10, _⟩ => (A c).wo | ⟨11, _⟩ => (A c).bo
    | ⟨12, _⟩ => (A c).table
  Φ _ := Pipeline.scopedRest (Pipeline.pin (pcfgs (F := F)) adm 1).spec c
  q _ := fullShare
  owed _ := (K (F := F)).Otc c 0
  recorded _ := below (F := F) 0 c

def tableDats : (p : Fin 3) → (c : Dev nD) → Pipeline.Dat τ (Elt F) (HIx 1) ℕ UU ℕ (Pipeline.pin (pcfgs (F := F)) adm p) c
  | ⟨0, _⟩ => fun c => idleDat c
  | ⟨1, _⟩ => fun c => tableDat A Z c
  | ⟨2, _⟩ => fun c => idleDat c

/-- A window that is the whole array has the array's own elements. -/
theorem whole_emb {s : Shape} {e : EltTy} {cs : CoreSpace} (arr : Memref sig .tc .hbm s e) (o y : Bool)
    (stage : Memref sig .tc (.core cs) ⟨s.rank, s.size⟩ e) (sem : DmaSem sig) (harr : arr.IsWhole) (hs : stage.IsWhole)
    (t : Fin Pipeline.Grid.none.N) (j : s.Idx) :
    ((Pipeline.Window.whole arr o y stage sem harr hs).blk t).view.emb j = arr.view.emb j := by
  refine congrArg arr.view.emb ?_
  funext a
  apply Fin.ext
  show 0 * s.size a + 1 * (j a : ℕ) = j a
  omega

/-- So its block reads as the array. -/
theorem whole_read {s : Shape} {e : EltTy} {cs : CoreSpace} (arr : Memref sig .tc .hbm s e) (o y : Bool)
    (stage : Memref sig .tc (.core cs) ⟨s.rank, s.size⟩ e) (sem : DmaSem sig) (harr : arr.IsWhole) (hs : stage.IsWhole)
    (t : Fin Pipeline.Grid.none.N) (c : Dev nD) (G : Buf (Elt F) (arr.view.loc (c.tc : Thread nD τ))) :
    ((Pipeline.Window.whole arr o y stage sem harr hs).blk t).view.read (Elt F) G = arr.view.read (Elt F) G := by
  funext j
  exact congrArg (fun i => _root_.cast (congrArg (Elt F) arr.view.elt_eq) (G i)) (whole_emb arr o y stage sem harr hs t j)

theorem table_before_ps (c : Dev nD) (t : Fin cfg1.N) (d) : (tableDat A Z c).before 0 t d = (A c).ps :=
  ((tableDat A Z c).before_fetched 0 t (fetch1_0 t) d).trans
    (whole_read (Memref.whole main_arg2) false false (stage1_0 0) (sem1_0 0) (Memref.isWhole_whole _) (hstage1_0 0) t c (A c).ps)

theorem table_before_pd (c : Dev nD) (t : Fin cfg1.N) (d) : (tableDat A Z c).before 1 t d = (A c).pd :=
  ((tableDat A Z c).before_fetched 1 t (fetch1_1 t) d).trans
    (whole_read (Memref.whole main_arg3) false false (stage1_1 0) (sem1_1 0) (Memref.isWhole_whole _) (hstage1_1 0) t c (A c).pd)

theorem table_before_po (c : Dev nD) (t : Fin cfg1.N) (d) : (tableDat A Z c).before 2 t d = (A c).po :=
  ((tableDat A Z c).before_fetched 2 t (fetch1_2 t) d).trans
    (whole_read (Memref.whole main_arg4) false false (stage1_2 0) (sem1_2 0) (Memref.isWhole_whole _) (hstage1_2 0) t c (A c).po)

theorem table_before_ro (c : Dev nD) (t : Fin cfg1.N) (d) : (tableDat A Z c).before 3 t d = (A c).ro :=
  ((tableDat A Z c).before_fetched 3 t (fetch1_3 t) d).trans
    (whole_read (Memref.whole main_arg5) false false (stage1_3 0) (sem1_3 0) (Memref.isWhole_whole _) (hstage1_3 0) t c (A c).ro)

theorem table_before_wq (c : Dev nD) (t : Fin cfg1.N) (d) : (tableDat A Z c).before 4 t d = (A c).wq :=
  ((tableDat A Z c).before_fetched 4 t (fetch1_4 t) d).trans
    (whole_read (Memref.whole main_arg6) false false (stage1_4 0) (sem1_4 0) (Memref.isWhole_whole _) (hstage1_4 0) t c (A c).wq)

theorem table_before_bq (c : Dev nD) (t : Fin cfg1.N) (d) : (tableDat A Z c).before 5 t d = (A c).bq :=
  ((tableDat A Z c).before_fetched 5 t (fetch1_5 t) d).trans
    (whole_read (Memref.whole main_arg7) false false (stage1_5 0) (sem1_5 0) (Memref.isWhole_whole _) (hstage1_5 0) t c (A c).bq)

theorem table_before_wk (c : Dev nD) (t : Fin cfg1.N) (d) : (tableDat A Z c).before 6 t d = (A c).wk :=
  ((tableDat A Z c).before_fetched 6 t (fetch1_6 t) d).trans
    (whole_read (Memref.whole main_arg8) false false (stage1_6 0) (sem1_6 0) (Memref.isWhole_whole _) (hstage1_6 0) t c (A c).wk)

theorem table_before_bk (c : Dev nD) (t : Fin cfg1.N) (d) : (tableDat A Z c).before 7 t d = (A c).bk :=
  ((tableDat A Z c).before_fetched 7 t (fetch1_7 t) d).trans
    (whole_read (Memref.whole main_arg9) false false (stage1_7 0) (sem1_7 0) (Memref.isWhole_whole _) (hstage1_7 0) t c (A c).bk)

theorem table_before_wv (c : Dev nD) (t : Fin cfg1.N) (d) : (tableDat A Z c).before 8 t d = (A c).wv :=
  ((tableDat A Z c).before_fetched 8 t (fetch1_8 t) d).trans
    (whole_read (Memref.whole main_arg10) false false (stage1_8 0) (sem1_8 0) (Memref.isWhole_whole _) (hstage1_8 0) t c (A c).wv)

theorem table_before_bv (c : Dev nD) (t : Fin cfg1.N) (d) : (tableDat A Z c).before 9 t d = (A c).bv :=
  ((tableDat A Z c).before_fetched 9 t (fetch1_9 t) d).trans
    (whole_read (Memref.whole main_arg11) false false (stage1_9 0) (sem1_9 0) (Memref.isWhole_whole _) (hstage1_9 0) t c (A c).bv)

theorem table_before_wo (c : Dev nD) (t : Fin cfg1.N) (d) : (tableDat A Z c).before 10 t d = (A c).wo :=
  ((tableDat A Z c).before_fetched 10 t (fetch1_10 t) d).trans
    (whole_read (Memref.whole main_arg12) false false (stage1_10 0) (sem1_10 0) (Memref.isWhole_whole _) (hstage1_10 0) t c (A c).wo)

theorem table_before_bo (c : Dev nD) (t : Fin cfg1.N) (d) : (tableDat A Z c).before 11 t d = (A c).bo :=
  ((tableDat A Z c).before_fetched 11 t (fetch1_11 t) d).trans
    (whole_read (Memref.whole main_arg13) false false (stage1_11 0) (sem1_11 0) (Memref.isWhole_whole _) (hstage1_11 0) t c (A c).bo)

theorem table_body (c : Dev nD) : Pipeline.BodyObligation (tableDat A Z c) (defs₀ (F := F)) 𝒱₀ none Set.univ := fun t => by
  rw [bigSep_W1, bigSep_W1]
  rw [show (tableDat A Z c).owesAt none t.succ = (tableDat A Z c).owesAt none t.castSucc from rfl,
    show (tableDat A Z c).Φ t.succ = (tableDat A Z c).Φ t.castSucc from rfl]
  iintro ⟨HΦ, HO, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  rw [table_before_ps, table_before_pd, table_before_po, table_before_ro, table_before_wq, table_before_bq, table_before_wk, table_before_bk, table_before_wv, table_before_bv, table_before_wo, table_before_bo]
  ihave Hr := (table_run c (hstage1_0 0) (hstage1_1 0) (hstage1_2 0) (hstage1_3 0) (hstage1_4 0) (hstage1_5 0) (hstage1_6 0) (hstage1_7 0) (hstage1_8 0) (hstage1_9 0) (hstage1_10 0) (hstage1_11 0) (hstage1_12 0)
    (A c).ps (A c).pd (A c).po (A c).ro (A c).wq (A c).bq (A c).wk (A c).bk (A c).wv (A c).bv (A c).wo (A c).bo
    ((tableDat A Z c).before 12 t d12)) $$ [H0 H1 H2 H3 H4 H5 H6 H7 H8 H9 H10 H11 H12]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    iexact H12
  iapply (wp_wand_r frame _ Set.univ)
  isplitl [Hr]; · iexact Hr
  iintro %_ ⟨H0, H1, H2, H3, H4, H5, H6, H7, H8, H9, H10, H11, H12⟩
  isplitl [HΦ]; · iexact HΦ
  isplitl [HO]; · iexact HO
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iexact H12

theorem table_loose (c : Dev nD) : Pipeline.BodyObligationLoose (tableDat A Z c) (defs₀ (F := F)) 𝒱₀ none Set.univ :=
  (table_body A Z c).loose

theorem tableDats_one (c : Dev nD) : tableDats A Z 1 c = tableDat A Z c := rfl

theorem table_ok : CallOK (F := F) 0 1 (tableDats A Z) := by
  refine ⟨launch1, fun c => ?_, fun c t => ?_, fun c t => ?_, fun c => ?_, fun c t => ?_⟩
  · exact table_loose A Z c
  · rw [tableDats_one]; rfl
  · rw [tableDats_one]; rfl
  · exact (tableDat A Z c).share_full fun _ => rfl
  · rw [tableDats_one]; unfold tableDat; dsimp only

theorem table_whole : (cfg1.win 12).WholeAt (⟨0, by decide⟩ : Fin grid1.N) := by decide +kernel

theorem table_value (c : Dev nD) : (tableDat A Z c).arrAt 12 cfg1.N = (A c).table :=
  (tableDat A Z c).arrAt_eq_of_after_last 12 _ table_whole (A c).table fun j => rfl

end Cert.Proof.K

end
-- ==== Proof.RegionR.lean ====
/-
  A TensorCore call of `@main` that leaves an output at contents met only by a relation: what a clipped block holds
  beyond its array reaches the staged result, so the body says which results it may leave, not the one it leaves.
-/
module

public import proofs.«01_k».proof.Proof.Region
public import Idealize.ShloMosaic.Lib.Pipeline.DatRel
public import Idealize.ShloMosaic.Lib.Pipeline.ArrRel

@[expose] public section

noncomputable section

namespace Cert.Proof.K

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

local notation "𝕄" => MT nD τ sig (HIx 1) (Elt F) ℕ UU ℕ

/-- The proof data of one call, on every device, meets what a region needs. -/
structure RCallOK (n : ℕ) (p : Fin 3)
    (dats : (p : Fin 3) → (c : Dev nD) → Pipeline.RDat τ (Elt F) (HIx 1) ℕ UU ℕ (Pipeline.pin (pcfgs (F := F)) adm p) c) : Prop where
  kit : Pipeline.LaunchFacts (nD := nD) (τ := τ) cfgs p
  body : ∀ c, (dats p c).BodyObligation (defs₀ (F := F)) 𝒱₀ none Set.univ
  owed : ∀ c t, (dats p c).owed t = (K (F := F)).Otc c n
  recorded : ∀ c t, (dats p c).recorded t = below (F := F) n c
  share : ∀ c w, (dats p c).share w = fullShare
  inv : ∀ c t, (dats p c).Φ t = Pipeline.scopedRest (Pipeline.pin (pcfgs (F := F)) adm p).spec c

variable {n : ℕ} {p : Fin 3}
  {dats : (p : Fin 3) → (c : Dev nD) → Pipeline.RDat τ (Elt F) (HIx 1) ℕ UU ℕ (Pipeline.pin (pcfgs (F := F)) adm p) c}

def rregion (h : RCallOK (F := F) n p dats) :
    Pipeline.RDat.RegionSeg (pcfgs (F := F)) adm dats none defs₀ 𝒱₀ (K (F := F)).L (K (F := F)).lev p where
  win := (Pipeline.LaunchFacts.toP (Val := Elt F) h.kit).win.to₀
  block_pos := (Pipeline.LaunchFacts.toP (Val := Elt F) h.kit).block_pos
  stage_whole := (Pipeline.LaunchFacts.toP (Val := Elt F) h.kit).stage_whole
  K := PEmpty
  osem k := k.elim
  ho := Pipeline.OwnSemFacts.none _
  hbody := h.body
  hwaits c := Pipeline.RDat.cellsWaits_of_cut (Pipeline.pin (pcfgs (F := F)) adm) dats none p c 0 ((K (F := F)).Otc c n) (h.owed c)
    (fun _ _ => Finset.mem_univ _) (fun _ _ => le_rfl)
    (fun g i hg => ⟨Finset.mem_univ _, lt_of_lt_of_le (Nat.succ_pos _) ((K (F := F)).lev_of_Otc_pos hg)⟩)
  pre c := iprop((dats p c).arrays (dats p c).A ∗ owing n c)
  post c := iprop((dats p c).arraysAt (Pipeline.pin (pcfgs (F := F)) adm p).N ∗ owing n c)
  X _ := BI.emp
  Y _ := BI.emp
  Z _ := BI.emp
  hentry c := by
    rw [Pipeline.ownSems0_none, Pipeline.prefHeld_of_none _ rfl]
    iintro ⟨⟨Ha, HO⟩, -, -⟩
    imodintro
    isplitl [Ha]; · iexact Ha
    isplitr; · iempintro
    isplitl [HO]
    · unfold Pipeline.RDat.owesAt Pipeline.owesWithin Pipeline.RDat.bound owing
      rw [h.owed c 0, h.recorded c 0]
      icases HO with ⟨%W, %hW, HO⟩; iexists W; isplitr
      · ipureintro; exact fun q hq => Or.inl (hW q hq)
      iexact HO
    isplitl <;> iempintro
  hin c := by
    rw [h.inv c 0]
    iintro ⟨-, -, Hr⟩
    iexact Hr
  hout c := by
    rw [Pipeline.ownSems0_none, h.inv c]
    iintro Hr
    isplitr; · iempintro
    isplitr; · iempintro
    iexact Hr
  hexit c := by
    iintro ⟨Ha, HO, -, -⟩
    imodintro
    isplitl [Ha]; · iexact Ha
    unfold Pipeline.RDat.owesAt Pipeline.owesWithin Pipeline.RDat.bound owing
    rw [h.owed c (Fin.last _), h.recorded c (Fin.last _)]
    icases HO with ⟨%W, %hW, HO⟩; iexists W; isplitr
    · ipureintro
      intro q hq
      rcases hW hq with h' | ⟨w, s, rfl⟩
      · exact h'
      · exact Nat.zero_le _
    iexact HO

/-- THE CALL: from the windows' arrays at the entry contents to the arrays at contents they may then hold. -/
theorem rcall_wp (h : RCallOK (F := F) n p dats) (d : Dev nD) :
    iprop(levAts (K (F := F)).L (K (F := F)).lev ∗ (K (F := F)).tcSt EH d n ∗ boundary (SparseCore.T d)
        ∗ (Pipeline.cellsGhost (Pipeline.pin (pcfgs (F := F)) adm) EP p d ∗ Pipeline.toksInit (Pipeline.pin (pcfgs (F := F)) adm) EP p d)
        ∗ (dats p d).arrays (dats p d).A)
      ⊢ wp frame (wpE ((K (F := F)).defs (D (F := F))) 𝒱 (SparseCore.T d) none) Set.univ
          (Prog.lift (.customCall (SparseCore.inner (Pipeline.entry p)) ()))
          fun _ => (iprop((K (F := F)).tcSt EH d n ∗ boundary (SparseCore.T d)
            ∗ (dats p d).arraysAt (Pipeline.pin (pcfgs (F := F)) adm p).N) : sProp 𝕄) := by
  have hl := (K (F := F)).wp_liftProg (nD := nD) (N := 1) (D (F := F)) 𝒱 (SparseCore.T d) Set.univ none
    (.op (.customCall (Pipeline.entry p) ()) fun _ => .ret ⟨⟩ : Prog (TpuEff nD τ sig (Elt F) (ΛP (F := F)) .tc) PUnit)
    (fun _ => (iprop((K (F := F)).tcSt EH d n ∗ boundary (SparseCore.T d)
            ∗ (dats p d).arraysAt (Pipeline.pin (pcfgs (F := F)) adm p).N) : sProp 𝕄))
  refine BIBase.Entails.trans ?_ hl
  have hw := Pipeline.RDat.RegionSeg.wp (pcfgs (F := F)) adm dats none cells_inj EP defs₀ 𝒱₀ (K (F := F)).L (K (F := F)).lev (rregion h) d none
    (fun _ hu => absurd hu (Option.not_mem_none _)) (α := PUnit)
    (fun _ => .ret ⟨⟩) (fun _ => (iprop((K (F := F)).tcSt EH d n ∗ boundary (SparseCore.T d)
            ∗ (dats p d).arraysAt (Pipeline.pin (pcfgs (F := F)) adm p).N) : sProp 𝕄))
  refine BIBase.Entails.trans ?_ hw
  unfold SparseCore.Cfg.tcSt
  iintro ⟨#Hl, ⟨HO, Hst⟩, Hb, ⟨Hg, Ht⟩, Ha⟩
  isplitl [Hst]
  · iintro ⟨Hb, Hpost⟩
    rw [wp_ret]
    imodintro
    ihave Hpost' := (Entails.of_eq (show (rregion h).post d = iprop((dats p d).arraysAt (Pipeline.pin (pcfgs (F := F)) adm p).N ∗ owing n d) from rfl)) $$ Hpost
    icases Hpost' with ⟨Ha, HO⟩
    isplitl [HO Hst]
    · isplitl [HO]; · iexact HO
      iexact Hst
    isplitl [Hb]; · iexact Hb
    iexact Ha
  isplitl [Hb]; · iexact Hb
  isplitl [Ha HO]
  · rw [show (rregion h).pre d = iprop((dats p d).arrays (dats p d).A ∗ owing n d) from rfl]
    isplitl [Ha]; · iexact Ha
    iexact HO
  isplitr; · iexact Hl
  isplitl [Hg] <;> iassumption

end Cert.Proof.K

end
-- ==== Proof.TcFinal.lean ====
/-
  The last TensorCore call: the tiles' partial sums added, the two flags of every node read off them, and the table's row
  of those flags added to the node's row of `x`, 2048 nodes at a time. The last block overhangs the arrays.
-/
module

public import proofs.«01_k».proof.Proof.RegionR
public import proofs.«01_k».proof.Proof.TcNorm

@[expose] public section

noncomputable section

namespace Cert.Proof.K

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

local notation "𝕄" => MT nD τ sig (HIx 1) (Elt F) ℕ UU ℕ

/-- The two sums of every node of a block: of the similarities, and of the ones. -/
def sums (p : Vec F S64x2048 .f32) : Vec F S2048x2 .f32 :=
  transpose S2048x2 [1, 0]
    (multiReduction .add [0] S2x2048 (shapeCast S32x2x2048 (shapeCast S64x2048 p shapeCasts_S64x2048_S64x2048) shapeCasts_S64x2048_S32x2x2048)
      0x00000000#32 reduces_S32x2x2048_S2x2048 (.inl rfl) rfl) transposes_S2x2048_p1_0_S2048x2

def degs (p : Vec F S64x2048 .f32) : Vec F S2048x1 .f32 := extractStridedSlice S2048x1 ![0, 1] (sums p) slices_S2048x2_o0_1_S2048x1

/-- The similarity flag and the degree flag. -/
def simFlag (p : Vec F S64x2048 .f32) : IVec S2048x1 1 :=
  cmpf .ole (divf (extractStridedSlice S2048x1 ![0, 0] (sums p) slices_S2048x2_o0_0_S2048x1) (degs p))
    (broadcast S2048x1 (Scalar.ofBits .f32 0x3E4CCCCD#32))
def degFlag (p : Vec F S64x2048 .f32) : IVec S2048x1 1 :=
  cmpf .ole (degs p) (broadcast S2048x1 (Scalar.ofBits .f32 0x40400000#32))

/-- A flag is what is asked. -/
def isFlag (s : IVec S2048x1 1) (a : BitVec 1) : IVec S2048x1 1 :=
  xori (xori s (broadcastTo S2048x1 (broadcast S2048x1 a) broadcasts_S2048x1_S2048x1)) (constantI S2048x1 1 1#1)

/-- A row of the table where the mask holds, zero elsewhere. -/
def pick (m : IVec S2048x1 1) (row : Vec F S1x128 .f32) : Vec F S2048x128 .f32 :=
  select (broadcastTo S2048x128 (shapeCast S2048x1 m shapeCasts_S2048x1_S2048x1) broadcasts_S2048x1_S2048x128)
    (broadcastTo S2048x128 (shapeCast S1x128 row shapeCasts_S1x128_S1x128) broadcasts_S1x128_S2048x128)
    (broadcast S2048x128 (Scalar.ofBits .f32 0x00000000#32))

def finWith (x : Vec F S2048x128 .f32) (s d : IVec S2048x1 1) (tbl : Vec F S8x128 .f32) : Vec F S2048x128 .f32 :=
  addf (addf (addf (addf x
    (pick (andi (isFlag s 0#1) (isFlag d 0#1)) (extractStridedSlice S1x128 ![0, 0] tbl slices_S8x128_o0_0_S1x128)))
    (pick (andi (isFlag s 1#1) (isFlag d 0#1)) (extractStridedSlice S1x128 ![1, 0] tbl slices_S8x128_o1_0_S1x128)))
    (pick (andi (isFlag s 0#1) (isFlag d 1#1)) (extractStridedSlice S1x128 ![2, 0] tbl slices_S8x128_o2_0_S1x128)))
    (pick (andi (isFlag s 1#1) (isFlag d 1#1)) (extractStridedSlice S1x128 ![3, 0] tbl slices_S8x128_o3_0_S1x128))

/-- One block of the result. -/
def finBlk (x : Vec F S2048x128 .f32) (p : Vec F S64x2048 .f32) (tbl : Vec F S8x128 .f32) : Vec F S2048x128 .f32 :=
  finWith x (simFlag p) (degFlag p) (shapeCast S8x128 tbl shapeCasts_S8x128_S8x128)

theorem final_run (c : Dev nD) (i : grid3.Coords) {M0 : Memref sig .tc .vmem S2048x128 .f32} {M1 : Memref sig .tc .vmem S64x2048 .f32}
    {M2 : Memref sig .tc .vmem S8x128 .f32} {M3 : Memref sig .tc .vmem S2048x128 .f32}
    (h0 : M0.IsWhole) (h1 : M1.IsWhole) (h2 : M2.IsWhole) (h3 : M3.IsWhole)
    (x : Vec F S2048x128 .f32) (p : Vec F S64x2048 .f32) (tbl : Vec F S8x128 .f32) (Y : Vec F S2048x128 .f32) :
    iprop(owns (c.tc : Thread nD τ) M0 fullShare x ∗ owns (c.tc : Thread nD τ) M1 fullShare p
        ∗ owns (c.tc : Thread nD τ) M2 fullShare tbl ∗ owns (c.tc : Thread nD τ) M3 fullShare Y)
      ⊢ wp frame (wpE (defs₀ (F := F)) 𝒱₀ (c.tc : Thread nD τ) none) Set.univ (cc3__final_body i M0 h0 M1 h1 M2 h2 M3 h3)
          fun _ => (iprop(owns (c.tc : Thread nD τ) M0 fullShare x ∗ owns (c.tc : Thread nD τ) M1 fullShare p
            ∗ owns (c.tc : Thread nD τ) M2 fullShare tbl ∗ owns (c.tc : Thread nD τ) M3 fullShare (finBlk x p tbl)) : sProp 𝕄) := by
  simp only [owns_isWhole c h0, owns_isWhole c h1, owns_isWhole c h2, owns_isWhole c h3]
  iintro ⟨H0, H1, H2, H3⟩
  sl_exec!
  sl_step
  isplitl [H0]; · iexact H0
  isplitl [H1]; · iexact H1
  isplitl [H2]; · iexact H2
  refine BIBase.Entails.trans (Entails.of_eq (congrArg _ (h3.eq_unread ?_))) .rfl
  rw [View.read_writes_junk_eq_canon]
  unfold final_run.sl.H3_1
  rw [View.canon_cons_unit_lit _ _ _ (by decide)]
  have e0 := load_whole h0 x inb_S2048x128_S2048x128_0_0 (by decide)
  have e1 := load_whole h1 p inb_S64x2048_S64x2048_0_0 (by decide)
  have e2 := load_whole h2 tbl inb_S8x128_S8x128_0_0 (by decide)
  refine Eq.trans (b := finBlk _ _ _) ?_ (congr (congr (congrArg finBlk e0) e1) e2)
  rfl

/-! ## The call's data -/

variable (X : Dev nD → Vec F S10000x128 .f32) (PT : Dev nD → Vec F S64x10000 .f32) (TB : Dev nD → Vec F S8x128 .f32)
  (Z : Dev nD → Vec F S10000x128 .f32)

/-- The call's data but for its result, which the relation below bounds. -/
def finDat (c : Dev nD) : Pipeline.Dat τ (Elt F) (HIx 1) ℕ UU ℕ cfg3 c where
  A w := match w with
    | ⟨0, _⟩ => X c
    | ⟨1, _⟩ => PT c
    | ⟨2, _⟩ => TB c
    | ⟨3, _⟩ => Z c
  after w t := match w with
    | ⟨0, _⟩ => win3_0.fill (grid3.coords t) (fun _ => Classical.arbitrary _) ((win3_0.blk t).view.read (Elt F) (X c))
    | ⟨1, _⟩ => win3_1.fill (grid3.coords t) (fun _ => Classical.arbitrary _) ((win3_1.blk t).view.read (Elt F) (PT c))
    | ⟨2, _⟩ => TB c
    | ⟨3, _⟩ => fun _ => Classical.arbitrary _
  Φ _ := Pipeline.scopedRest (Pipeline.pin (pcfgs (F := F)) adm 2).spec c
  q _ := fullShare
  owed _ := (K (F := F)).Otc c 1
  recorded _ := below (F := F) 1 c

/-- The result's window is the one bounded by a relation. -/
def finMark (w : Fin 4) : Bool := match w with
  | ⟨3, _⟩ => true
  | _ => false

/-- What the body may leave there: the block of the fetched blocks, whatever they hold beyond their arrays. -/
def finRel (c : Dev nD) (w : Fin 4) (t : Fin cfg3.N) : ((win3 w).block.Idx → Elt F (win3 w).elt) → Prop := match w with
  | ⟨3, _⟩ => fun Y => ∃ d0 d1, Y = finBlk ((finDat X PT TB Z c).fetched 0 t d0) ((finDat X PT TB Z c).fetched 1 t d1) (TB c)
  | _ => fun _ => True

theorem fin_ix2 : ∀ t : Fin cfg3.N, win3_2.index t = ![0, 0] := (by decide +kernel : ∀ t : Fin grid3.N, _)

theorem fin_before2 (c : Dev nD) (t : Fin cfg3.N) (d) : (finDat X PT TB Z c).before 2 t d = TB c := by
  have hb : ∀ t, (finDat X PT TB Z c).blockOf 2 t = TB c := fun t => by
    funext y
    refine congrArg (TB c) ?_
    funext a
    apply Fin.ext
    match a with
    | ⟨0, _⟩ => exact (by blk_simp [fin_ix2] : ((win3_2.blk t).view.emb y 0 : ℕ) = (y 0).val)
    | ⟨1, _⟩ => exact (by blk_simp [fin_ix2] : ((win3_2.blk t).view.emb y 1 : ℕ) = (y 1).val)
  refine Eq.trans (Pipeline.Dat.before_in_eq_fetched (finDat X PT TB Z c) 2 rfl (fun _ => rfl) (fun _ _ _ => rfl) (fun t => (hb t).symm) t d) ?_
  exact hb t

theorem fin_keep0 (c : Dev nD) (t : Fin cfg3.N) (d) :
    (win3 0).fill (grid3.coords t) d ((win3 0).cut (grid3.coords t) ((finDat X PT TB Z c).after 0 t)) = (finDat X PT TB Z c).fetched 0 t d :=
  congrArg (win3_0.fill (grid3.coords t) d) (win3_0.cut_fill (grid3.coords t) _ _)

theorem fin_keep1 (c : Dev nD) (t : Fin cfg3.N) (d) :
    (win3 1).fill (grid3.coords t) d ((win3 1).cut (grid3.coords t) ((finDat X PT TB Z c).after 1 t)) = (finDat X PT TB Z c).fetched 1 t d :=
  congrArg (win3_1.fill (grid3.coords t) d) (win3_1.cut_fill (grid3.coords t) _ _)

theorem fin_body (c : Dev nD) : Pipeline.BodyObligationRel (finDat X PT TB Z c) (defs₀ (F := F)) 𝒱₀ none Set.univ finMark (finRel X PT TB Z c) := fun t => by
  rw [bigSep_W3, bigSep_W3]
  rw [show (finDat X PT TB Z c).owesAt none t.succ = (finDat X PT TB Z c).owesAt none t.castSucc from rfl,
    show (finDat X PT TB Z c).Φ t.succ = (finDat X PT TB Z c).Φ t.castSucc from rfl]
  simp only [show finMark 0 = false from rfl, show finMark 1 = false from rfl, show finMark 2 = false from rfl,
    show finMark 3 = true from rfl]
  iintro ⟨HΦ, HO, ⟨%d0, H0⟩, ⟨%d1, H1⟩, ⟨%d2, H2⟩, ⟨%Y, -, H3⟩⟩
  rw [(finDat X PT TB Z c).before_fetched 0 t (fetch3_0 t), (finDat X PT TB Z c).before_fetched 1 t (fetch3_1 t), fin_before2]
  ihave Hr := (final_run c (grid3.coords t) (hstage3_0 ((cfg3.slots t 0).cast nbuf3_0)) (hstage3_1 ((cfg3.slots t 1).cast nbuf3_1))
    (hstage3_2 ((cfg3.slots t 2).cast nbuf3_2)) (hstage3_3 ((cfg3.slots t 3).cast nbuf3_3))
    ((finDat X PT TB Z c).fetched 0 t d0) ((finDat X PT TB Z c).fetched 1 t d1) (TB c) Y) $$ [H0 H1 H2 H3]
  · isplitl [H0]; · iexact H0
    isplitl [H1]; · iexact H1
    isplitl [H2]; · iexact H2
    iexact H3
  iapply (wp_wand_r frame _ Set.univ)
  isplitl [Hr]; · iexact Hr
  iintro %_ ⟨H0, H1, H2, H3⟩
  isplitl [HΦ]; · iexact HΦ
  isplitl [HO]; · iexact HO
  isplitl [H0]
  · iexists d0
    rw [fin_keep0]
    iexact H0
  isplitl [H1]
  · iexists d1
    rw [fin_keep1]
    iexact H1
  isplitl [H2]; · iexact H2
  iexists _
  isplitr
  · ipureintro; exact ⟨d0, d1, rfl⟩
  iexact H3

/-- The call's relational data. -/
def finDats : (p : Fin 3) → (c : Dev nD) → Pipeline.RDat τ (Elt F) (HIx 1) ℕ UU ℕ (Pipeline.pin (pcfgs (F := F)) adm p) c
  | ⟨0, _⟩ => fun c => (idleDat c).toR
  | ⟨1, _⟩ => fun c => (idleDat c).toR
  | ⟨2, _⟩ => fun c => (finDat X PT TB Z c).toRRel finMark (finRel X PT TB Z c)

theorem finDats_two (c : Dev nD) : finDats X PT TB Z 2 c = (finDat X PT TB Z c).toRRel finMark (finRel X PT TB Z c) := rfl

theorem fin_loose (c : Dev nD) :
    ((finDat X PT TB Z c).toRRel finMark (finRel X PT TB Z c)).BodyObligation (defs₀ (F := F)) 𝒱₀ none Set.univ :=
  (fin_body X PT TB Z c).toRRel

theorem final_ok : RCallOK (F := F) 1 2 (finDats X PT TB Z) := by
  refine ⟨launch3, fun c => ?_, fun c t => ?_, fun c t => ?_, fun c => ?_, fun c t => ?_⟩
  · exact fin_loose X PT TB Z c
  · rw [finDats_two]; rfl
  · rw [finDats_two]; rfl
  · exact (finDat X PT TB Z c).share_full fun _ => rfl
  · rw [finDats_two, Pipeline.Dat.toRRel_Φ]; unfold finDat; dsimp only

/-- What the call may leave in its result. -/
def FinAt (c : Dev nD) (G : Vec F S10000x128 .f32) : Prop :=
  ((finDat X PT TB Z c).toRRel finMark (finRel X PT TB Z c)).ArrAt 3 cfg3.N G

end Cert.Proof.K

end
-- ==== Proof.Tile.lean ====
/-
  One tile's whole run: its accumulators zeroed, its chunks worked through, its accumulators written out.
-/
module

public import proofs.«01_k».proof.Proof.Chunk

@[expose] public section

noncomputable section

namespace Cert.Proof.K

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F] [Named F] (d : Dev nD) (L : grid2.Coords)

/-- A program's run, then the rest from what it leaves. -/
theorem step_of {α β : Type} {A : sProp 𝕄} {p : Prog (TpuEff nD τ sig (Elt F) Λ₀ (.scVector (cV L) (jV L))) α} {Φ : α → sProp 𝕄}
    (h : A ⊢ wp frame (wpE (defs₀ (F := F)) 𝒱₀ (tile d L) none) Set.univ p Φ)
    {kk : α → Prog (TpuEff nD τ sig (Elt F) Λ₀ (.scVector (cV L) (jV L))) β} {Q : β → sProp 𝕄} :
    A ⊢ iprop((∀ r, Φ r -∗ wp frame (wpE (defs₀ (F := F)) 𝒱₀ (tile d L) none) Set.univ (kk r) Q)
      -∗ wp frame (wpE (defs₀ (F := F)) 𝒱₀ (tile d L) none) Set.univ (p >>= kk) Q) := by
  rw [wp_bind]
  exact h.trans (wp_wand frame _ _)

/-! ## The accumulators zeroed -/

/-- The first `16 n` places zero, the others as in `f`. -/
def zeroed (n : ℕ) (f : Vec F S10000 .f32) : Vec F S10000 .f32 :=
  fun i => if (i 0).val < 16 * n then (Scalar.ofBits .f32 0x00000000#32 : F .f32) else f i

/-- All places zero. -/
def zeros : Vec F S10000 .f32 := fun _ => (Scalar.ofBits .f32 0x00000000#32 : F .f32)

omit [Named F] in
theorem zeroed_all (f : Vec F S10000 .f32) : zeroed 625 f = zeros := by
  funext i
  have hi : (i 0).val < 10000 := (i 0).isLt
  unfold zeroed zeros
  rw [if_pos (by omega)]

omit [Named F] in
theorem zeroed_none (f : Vec F S10000 .f32) : zeroed 0 f = f := by
  funext i
  unfold zeroed
  rw [if_neg (by omega)]

omit [Named F] in
/-- The store of trip `k` zeroes the next sixteen places. -/
theorem zero_ca (k : Fin k2_t1_loop.trips) (f : Vec F S10000 .f32) :
    View.write (Elt F) (caV.access (Rect.unit (s := S10000) (k2_off1 k) S16.size (k2_off1_inb k))) (zeroed k.val f) (zero16 : FVec F S16 .f32) Finset.univ
      = zeroed (k.val + 1) f := by
  funext i
  by_cases hi : i ∈ (caV.access (Rect.unit (s := S10000) (k2_off1 k) S16.size (k2_off1_inb k))).set
  · obtain ⟨x, -, rfl⟩ := Finset.mem_map.mp hi
    rw [View.write_emb_of_mem _ _ (Finset.mem_univ _)]
    have e : (((caV.access (Rect.unit (s := S10000) (k2_off1 k) S16.size (k2_off1_inb k))).emb x : S10000.Idx) 0).val = k2_off1 k 0 + 1 * (x 0).val := rfl
    have h1 : k2_off1 k 0 = 16 * k.val := by rw [k2_off1_eq, Matrix.cons_val_zero]
    have hx : (x 0).val < 16 := (x 0).isLt
    unfold zeroed
    rw [if_pos (by omega)]
    rfl
  · rw [View.write_of_not_mem _ _ _ (by rwa [View.setOn_univ])]
    have hi' : (i 0).val < 16 * k.val ∨ 16 * (k.val + 1) ≤ (i 0).val := by
      by_contra hc
      refine hi (Finset.mem_map.mpr ⟨fun a => match a with | 0 => ⟨(i 0).val - 16 * k.val, by show _ < 16; omega⟩, Finset.mem_univ _, ?_⟩)
      funext a
      rw [Fin.eq_zero a]
      apply Fin.ext
      show k2_off1 k 0 + 1 * ((i 0).val - 16 * k.val) = (i 0).val
      have h1 : k2_off1 k 0 = 16 * k.val := by rw [k2_off1_eq, Matrix.cons_val_zero]
      omega
    unfold zeroed
    by_cases h : (i 0).val < 16 * k.val
    · rw [if_pos h, if_pos (by omega)]
    · rw [if_neg h, if_neg (by omega)]

omit [Named F] in
theorem zero_da (k : Fin k2_t1_loop.trips) (f : Vec F S10000 .f32) :
    View.write (Elt F) (daV.access (Rect.unit (s := S10000) (k2_off1 k) S16.size (k2_off1_inb k))) (zeroed k.val f) (zero16 : FVec F S16 .f32) Finset.univ
      = zeroed (k.val + 1) f := zero_ca k f

/-- The zeroing loop, at the head of a program. -/
theorem zero_loop (c g : Vec F S10000 .f32) {hl1 : ∀ k : Fin k2_t1_loop.trips, caV.view.LoadsAt (Rect.unit (s := S10000) (k2_off1 k) S16.size (k2_off1_inb k)).toLoadRect}
    {hl2 : ∀ k : Fin k2_t1_loop.trips, daV.view.LoadsAt (Rect.unit (s := S10000) (k2_off1 k) S16.size (k2_off1_inb k)).toLoadRect}
    {hs1 : ∀ k : Fin k2_t1_loop.trips, (caV.access (Rect.unit (s := S10000) (k2_off1 k) S16.size (k2_off1_inb k))).Stores Finset.univ}
    {hs2 : ∀ k : Fin k2_t1_loop.trips, (daV.access (Rect.unit (s := S10000) (k2_off1 k) S16.size (k2_off1_inb k))).Stores Finset.univ}
    {hm : ∀ k : Fin k2_t1_loop.trips, (Finset.univ : Finset S16.Idx) = Finset.univ ∨ ∀ a, (Rect.unit (s := S10000) (k2_off1 k) S16.size (k2_off1_inb k)).stride a = 1}
    {hok : k2_t1_loop.OK} {β : Type} {kk : BitVec 32 → Prog (TpuEff nD τ sig (Elt F) Λ₀ (.scVector (cV L) (jV L))) β} {Q : β → sProp 𝕄} :
    iprop(caPts d L c ∗ daPts d L g)
      ⊢ iprop((∀ r, caPts d L zeros ∗ daPts d L zeros -∗ wp frame (wpE (defs₀ (F := F)) 𝒱₀ (tile d L) none) Set.univ (kk r) Q)
        -∗ wp frame (wpE (defs₀ (F := F)) 𝒱₀ (tile d L) none) Set.univ
          (Scf.Loop.for k2_t1_loop hok 0#32 (fun k _ => (do
            let _ : Vec F S16 .f32 ← Prog.lift (.load caV (Rect.unit (s := S10000) (k2_off1 k) S16.size (k2_off1_inb k)).toLoadRect (hl1 k))
            Prog.lift (.store caV (Rect.unit (s := S10000) (k2_off1 k) S16.size (k2_off1_inb k)) zero16 Finset.univ (hs1 k) (hm k))
            let _ : Vec F S16 .f32 ← Prog.lift (.load daV (Rect.unit (s := S10000) (k2_off1 k) S16.size (k2_off1_inb k)).toLoadRect (hl2 k))
            Prog.lift (.store daV (Rect.unit (s := S10000) (k2_off1 k) S16.size (k2_off1_inb k)) zero16 Finset.univ (hs2 k) (hm k))
            pure 0#32 : Prog (TpuEff nD τ sig (Elt F) Λ₀ (.scVector (cV L) (jV L))) (BitVec 32))) >>= kk) Q) := by
  have htr : k2_t1_loop.trips = 625 := by decide
  iintro ⟨Hc, Hg⟩ Hk
  iapply (Scf.wp_for_bind frame (wpE (defs₀ (F := F)) 𝒱₀ (tile d L) none) Set.univ _ _ _ hok 0#32 _
    (fun n _ => iprop(caPts d L (zeroed n c) ∗ daPts d L (zeroed n g))) ?_) $$ [Hc Hg] [Hk]
  · intro k acc
    iintro ⟨Hc, Hg⟩
    simp only [Prog.lift, Prog.bind_op, Prog.bind_ret]
    iapply (wp_load (defs := defs₀ (F := F)) 𝒱₀ (tile d L) none Set.univ (m := caV) (q := fullShare) (f := zeroed k.val c) (S := Finset.univ) (Finset.subset_univ _)) $$ Hc
    iintro Hc
    iapply (wp_store (defs := defs₀ (F := F)) 𝒱₀ (tile d L) none Set.univ (m := caV)
      (r := Rect.unit (s := S10000) (k2_off1 k) S16.size (k2_off1_inb k)) (f := zeroed k.val c) (S := Finset.univ) (Finset.subset_univ _)) $$ Hc
    iintro Hc
    iapply (wp_load (defs := defs₀ (F := F)) 𝒱₀ (tile d L) none Set.univ (m := daV) (q := fullShare) (f := zeroed k.val g) (S := Finset.univ) (Finset.subset_univ _)) $$ Hg
    iintro Hg
    iapply (wp_store (defs := defs₀ (F := F)) 𝒱₀ (tile d L) none Set.univ (m := daV)
      (r := Rect.unit (s := S10000) (k2_off1 k) S16.size (k2_off1_inb k)) (f := zeroed k.val g) (S := Finset.univ) (Finset.subset_univ _)) $$ Hg
    iintro Hg
    ihave Hc' := (Entails.of_eq (congrArg (fun f => caPts d L f) (zero_ca k c))) $$ Hc
    ihave Hg' := (Entails.of_eq (congrArg (fun f => daPts d L f) (zero_da k g))) $$ Hg
    rw [wp_pure]
    imodintro
    isplitl [Hc']; · iexact Hc'
    iexact Hg'
  · rw [zeroed_none, zeroed_none]
    isplitl [Hc]; · iexact Hc
    iexact Hg
  · rw [show Scf.trips k2_t1_loop.lb k2_t1_loop.ub k2_t1_loop.st = 625 from htr, zeroed_all, zeroed_all]
    iintro %acc H
    iapply Hk $$ %acc
    iexact H

/-! ## The chunks, and what the tile accumulates over them -/

variable (XN : Vec F S10000x128 .f32) {EF : Vec F S640000 .i32} (hE : EdgesOK EF)

/-- The rows the two lists of chunk `t` name. -/
abbrev chunkR (t : Fin (k2_t2_loop L).trips) : Vec F S128x128 .f32 := rowsOf XN (hE.ri L t)
abbrev chunkK (t : Fin (k2_t2_loop L).trips) : Vec F S128x128 .f32 := rowsOf XN (hE.ci L t)

/-- The first accumulator after chunk `t`: its eight groups one after the other. -/
def chunkC (t : Fin (k2_t2_loop L).trips) (c : Vec F S10000 .f32) : Vec F S10000 .f32 :=
  let g (o : ℕ) (ho : o ≤ 112) := grpC o ho (hE.ci L t) (chunkR L XN hE t) (chunkK L XN hE t)
  g 112 (by decide) (g 96 (by decide) (g 80 (by decide) (g 64 (by decide) (g 48 (by decide) (g 32 (by decide) (g 16 (by decide) (g 0 (by decide) c)))))))

/-- The second accumulator after chunk `t`. -/
def chunkD (t : Fin (k2_t2_loop L).trips) (c : Vec F S10000 .f32) : Vec F S10000 .f32 :=
  let g (o : ℕ) (ho : o ≤ 112) := grpD (F := F) o ho (hE.ci L t)
  g 112 (by decide) (g 96 (by decide) (g 80 (by decide) (g 64 (by decide) (g 48 (by decide) (g 32 (by decide) (g 16 (by decide) (g 0 (by decide) c)))))))

/-- The two accumulators after the first `n` chunks. -/
def accC : ℕ → Vec F S10000 .f32
  | 0 => zeros
  | n + 1 => if h : n < (k2_t2_loop L).trips then chunkC L XN hE ⟨n, h⟩ (accC n) else accC n
def accD : ℕ → Vec F S10000 .f32
  | 0 => zeros
  | n + 1 => if h : n < (k2_t2_loop L).trips then chunkD L hE ⟨n, h⟩ (accD n) else accD n

/-- The two accumulators at the end. -/
def tileC : Vec F S10000 .f32 := accC L XN hE (k2_t2_loop L).trips
def tileD : Vec F S10000 .f32 := accD L hE (k2_t2_loop L).trips

/-- The tile's two rows of the partial sums, as the body addresses them. -/
abbrev outC (L : grid2.Coords) : Memref sig .scVector .hbm S10000 .f32 :=
  (paV.slice (Rect.unit (s := S64x10000) (k2_off6 L) S1x10000.size (k2_off6_inb L)) (fun _ => rfl)).squeeze S10000 squeezes_S1x10000_S10000
abbrev outD (L : grid2.Coords) : Memref sig .scVector .hbm S10000 .f32 :=
  (paV.slice (Rect.unit (s := S64x10000) (k2_off7 L) S1x10000.size (k2_off7_inb L)) (fun _ => rfl)).squeeze S10000 squeezes_S1x10000_S10000
abbrev outCPts (f : Vec F S64x10000 .f32) : sProp 𝕄 := (outC L).view.loc (tile d L) ↦[(outC L).view.set]{fullShare} f
abbrev outDPts (f : Vec F S64x10000 .f32) : sProp 𝕄 := (outD L).view.loc (tile d L) ↦[(outD L).view.set]{fullShare} f

/-- What the tile holds between two chunks. -/
abbrev Held (q : PosShare TreeShare) (O : CellTallies nD τ sig (HIx 1)) (W : Waits sig (HIx 1)) (EF : Vec F S640000 .i32) : sProp 𝕄 :=
  iprop(xnPts d L q XN ∗ edPts d L q EF ∗ (∃ f, riPts d L f) ∗ (∃ f, ciPts d L f)
        ∗ (∃ f, rrPts d L f) ∗ (∃ f, crPts d L f) ∗ chunkSems d L ∗ owesOwn d L O W)

omit [FloatOps F] [Named F] in
/-- A row written whole holds any contents that read as what was written. -/
theorem landed (v : View sig .scVector .hbm S10000 .f32) (f G : v.ty.Contents (Elt F)) (X : S10000.Idx → Elt F .f32) (h : v.read (Elt F) G = X) :
    (v.loc (tile d L) ↦[v.set]{fullShare} v.writes (Elt F) f [⟨Rect.whole S10000, X⟩] : sProp 𝕄) = v.loc (tile d L) ↦[v.set]{fullShare} G :=
  pointsTo_congr fun i hi => by
    obtain ⟨x, -, rfl⟩ := Finset.mem_map.mp hi
    have e : v.read (Elt F) (v.writes (Elt F) f [⟨Rect.whole S10000, X⟩]) x = v.read (Elt F) G x := by
      rw [h]
      exact View.read_writes_cons_hit_of_coords v f (Rect.whole S10000) X [] x x (fun a => by show (x a).val = 0 + 1 * (x a).val; omega)
    rw [View.read_apply, View.read_apply] at e
    exact (cast_bijective _).1 e

/-- The loop over the chunks' remainder never runs. -/
theorem chunk_rem_loop {hok : (k2_t27_loop L).OK} {init : BitVec 32}
    {body : Fin (k2_t27_loop L).trips → BitVec 32 → Prog (TpuEff nD τ sig (Elt F) Λ₀ (.scVector (cV L) (jV L))) (BitVec 32)} {β : Type}
    {kk : BitVec 32 → Prog (TpuEff nD τ sig (Elt F) Λ₀ (.scVector (cV L) (jV L))) β} {Q : β → sProp 𝕄} :
    wp frame (wpE (defs₀ (F := F)) 𝒱₀ (tile d L) none) Set.univ (kk init) Q
      ⊢ wp frame (wpE (defs₀ (F := F)) 𝒱₀ (tile d L) none) Set.univ (Scf.Loop.for (k2_t27_loop L) hok init body >>= kk) Q := by
  rw [show Scf.Loop.for (k2_t27_loop L) hok init body = .ret init from Scf.for_rem_eq 0#32 _ hok init body]
  exact .rfl

set_option maxHeartbeats 4000000 in
theorem part11_wp (q : PosShare TreeShare) (O : CellTallies nD τ sig (HIx 1)) (W : Waits sig (HIx 1)) (f G : Vec F S64x10000 .f32)
    (hG : (outC L).view.read (Elt F) G = tileC L XN hE) :
    iprop(Transfers.MayWaits (tile d L) (default : HIx 1) O ∗ Held d L XN q O W EF ∗ (∃ c, caPts d L c) ∗ (∃ g, daPts d L g)
        ∗ outCPts d L f ∗ semVal (tile d L, .dma cc2_scoped4.sem) 0)
      ⊢ wp frame (wpE (defs₀ (F := F)) 𝒱₀ (tile d L) none) Set.univ
          (k2_part11 L xnV (Memref.isWhole_whole _) edV (Memref.isWhole_whole _) paV (Memref.isWhole_whole _) riV (Memref.isWhole_whole _) ciV (Memref.isWhole_whole _)
            rrV (Memref.isWhole_whole _) crV (Memref.isWhole_whole _) caV (Memref.isWhole_whole _) daV (Memref.isWhole_whole _)
            cc2_scratch6 cc2_scratch7 cc2_scoped0 cc2_scoped1 cc2_scoped2 cc2_scoped3 cc2_scoped4 cc2_scoped5)
          fun _ => iprop(Held d L XN q O W EF ∗ caPts d L (tileC L XN hE) ∗ daPts d L (tileD L hE)
            ∗ outCPts d L G ∗ semVal (tile d L, .dma cc2_scoped4.sem) 0) := by
  unfold k2_part11
  iintro ⟨#Hmw, Hh, ⟨%c, Hc⟩, ⟨%g, Hg⟩, Ho, Hs⟩
  iapply (zero_loop d L c g) $$ [Hc Hg]
  · isplitl [Hc]; · iexact Hc
    iexact Hg
  iintro %r0 ⟨Hc, Hg⟩
  iapply (Scf.wp_for_bind frame (wpE (defs₀ (F := F)) 𝒱₀ (tile d L) none) Set.univ _ _ _ (k2_t2_ok L) 0#32 _
    (fun n _ => iprop(Transfers.MayWaits (tile d L) (default : HIx 1) O ∗ Held d L XN q O W EF ∗ caPts d L (accC L XN hE n) ∗ daPts d L (accD L hE n))) ?_) $$ [Hh Hc Hg] [Ho Hs]
  · intro t acc
    iintro ⟨#Hmw, Hh, Hc, Hg⟩
    iapply (step_of d L (part1_wp d L q XN hE t O W _)) $$ [Hh]
    · isplitr; · iexact Hmw
      iexact Hh
    iintro %r1 ⟨%hr, Hx, He, Hri, Hci, HRC, Hsm, HO⟩
    subst hr
    iapply (step_of d L (part2_wp d L (hE.ci L t) (chunkR L XN hE t) (chunkK L XN hE t) (accC L XN hE t.val) (accD L hE t.val))) $$ [Hci HRC Hc Hg]
    · isplitl [Hci]; · iexact Hci
      isplitl [HRC]; · iexact HRC
      isplitl [Hc]; · iexact Hc
      iexact Hg
    iintro %r2 ⟨%hr, HS⟩
    subst hr
    iapply (step_of d L (part3_wp d L (hE.ci L t) (chunkR L XN hE t) (chunkK L XN hE t) _ _)) $$ HS
    iintro %r3 ⟨%hr, HS⟩
    subst hr
    iapply (step_of d L (part4_wp d L (hE.ci L t) (chunkR L XN hE t) (chunkK L XN hE t) _ _)) $$ HS
    iintro %r4 ⟨%hr, HS⟩
    subst hr
    iapply (step_of d L (part5_wp d L (hE.ci L t) (chunkR L XN hE t) (chunkK L XN hE t) _ _)) $$ HS
    iintro %r5 ⟨%hr, Hci, HRC, Hcg⟩
    obtain ⟨v165, v166, hr⟩ := hr
    subst hr
    iapply (rem_loop d L)
    iapply (dot_loop d L (b := 112#32) (base_le 112 (by decide)) (chunkR L XN hE t) (chunkK L XN hE t) (P := k2_chk15 (lanes 112#32))
      (fun k hk => ⟨cell_ok (by decide) hk, cell_ok (by decide) hk⟩)) $$ HRC
    iintro HRC
    iapply (load_cols d L 112 (by decide) (ciList L EF t)) $$ Hci
    iintro Hci
    iapply (chk_step d L (chk_ok ((hE.ci L t).cols 112 (by decide))))
    iapply (peel_loop d L ((hE.ci L t).cols 112 (by decide)) (dotAt 112 (by decide) (chunkR L XN hE t) (chunkK L XN hE t)) _ _) $$ Hcg
    iintro %r6 Hcg
    iapply (rem_loop d L)
    rw [wp_pure]
    imodintro
    icases Hcg with ⟨Hc, Hg⟩
    icases HRC with ⟨HR, HC⟩
    have ec : accC L XN hE (t.val + 1) = chunkC L XN hE t (accC L XN hE t.val) := by rw [accC, dif_pos t.isLt]
    have ed : accD (F := F) L hE (t.val + 1) = chunkD L hE t (accD L hE t.val) := by rw [accD, dif_pos t.isLt]
    rw [ec, ed]
    isplitr; · iexact Hmw
    isplitr [Hc Hg]
    · isplitl [Hx]; · iexact Hx
      isplitl [He]; · iexact He
      isplitl [Hri]; · iexact Hri
      isplitl [Hci]; · iexists _; iexact Hci
      isplitl [HR]; · iexists _; iexact HR
      isplitl [HC]; · iexists _; iexact HC
      isplitl [Hsm]; · iexact Hsm
      iexact HO
    isplitl [Hc]; · iexact Hc
    iexact Hg
  · isplitr; · iexact Hmw
    isplitl [Hh]; · iexact Hh
    isplitl [Hc]; · iexact Hc
    iexact Hg
  iintro %r7 ⟨-, Hh, Hc, Hg⟩
  iapply (chunk_rem_loop d L)
  icases Hh with ⟨Hx, He, Hri, Hci, HR, HC, Hsm, ⟨%W', %hW', HO⟩⟩
  ihave Hc' := (Entails.of_eq (show (caPts d L (accC L XN hE (Scf.trips (k2_t2_loop L).lb (k2_t2_loop L).ub (k2_t2_loop L).st)) : sProp 𝕄) = caV.view.loc (tile d L) ↦{fullShare} tileC L XN hE from rfl)) $$ Hc
  sl_exec
  ihave Ho' := (Entails.of_eq (landed d L (outC L).view f G (part11_wp.sl.dma0 L XN hE) (by rw [hG]; rfl))) $$ Ho
  sl_step
  isplitr [Hc' Hg Ho' Hs]
  · isplitl [Hx]; · iexact Hx
    isplitl [He]; · iexact He
    isplitl [Hri]; · iexact Hri
    isplitl [Hci]; · iexact Hci
    isplitl [HR]; · iexact HR
    isplitl [HC]; · iexact HC
    isplitl [Hsm]; · iexact Hsm
    iexists _
    isplitr
    swap; · iexact HO
    ipureintro; intro p hp
    rcases Finset.mem_insert.mp hp with hp | hp; · exact .inr (hp ▸ rfl)
    exact hW' p hp
  isplitl [Hc']; · iexact Hc'
  isplitl [Hg]; · iexact Hg
  isplitl [Ho']; · iexact Ho'
  iexact Hs

end Cert.Proof.K

end
-- ==== Proof.TileBody.lean ====
/-
  One tile's task as the launch asks for it: from its shares and its two rows of the partial sums, the whole body, back to
  them with the rows written.
-/
module

public import proofs.«01_k».proof.Proof.Tile

@[expose] public section

noncomputable section

namespace Cert.Proof.K

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-! ## The tile's own semaphores and buffers, taken out of what a tile starts with -/

/-- A star over a set, the members that are the images of a list taken out one after the other. -/
theorem bigSep_takes {I J : Type} [DecidableEq I] [DecidableEq J] (Φ : I → sProp 𝕄) (s : Finset I) (e : J ↪ I) (l : List J) (hn : l.Nodup)
    (hs : ∀ j ∈ l, e j ∈ s) :
    bigSep s Φ = iprop(BI.bigSepL l (fun j => Φ (e j)) ∗ bigSep (s \ l.toFinset.map e) Φ) := by
  have hsub : l.toFinset.map e ⊆ s := by
    intro i hi
    obtain ⟨j, hj, rfl⟩ := Finset.mem_map.mp hi
    exact hs j (List.mem_toFinset.mp hj)
  rw [BI.bigSep_sdiff_split hsub, BI.bigSep_map, BI.bigSep_eq_bigSepL_of_eq l rfl hn]
  rfl

/-- The tile's semaphores, and its buffers. -/
def ownSemList : List (SemLoc sig) :=
  [.dma cc2_scoped0.sem, .dma cc2_scoped1.sem, .dma cc2_scratch6.sem, .dma cc2_scratch7.sem, .dma cc2_scoped4.sem, .dma cc2_scoped5.sem]
def ownBufList : List (Ref sig .scVector) := [cc2_scratch0, cc2_scratch1, cc2_scratch2, cc2_scratch3, cc2_scratch4, cc2_scratch5]

variable (d : Dev nD) (L : grid2.Coords)

def semOf : SemLoc sig ↪ GSem nD τ sig := ⟨fun s => (tile d L, s), fun _ _ h => (Prod.mk.inj h).2⟩
def refOf : Ref sig .scVector ↪ DevRef τ sig := ⟨(Proc.scVector (cV L) (jV L)).devRef, Proc.devRef_injective _⟩

abbrev semRest : sProp 𝕄 := bigSep (ownCells (tile d L) \ ownSemList.toFinset.map (semOf d L)) fun g => semVal g 0
abbrev bufRest : sProp 𝕄 :=
  bigSep (ownRefs (τ := τ) (.scVector (cV L) (jV L)) \ ownBufList.toFinset.map (refOf L)) fun b => iprop(∃ f, ((d, b) : Loc nD τ sig) ↦{fullShare} f)

theorem ownSems0_V :
    (ownSems0 (tile d L) : sProp 𝕄)
      = iprop((semVal (tile d L, .dma cc2_scoped0.sem) 0 ∗ semVal (tile d L, .dma cc2_scoped1.sem) 0
          ∗ semVal (tile d L, .dma cc2_scratch6.sem) 0 ∗ semVal (tile d L, .dma cc2_scratch7.sem) 0
          ∗ semVal (tile d L, .dma cc2_scoped4.sem) 0 ∗ semVal (tile d L, .dma cc2_scoped5.sem) 0) ∗ semRest d L) := by
  unfold SparseCore.Cfg.ownSems0
  rw [bigSep_takes _ _ (semOf d L) ownSemList (by decide) (fun j hj => mem_ownCells.mpr ⟨rfl, by
    show j.isScoped .scVector = true; revert j; decide⟩)]
  rfl

theorem ownBufs_V :
    (ownBufs (tile d L) : sProp 𝕄)
      = iprop(((∃ f, (tile d L).loc cc2_scratch0 ↦{fullShare} f) ∗ (∃ f, (tile d L).loc cc2_scratch1 ↦{fullShare} f)
          ∗ (∃ f, (tile d L).loc cc2_scratch2 ↦{fullShare} f) ∗ (∃ f, (tile d L).loc cc2_scratch3 ↦{fullShare} f)
          ∗ (∃ f, (tile d L).loc cc2_scratch4 ↦{fullShare} f) ∗ (∃ f, (tile d L).loc cc2_scratch5 ↦{fullShare} f)) ∗ bufRest d L) := by
  unfold SparseCore.Cfg.ownBufs
  rw [bigSep_takes _ _ (refOf L) ownBufList (by decide) (fun j hj => SparseCore.Cfg.mem_ownRefs_of_owner (by
    revert j; unfold ownBufList; simp only [List.forall_mem_cons]; exact ⟨rfl, rfl, rfl, rfl, rfl, rfl, by simp⟩))]
  rfl

/-! ## All the partial sums: each tile's two rows -/

variable [FloatOps F] [Named F] (XN : Vec F S10000x128 .f32) {EF : Vec F S640000 .i32} (hE : EdgesOK EF)

/-- The tile that writes row `r`. -/
def tileAt (r : Fin 64) : grid2.Coords
  | 0 => (⟨r.val / 32, by omega⟩ : Fin 2)
  | 1 => (⟨r.val / 2 % 16, by omega⟩ : Fin 16)

/-- The place `j` of an accumulator. -/
def accAt (j : Fin 10000) : S10000.Idx := fun | 0 => j

/-- The partial sums: row `2w` is tile `w`'s first accumulator, row `2w + 1` its second. -/
def tileOut : Vec F S64x10000 .f32 := fun x =>
  if (x 0).val % 2 = 0 then tileC (tileAt (x 0)) XN hE (accAt (x 1)) else tileD (tileAt (x 0)) hE (accAt (x 1))

omit [FloatOps F] [Named F] in
theorem tileAt_eq (r : Fin 64) (h : r.val / 2 = tileNo L) : tileAt r = L := by
  have h0 : (L 0).val < 2 := (L 0).isLt
  have h1 : (L 1).val < 16 := (L 1).isLt
  unfold tileNo at h
  funext a
  match a with
  | 0 => exact Fin.ext (show r.val / 32 = (L 0).val by omega)
  | 1 => exact Fin.ext (show r.val / 2 % 16 = (L 1).val by omega)

omit [FloatOps F] [Named F] in
theorem unsqueeze (x : S10000.Idx) :
    Shape.reshapeEquiv squeezes_S1x10000_S10000.numel_eq x = (fun | 0 => (0 : Fin 1) | 1 => x 0 : S1x10000.Idx) :=
  Shape.reshapeEquiv_eq_of_rowMajor _ (by
    rw [Shape.rowMajor_val_two, Shape.rowMajor_val_one]; show 0 * 10000 + (x 0).val = (x 0).val; omega)

omit [FloatOps F] [Named F] in
theorem emb_outC (x : S10000.Idx) : ∃ r : Fin 64, r.val = 2 * tileNo L ∧ (outC L).view.emb x = (fun | 0 => r | 1 => x 0 : S64x10000.Idx) := by
  have h0 : (L 0).val < 2 := (L 0).isLt
  have h1 : (L 1).val < 16 := (L 1).isLt
  have o0 : k2_off6 L 0 = 32 * (L 0).val + 2 * (L 1).val := by rw [k2_off6_eq, Matrix.cons_val_zero]
  have o1 : k2_off6 L 1 = 0 := by rw [k2_off6_eq, Matrix.cons_val_one]; rfl
  refine ⟨⟨2 * tileNo L, by unfold tileNo; omega⟩, rfl, ?_⟩
  show (paV.view.slice (Rect.unit (s := S64x10000) (k2_off6 L) S1x10000.size (k2_off6_inb L))).emb (Shape.reshapeEquiv squeezes_S1x10000_S10000.numel_eq x) = _
  rw [unsqueeze]
  funext a
  apply Fin.ext
  match a with
  | 0 => show k2_off6 L 0 + 1 * 0 = 2 * tileNo L; unfold tileNo; omega
  | 1 => show k2_off6 L 1 + 1 * (x 0).val = (x 0).val; omega

omit [FloatOps F] [Named F] in
theorem emb_outD (x : S10000.Idx) : ∃ r : Fin 64, r.val = 2 * tileNo L + 1 ∧ (outD L).view.emb x = (fun | 0 => r | 1 => x 0 : S64x10000.Idx) := by
  have h0 : (L 0).val < 2 := (L 0).isLt
  have h1 : (L 1).val < 16 := (L 1).isLt
  have o0 : k2_off7 L 0 = 32 * (L 0).val + 2 * (L 1).val + 1 := by rw [k2_off7_eq, Matrix.cons_val_zero]
  have o1 : k2_off7 L 1 = 0 := by rw [k2_off7_eq, Matrix.cons_val_one]; rfl
  refine ⟨⟨2 * tileNo L + 1, by unfold tileNo; omega⟩, rfl, ?_⟩
  show (paV.view.slice (Rect.unit (s := S64x10000) (k2_off7 L) S1x10000.size (k2_off7_inb L))).emb (Shape.reshapeEquiv squeezes_S1x10000_S10000.numel_eq x) = _
  rw [unsqueeze]
  funext a
  apply Fin.ext
  match a with
  | 0 => show k2_off7 L 0 + 1 * 0 = 2 * tileNo L + 1; unfold tileNo; omega
  | 1 => show k2_off7 L 1 + 1 * (x 0).val = (x 0).val; omega

theorem read_outC : (outC L).view.read (Elt F) (tileOut XN hE) = tileC L XN hE := by
  funext x
  obtain ⟨r, hr, e⟩ := emb_outC L x
  rw [View.read_apply, e]
  refine (cast_eq _ _).trans ?_
  show (if r.val % 2 = 0 then tileC (tileAt r) XN hE (accAt (x 0)) else tileD (tileAt r) hE (accAt (x 0))) = _
  rw [if_pos (by omega), tileAt_eq L r (by omega)]
  exact congrArg _ (funext fun | 0 => rfl)

theorem read_outD : (outD L).view.read (Elt F) (tileOut XN hE) = tileD L hE := by
  funext x
  obtain ⟨r, hr, e⟩ := emb_outD L x
  rw [View.read_apply, e]
  refine (cast_eq _ _).trans ?_
  show (if r.val % 2 = 0 then tileC (tileAt r) XN hE (accAt (x 0)) else tileD (tileAt r) hE (accAt (x 0))) = _
  rw [if_neg (by omega), tileAt_eq L r (by omega)]
  exact congrArg _ (funext fun | 0 => rfl)

/-! ## The tile's task -/

set_option maxHeartbeats 4000000 in
theorem tile_body (hF : (K (F := F)).Facts) (q : PosShare TreeShare) (f : Vec F S64x10000 .f32)
    (O : CellTallies nD τ sig (HIx 1)) (W : Waits sig (HIx 1)) (hO : ∀ g, O g none = 0) :
    iprop(levAts (K (F := F)).L (K (F := F)).lev ∗ emp
        ∗ (xnPts d L q XN ∗ edPts d L q EF ∗ outCPts d L f ∗ outDPts d L f)
        ∗ scopedBufs (tile d L) ∗ scopedSems0 (tile d L) ∗ owes (tile d L) O W)
      ⊢ wp frame (wpE (defs₀ (F := F)) 𝒱₀ (tile d L) none) Set.univ
          (cc2_edge_kernel L xnV (Memref.isWhole_whole _) edV (Memref.isWhole_whole _) paV (Memref.isWhole_whole _) riV (Memref.isWhole_whole _) ciV (Memref.isWhole_whole _)
            rrV (Memref.isWhole_whole _) crV (Memref.isWhole_whole _) caV (Memref.isWhole_whole _) daV (Memref.isWhole_whole _)
            cc2_scratch6 cc2_scratch7 cc2_scoped0 cc2_scoped1 cc2_scoped2 cc2_scoped3 cc2_scoped4 cc2_scoped5)
          fun _ => iprop((xnPts d L q XN ∗ edPts d L q EF ∗ outCPts d L (tileOut XN hE) ∗ outDPts d L (tileOut XN hE))
            ∗ scopedBufs (tile d L) ∗ scopedSems0 (tile d L)
            ∗ ∃ W', ⌜∀ p ∈ W', p ∈ W ∨ p.2 = none⌝ ∗ owes (tile d L) O W') := by
  unfold cc2_edge_kernel
  rw [(K (F := F)).scopedBufs_V hF d (cV L) (jV L), SparseCore.Cfg.scopedSems0_V (Val := Elt F) d (cV L) (jV L), ownSems0_V, ownBufs_V]
  iintro ⟨#Hlv, -, ⟨Hx, He, Hoc, Hod⟩, ⟨⟨Hri, Hci, Hrr, Hcr, Hca, Hda⟩, Hbufs⟩, ⟨⟨H0, H1, H6, H7, H4, H5⟩, Hsems⟩, HO⟩
  ihave Hmw := (show levAts (K (F := F)).L (K (F := F)).lev ⊢ Transfers.MayWaits (tile d L) (default : HIx 1) O from
    (K (F := F)).mayWaits_none (thr := tile d L) hO) $$ Hlv
  icases Hmw with #Hmw
  iapply (step_of d L (part11_wp d L XN hE q O W f (tileOut XN hE) (read_outC L XN hE))) $$ [Hx He Hri Hci Hrr Hcr Hca Hda H0 H1 H6 H7 H4 Hoc HO]
  · isplitr; · iexact Hmw
    isplitl [Hx He Hri Hci Hrr Hcr H0 H1 H6 H7 HO]
    · isplitl [Hx]; · iexact Hx
      isplitl [He]; · iexact He
      isplitl [Hri]; · iexact Hri
      isplitl [Hci]; · iexact Hci
      isplitl [Hrr]; · iexact Hrr
      isplitl [Hcr]; · iexact Hcr
      isplitl [H0 H1 H6 H7]
      · isplitl [H0]; · iexact H0
        isplitl [H1]; · iexact H1
        isplitl [H6]; · iexact H6
        iexact H7
      iexists W
      isplitr; · ipureintro; exact fun p hp => .inl hp
      iexact HO
    isplitl [Hca]; · iexact Hca
    isplitl [Hda]; · iexact Hda
    isplitl [Hoc]; · iexact Hoc
    iexact H4
  iintro %r ⟨⟨Hx, He, Hri, Hci, Hrr, Hcr, ⟨H0, H1, H6, H7⟩, ⟨%W', %hW', HO⟩⟩, Hca, Hda, Hoc, H4⟩
  ihave Hda' := (Entails.of_eq (show (daPts d L (tileD L hE) : sProp 𝕄) = daV.view.loc (tile d L) ↦{fullShare} tileD L hE from rfl)) $$ Hda
  sl_exec
  ihave Hod' := (Entails.of_eq (landed d L (outD L).view f (tileOut XN hE) (tile_body.sl.dma0 L hE) (by rw [read_outD]; rfl))) $$ Hod
  sl_step
  isplitl [Hx He Hoc Hod']
  · isplitl [Hx]; · iexact Hx
    isplitl [He]; · iexact He
    isplitl [Hoc]; · iexact Hoc
    iexact Hod'
  isplitl [Hri Hci Hrr Hcr Hca Hda' Hbufs]
  · isplitr [Hbufs]
    · isplitl [Hri]; · iexact Hri
      isplitl [Hci]; · iexact Hci
      isplitl [Hrr]; · iexact Hrr
      isplitl [Hcr]; · iexact Hcr
      isplitl [Hca]; · iexists _; iexact Hca
      iexists _; iexact Hda'
    iexact Hbufs
  isplitl [H0 H1 H6 H7 H4 H5 Hsems]
  · isplitr [Hsems]
    · isplitl [H0]; · iexact H0
      isplitl [H1]; · iexact H1
      isplitl [H6]; · iexact H6
      isplitl [H7]; · iexact H7
      isplitl [H4]; · iexact H4
      iexact H5
    iexact Hsems
  iexists _
  isplitr
  swap; · iexact HO
  ipureintro; intro p hp
  rcases Finset.mem_insert.mp hp with hp | hp; · exact .inr (hp ▸ rfl)
  exact hW' p hp

end Cert.Proof.K

end
-- ==== Proof.Launch.lean ====
/-
  What the launch of the SparseCore call carries: every tile takes a share of the table of rows and of the edge list and its
  two rows of the partial sums, and brings the two rows back written.
-/
module

public import proofs.«01_k».proof.Proof.TileBody

@[expose] public section

noncomputable section

namespace Cert.Proof.K

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-! ## The tiles, and their rows -/

/-- The tile `i` of SparseCore `c`. -/
def coordsOf (c : Fin 2) (i : Fin 16) : grid2.Coords :=
  fun | 0 => c | 1 => i | ⟨_ + 2, h⟩ => absurd h (Nat.not_lt.2 (Nat.le_add_left _ _))

abbrev xnLoc (d : Dev nD) : Loc nD τ sig := (SparseCore.T d).loc main_v0
abbrev edLoc (d : Dev nD) : Loc nD τ sig := (SparseCore.T d).loc main_v2
abbrev paLoc (d : Dev nD) : Loc nD τ sig := (SparseCore.T d).loc main_v3

/-- The elements of a tile's first row, or of its second. -/
def rowSet (j : Fin 2 × Fin 16 × Fin 2) : Finset S64x10000.Idx :=
  if j.2.2 = 0 then (outC (coordsOf j.1 j.2.1)).view.set else (outD (coordsOf j.1 j.2.1)).view.set

theorem mem_rowSet (j : Fin 2 × Fin 16 × Fin 2) (x : S64x10000.Idx) :
    x ∈ rowSet j ↔ (x 0).val = 2 * (16 * j.1.val + j.2.1.val) + j.2.2.val := by
  obtain ⟨c, i, b⟩ := j
  have hn : tileNo (coordsOf c i) = 16 * c.val + i.val := rfl
  unfold rowSet
  match b with
  | 0 =>
    rw [if_pos rfl]
    constructor
    · intro hx
      obtain ⟨y, -, rfl⟩ := Finset.mem_map.mp hx
      obtain ⟨r, hr, e⟩ := emb_outC (coordsOf c i) y
      rw [e]
      show r.val = _
      rw [hr, hn]; rfl
    · intro hx
      refine Finset.mem_map.mpr ⟨fun | 0 => x 1, Finset.mem_univ _, ?_⟩
      obtain ⟨r, hr, e⟩ := emb_outC (coordsOf c i) (fun | 0 => x 1)
      rw [e]
      funext a
      match a with
      | 0 => exact Fin.ext (by show r.val = (x 0).val; rw [hr, hn, hx]; rfl)
      | 1 => rfl
  | 1 =>
    rw [if_neg (show ¬(1 : Fin 2) = 0 by decide)]
    constructor
    · intro hx
      obtain ⟨y, -, rfl⟩ := Finset.mem_map.mp hx
      obtain ⟨r, hr, e⟩ := emb_outD (coordsOf c i) y
      rw [e]
      show r.val = _
      rw [hr, hn]; rfl
    · intro hx
      refine Finset.mem_map.mpr ⟨fun | 0 => x 1, Finset.mem_univ _, ?_⟩
      obtain ⟨r, hr, e⟩ := emb_outD (coordsOf c i) (fun | 0 => x 1)
      rw [e]
      funext a
      match a with
      | 0 => exact Fin.ext (by show r.val = (x 0).val; rw [hr, hn, hx]; rfl)
      | 1 => rfl

theorem rowSet_disjoint : ∀ i ∈ (Finset.univ : Finset (Fin 2 × Fin 16 × Fin 2)), ∀ j ∈ (Finset.univ : Finset (Fin 2 × Fin 16 × Fin 2)),
    i ≠ j → Disjoint (rowSet i) (rowSet j) := by
  rintro ⟨c, i, b⟩ - ⟨c', i', b'⟩ - h
  refine Finset.disjoint_left.mpr fun x hx hx' => h ?_
  rw [mem_rowSet] at hx hx'
  have e := hx.symm.trans hx'
  simp only at e
  have hc : c = c' := Fin.ext (by omega)
  have hi : i = i' := Fin.ext (by omega)
  have hb : b = b' := Fin.ext (by omega)
  rw [hc, hi, hb]

theorem rowSet_cover : (Finset.univ : Finset (Fin 2 × Fin 16 × Fin 2)).biUnion rowSet = Finset.univ := by
  refine Finset.eq_univ_iff_forall.mpr fun x => Finset.mem_biUnion.mpr ?_
  have hx : (x 0).val < 64 := (x 0).isLt
  refine ⟨(⟨(x 0).val / 32, by omega⟩, ⟨(x 0).val / 2 % 16, by omega⟩, ⟨(x 0).val % 2, by omega⟩), Finset.mem_univ _, ?_⟩
  rw [mem_rowSet]
  show (x 0).val = 2 * (16 * ((x 0).val / 32) + (x 0).val / 2 % 16) + (x 0).val % 2
  omega

/-- The partial sums are every tile's two rows. -/
theorem pa_rows (d : Dev nD) (f : Vec F S64x10000 .f32) :
    (paLoc d ↦{fullShare} f : sProp 𝕄)
      = bigSep Finset.univ fun c : Fin 2 => bigSep Finset.univ fun i : Fin 16 =>
          iprop(outCPts d (coordsOf c i) f ∗ outDPts d (coordsOf c i) f) := by
  rw [← rowSet_cover, pointsTo_biUnion Finset.univ (ℓ := paLoc d) rowSet rowSet_disjoint, bigSep_univ_prod]
  refine BI.bigSep_congr fun c _ => ?_
  rw [bigSep_univ_prod]
  refine BI.bigSep_congr fun i _ => ?_
  rw [BI.bigSep_univ_two]
  rfl

/-! ## What the handshakes carry -/

section Pays

variable [FloatOps F] [Named F] (XN : Dev nD → Vec F S10000x128 .f32) {EF : Dev nD → Vec F S640000 .i32} (hE : ∀ d, EdgesOK (EF d))
  (PA : Dev nD → Vec F S64x10000 .f32)

/-- The share of the table and of the edge list tile `i` of SparseCore `c` takes. -/
def tileShare (c : Fin 2) (i : Fin 16) : PosShare TreeShare := piece (piece fullShare 1 c) 15 i

abbrev goPts (EF : Dev nD → Vec F S640000 .i32) (d : Dev nD) (c : Fin 2) (i : Fin 16) : sProp 𝕄 :=
  iprop(xnPts d (coordsOf c i) (tileShare c i) (XN d) ∗ edPts d (coordsOf c i) (tileShare c i) (EF d)
    ∗ outCPts d (coordsOf c i) (PA d) ∗ outDPts d (coordsOf c i) (PA d))
abbrev tdPts (d : Dev nD) (c : Fin 2) (i : Fin 16) : sProp 𝕄 :=
  iprop(outCPts d (coordsOf c i) (tileOut (XN d) (hE d)) ∗ outDPts d (coordsOf c i) (tileOut (XN d) (hE d)))

def P : (K (F := F)).Pay (nD := nD) (Val := Elt F) (Name := ℕ) (U := UU) where
  st := fun q d c => match q with
    | 0 => bigSep Finset.univ fun i : Fin ((K (F := F)).nSub 0) => goPts XN PA EF d (Fin.cast nCore_zero c) (Fin.cast nSub_zero i)
  dn := fun q d c => match q with
    | 0 => bigSep Finset.univ fun i : Fin ((K (F := F)).nSub 0) => tdPts XN hE d (Fin.cast nCore_zero c) (Fin.cast nSub_zero i)
  go := fun q d c i => match q with
    | 0 => goPts XN PA EF d (Fin.cast nCore_zero c) (Fin.cast nSub_zero i)
  td := fun q d c i => match q with
    | 0 => tdPts XN hE d (Fin.cast nCore_zero c) (Fin.cast nSub_zero i)
  x := fun _ _ => iprop(emp)

instance P_storable : (P XN hE PA).IsStorable where
  st q d c := match q with
    | 0 => (inferInstance : BI.Storable (upEmb : UEmb _ 𝕄) (bigSep Finset.univ fun i : Fin ((K (F := F)).nSub 0) => goPts XN PA EF d (Fin.cast nCore_zero c) (Fin.cast nSub_zero i)))
  dn q d c := match q with
    | 0 => (inferInstance : BI.Storable (upEmb : UEmb _ 𝕄) (bigSep Finset.univ fun i : Fin ((K (F := F)).nSub 0) => tdPts XN hE d (Fin.cast nCore_zero c) (Fin.cast nSub_zero i)))
  go q d c i := match q with
    | 0 => (inferInstance : BI.Storable (upEmb : UEmb _ 𝕄) (goPts XN PA EF d (Fin.cast nCore_zero c) (Fin.cast nSub_zero i)))
  td q d c i := match q with
    | 0 => (inferInstance : BI.Storable (upEmb : UEmb _ 𝕄) (tdPts XN hE d (Fin.cast nCore_zero c) (Fin.cast nSub_zero i)))

theorem vecSplit : (K (F := F)).VecSplit' (P XN hE PA) 0 := by
  intro d c
  dsimp only [P]
  iintro H
  imodintro
  isplitl [H]; · iexact H
  iintro H
  iexact H

omit [FloatOps F] [Named F] in
/-- The calls' SparseCores and tiles are counted by two and sixteen. -/
theorem bigSep_tiles (Φ : Fin 2 → Fin 16 → sProp 𝕄) :
    (bigSep Finset.univ fun c : Fin ((K (F := F)).nCore 0) => bigSep Finset.univ fun i : Fin ((K (F := F)).nSub 0) =>
        Φ (Fin.cast nCore_zero c) (Fin.cast nSub_zero i))
      = bigSep Finset.univ fun c : Fin 2 => bigSep Finset.univ fun i : Fin 16 => Φ c i :=
  BI.bigSep_congr fun _ _ => BI.bigSep_congr fun _ _ => rfl

omit [FloatOps F] [Named F] in
/-- A whole buffer gives every tile its share. -/
theorem shares {ℓ : Loc nD τ sig} (f : Buf (Elt F) ℓ) :
    (ℓ ↦{fullShare} f : sProp 𝕄) ⊢ bigSep Finset.univ fun c : Fin 2 => bigSep Finset.univ fun i : Fin 16 => ℓ ↦{tileShare c i} f :=
  (Entails.of_eq (pointsTo_pieces _ f 1 fullShare)).trans (BI.bigSep_mono fun c _ => Entails.of_eq (pointsTo_pieces _ f 15 _))

theorem st_of (d : Dev nD) :
    iprop((xnLoc d ↦{fullShare} XN d) ∗ (edLoc d ↦{fullShare} EF d) ∗ (paLoc d ↦{fullShare} PA d))
      ⊢ bigSep Finset.univ fun c : Fin ((K (F := F)).nCore 0) => (P XN hE PA).st 0 d c := by
  dsimp only [P]
  rw [bigSep_tiles (fun c i => goPts XN PA EF d c i), pa_rows]
  simp only [bigSep_sep']
  iintro ⟨Hx, He, Hp⟩
  isplitl [Hx]; · iapply (shares (ℓ := xnLoc d) (XN d)); iexact Hx
  isplitl [He]; · iapply (shares (ℓ := edLoc d) (EF d)); iexact He
  iexact Hp

theorem dn_to (d : Dev nD) :
    (bigSep Finset.univ fun c : Fin ((K (F := F)).nCore 0) => (P XN hE PA).dn 0 d c) ⊢ (paLoc d ↦{fullShare} tileOut (XN d) (hE d) : sProp 𝕄) := by
  dsimp only [P]
  rw [bigSep_tiles (fun c i => tdPts XN hE d c i), pa_rows]

/-! ## The obligation -/

omit [FloatOps F] [Named F] in
theorem obl_post {thr : Thread nD τ} {A A' B C : sProp 𝕄} {O : CellTallies nD τ sig (HIx 1)} {W : Waits sig (HIx 1)} {q : Fin 1} (hA : A ⊢ A') :
    iprop(A ∗ B ∗ C ∗ ∃ W', ⌜∀ p ∈ W', p ∈ W ∨ p.2 = none⌝ ∗ owes thr O W')
      ⊢ iprop(A' ∗ B ∗ C ∗ ∃ W', ⌜∀ p ∈ W', p ∈ W ∨ p.2 = none ∨ p.2 = some q⌝ ∗ owes thr O W') := by
  refine sep_mono hA (sep_mono_right (sep_mono_right ?_))
  iintro ⟨%W', %hW', HO⟩
  iexists W'
  isplitr
  · ipureintro; exact fun p hp => (hW' p hp).imp_right Or.inl
  iexact HO

set_option maxRecDepth 16384 in
theorem tileObl : (K (F := F)).TileObl (D (F := F)) 𝒱 (P XN hE PA) v₀ 0 := by
  intro d c i O W hO _ _
  simp only [show (P XN hE PA).ox = fun _ _ => 0 from rfl, add_zero]
  have hci : ((K (F := F)).core 0 c).val < grid2.bound 0 ∧ ((K (F := F)).sub 0 i).val < grid2.bound 1 := ⟨c.isLt, i.isLt⟩
  change _ ⊢ wp _ _ _ (Pipeline.liftProg (defs₀ (F := F) (.scVector ((K (F := F)).core 0 c) ((K (F := F)).sub 0 i)) 2 ())) _
  refine BI.Entails.trans ?_ (Pipeline.wp_liftProg (D (F := F)) (Pipeline.defs_kernel pcfgs defs₀) 𝒱₀ _ Set.univ none _ _)
  rw [show defs₀ (F := F) (.scVector ((K (F := F)).core 0 c) ((K (F := F)).sub 0 i)) 2 ()
    = SparseCore.onTile hcore2 hsub2 (fun c s => cc2_edge_kernel (coordsOf c s) xnV (Memref.isWhole_whole _) edV (Memref.isWhole_whole _) paV (Memref.isWhole_whole _)
        riV (Memref.isWhole_whole _) ciV (Memref.isWhole_whole _) rrV (Memref.isWhole_whole _) crV (Memref.isWhole_whole _) caV (Memref.isWhole_whole _) daV (Memref.isWhole_whole _)
        cc2_scratch6 cc2_scratch7 cc2_scoped0 cc2_scoped1 cc2_scoped2 cc2_scoped3 cc2_scoped4 cc2_scoped5) ⟨⟩ ((K (F := F)).core 0 c) ((K (F := F)).sub 0 i) from rfl]
  simp only [SparseCore.onTile, hci, and_self, ↓reduceDIte]
  exact (tile_body d (coordsOf ⟨_, hci.1⟩ ⟨_, hci.2⟩) (XN d) (hE d) facts (tileShare _ _) (PA d) O W hO).trans
    (wp_mono frame _ _ fun _ => obl_post (sep_elim_right.trans sep_elim_right))

end Pays

end Cert.Proof.K

end
-- ==== Proof.Calls.lean ====
/-
  The operations of `@main` on the TensorCore, each from the buffers it reads and writes to the same buffers at their new
  contents.
-/
module

public import proofs.«01_k».proof.Proof.TcTable
public import proofs.«01_k».proof.Proof.TcFinal
public import proofs.«01_k».proof.Proof.Launch

@[expose] public section

noncomputable section

namespace Cert.Proof.K

open Cert.KernelIdeal Cert.KernelIdeal.Gen

open Idealize.ShloMosaic
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

local notation "𝕄" => MT nD τ sig (HIx 1) (Elt F) ℕ UU ℕ

/-- What a call's cells start from. -/
abbrev cellsOf (p : Fin 3) (d : Dev nD) : sProp 𝕄 :=
  iprop(Pipeline.cellsGhost (Pipeline.pin (pcfgs (F := F)) adm) EP p d ∗ Pipeline.toksInit (Pipeline.pin (pcfgs (F := F)) adm) EP p d)

abbrev runs (d : Dev nD) (prog : Prog (TpuEff nD τ sig (Elt F) (SparseCore.Sig (ΛP (F := F)) 1) .tc) PUnit) (Q : sProp 𝕄) : sProp 𝕄 :=
  wp frame (wpE ((K (F := F)).defs (D (F := F))) 𝒱 (SparseCore.T d) none) Set.univ prog fun _ => Q

/-! ## The first call -/

section Norm

variable (X : Dev nD → Vec F S10000x128 .f32) (Z : Dev nD → Vec F S10000x128 .f32)

theorem norm_arrays (c : Dev nD) (G : (w : Fin 2) → Buf (Elt F) ((win0 w).arr.view.loc (c.tc : Thread nD τ))) :
    (normDats X Z 0 c).arrays G
      = iprop(((SparseCore.T c).loc main_arg0 ↦{fullShare} G 0) ∗ ((SparseCore.T c).loc main_v0 ↦{fullShare} G 1)) := by
  refine (Pipeline.arrays_eq (Pipeline.pin (pcfgs (F := F)) adm) (normDats X Z) 0 c arr_whole0 ((norm_ok X Z).share c) G).trans ?_
  exact bigSep_W0 _

theorem norm_call (d : Dev nD) :
    iprop(levAts (K (F := F)).L (K (F := F)).lev ∗ (K (F := F)).tcSt EH d 0 ∗ boundary (SparseCore.T d) ∗ cellsOf 0 d
        ∗ ((SparseCore.T d).loc main_arg0 ↦{fullShare} X d) ∗ ((SparseCore.T d).loc main_v0 ↦{fullShare} Z d))
      ⊢ runs d (Prog.lift (.customCall (SparseCore.inner (Pipeline.entry 0)) ()))
          iprop((K (F := F)).tcSt EH d 0 ∗ boundary (SparseCore.T d)
            ∗ ((SparseCore.T d).loc main_arg0 ↦{fullShare} X d) ∗ ((SparseCore.T d).loc main_v0 ↦{fullShare} normAll (X d))) := by
  have h := call_wp (norm_ok X Z) d
  rw [norm_arrays, norm_arrays] at h
  have e0 : (normDats X Z 0 d).arrAt 0 (Pipeline.pin (pcfgs (F := F)) adm 0).N = X d := (normDat X Z d).arrAt_in 0 rfl _
  have e1 : (normDats X Z 0 d).arrAt 1 (Pipeline.pin (pcfgs (F := F)) adm 0).N = normAll (X d) := norm_value X Z d
  rw [e0, e1] at h
  exact h

end Norm

/-! ## The second call -/

section Table

variable (A : Dev nD → TableArgs F) (Z : Dev nD → Vec F S8x128 .f32)

/-- The twelve arrays the second call reads. -/
abbrev tablePts (d : Dev nD) (A : TableArgs F) : sProp 𝕄 :=
  iprop(((SparseCore.T d).loc main_arg2 ↦{fullShare} A.ps) ∗ ((SparseCore.T d).loc main_arg3 ↦{fullShare} A.pd)
    ∗ ((SparseCore.T d).loc main_arg4 ↦{fullShare} A.po) ∗ ((SparseCore.T d).loc main_arg5 ↦{fullShare} A.ro)
    ∗ ((SparseCore.T d).loc main_arg6 ↦{fullShare} A.wq) ∗ ((SparseCore.T d).loc main_arg7 ↦{fullShare} A.bq)
    ∗ ((SparseCore.T d).loc main_arg8 ↦{fullShare} A.wk) ∗ ((SparseCore.T d).loc main_arg9 ↦{fullShare} A.bk)
    ∗ ((SparseCore.T d).loc main_arg10 ↦{fullShare} A.wv) ∗ ((SparseCore.T d).loc main_arg11 ↦{fullShare} A.bv)
    ∗ ((SparseCore.T d).loc main_arg12 ↦{fullShare} A.wo) ∗ ((SparseCore.T d).loc main_arg13 ↦{fullShare} A.bo))

theorem table_arrays (c : Dev nD) (G : (w : Fin 13) → Buf (Elt F) ((win1 w).arr.view.loc (c.tc : Thread nD τ))) :
    (tableDats A Z 1 c).arrays G
      = iprop(((SparseCore.T c).loc main_arg2 ↦{fullShare} G 0) ∗ ((SparseCore.T c).loc main_arg3 ↦{fullShare} G 1)
        ∗ ((SparseCore.T c).loc main_arg4 ↦{fullShare} G 2) ∗ ((SparseCore.T c).loc main_arg5 ↦{fullShare} G 3)
        ∗ ((SparseCore.T c).loc main_arg6 ↦{fullShare} G 4) ∗ ((SparseCore.T c).loc main_arg7 ↦{fullShare} G 5)
        ∗ ((SparseCore.T c).loc main_arg8 ↦{fullShare} G 6) ∗ ((SparseCore.T c).loc main_arg9 ↦{fullShare} G 7)
        ∗ ((SparseCore.T c).loc main_arg10 ↦{fullShare} G 8) ∗ ((SparseCore.T c).loc main_arg11 ↦{fullShare} G 9)
        ∗ ((SparseCore.T c).loc main_arg12 ↦{fullShare} G 10) ∗ ((SparseCore.T c).loc main_arg13 ↦{fullShare} G 11)
        ∗ ((SparseCore.T c).loc main_v1 ↦{fullShare} G 12)) := by
  refine (Pipeline.arrays_eq (Pipeline.pin (pcfgs (F := F)) adm) (tableDats A Z) 1 c arr_whole1 ((table_ok A Z).share c) G).trans ?_
  exact bigSep_W1 _

theorem table_keep (d : Dev nD) (w : Fin 13) (hw : (cfg1.win w).isOut = false) :
    (tableDats A Z 1 d).arrAt w (Pipeline.pin (pcfgs (F := F)) adm 1).N = tableIn A d (Z d) w := by
  rw [tableDats_one]
  exact (tableDat A Z d).arrAt_in w hw _

theorem table_left (d : Dev nD) : (tableDats A Z 1 d).arrAt 12 (Pipeline.pin (pcfgs (F := F)) adm 1).N = (A d).table := by
  rw [tableDats_one]
  exact table_value A Z d

set_option maxHeartbeats 2000000 in
theorem table_call (d : Dev nD) :
    iprop(levAts (K (F := F)).L (K (F := F)).lev ∗ (K (F := F)).tcSt EH d 0 ∗ boundary (SparseCore.T d) ∗ cellsOf 1 d
        ∗ tablePts d (A d) ∗ ((SparseCore.T d).loc main_v1 ↦{fullShare} Z d))
      ⊢ runs d (Prog.lift (.customCall (SparseCore.inner (Pipeline.entry 1)) ()))
          iprop((K (F := F)).tcSt EH d 0 ∗ boundary (SparseCore.T d)
            ∗ tablePts d (A d) ∗ ((SparseCore.T d).loc main_v1 ↦{fullShare} (A d).table)) := by
  have h := call_wp (table_ok A Z) d
  rw [table_arrays, table_arrays] at h
  have e := table_keep A Z d
  have e12 := table_left A Z d
  rw [e 0 rfl, e 1 rfl, e 2 rfl, e 3 rfl, e 4 rfl, e 5 rfl, e 6 rfl, e 7 rfl, e 8 rfl, e 9 rfl, e 10 rfl, e 11 rfl, e12] at h
  refine BIBase.Entails.trans ?_ (BIBase.Entails.trans h (wp_mono frame _ _ fun _ => ?_))
  · iintro ⟨Hl, Hst, Hb, Hg, ⟨H0, H1, H2, H3, H4, H5, H6, H7, H8, H9, H10, H11⟩, H12⟩
    isplitl [Hl]; · iexact Hl
    isplitl [Hst]; · iexact Hst
    isplitl [Hb]; · iexact Hb
    isplitl [Hg]; · iexact Hg
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    iexact H12
  · iintro ⟨Hst, Hb, H0, H1, H2, H3, H4, H5, H6, H7, H8, H9, H10, H11, H12⟩
    isplitl [Hst]; · iexact Hst
    isplitl [Hb]; · iexact Hb
    isplitr [H12]
    · isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      iexact H11
    iexact H12

end Table

/-! ## The last call -/

section Final

variable (X : Dev nD → Vec F S10000x128 .f32) (PT : Dev nD → Vec F S64x10000 .f32) (TB : Dev nD → Vec F S8x128 .f32)
  (Z : Dev nD → Vec F S10000x128 .f32)

theorem final_arrays (c : Dev nD) (G : (w : Fin 4) → Buf (Elt F) ((win3 w).arr.view.loc (c.tc : Thread nD τ))) :
    (finDats X PT TB Z 2 c).arrays G
      = iprop(((SparseCore.T c).loc main_arg0 ↦{fullShare} G 0) ∗ ((SparseCore.T c).loc main_v3 ↦{fullShare} G 1)
        ∗ ((SparseCore.T c).loc main_v1 ↦{fullShare} G 2) ∗ ((SparseCore.T c).loc main_v4 ↦{fullShare} G 3)) := by
  refine (Pipeline.RDat.arrays_eq (pcfgs (F := F)) adm (finDats X PT TB Z) (p := 2) c arr_whole3 ((final_ok X PT TB Z).share c) G).trans ?_
  exact bigSep_W3 _

theorem final_after (c : Dev nD) :
    (finDats X PT TB Z 2 c).arraysAt (Pipeline.pin (pcfgs (F := F)) adm 2).N
      ⊢ (iprop(((SparseCore.T c).loc main_arg0 ↦{fullShare} X c)
          ∗ ∃ G, ⌜FinAt X PT TB Z c G⌝ ∗ ((SparseCore.T c).loc main_v4 ↦{fullShare} G)) : sProp 𝕄) := by
  refine BIBase.Entails.trans (Entails.of_eq (Pipeline.RDat.arraysAt_eq (pcfgs (F := F)) adm (finDats X PT TB Z) (p := 2) c arr_whole3
    ((final_ok X PT TB Z).share c) _)) ?_
  refine BIBase.Entails.trans (Entails.of_eq (bigSep_W3 _)) ?_
  have h0 (G) (h : (finDats X PT TB Z 2 c).ArrAt 0 (Pipeline.pin (pcfgs (F := F)) adm 2).N G) : G = X c := by
    rw [Pipeline.RDat.ArrAt_in _ 0 rfl] at h
    exact h
  iintro ⟨⟨%G0, %hG0, H0⟩, -, -, ⟨%G3, %hG3, H3⟩⟩
  rw [h0 G0 hG0]
  isplitl [H0]; · iexact H0
  iexists G3
  isplitr; · ipureintro; exact hG3
  iexact H3

theorem final_call (d : Dev nD) :
    iprop(levAts (K (F := F)).L (K (F := F)).lev ∗ (K (F := F)).tcSt EH d 1 ∗ boundary (SparseCore.T d) ∗ cellsOf 2 d
        ∗ ((SparseCore.T d).loc main_arg0 ↦{fullShare} X d) ∗ ((SparseCore.T d).loc main_v3 ↦{fullShare} PT d)
        ∗ ((SparseCore.T d).loc main_v1 ↦{fullShare} TB d) ∗ ((SparseCore.T d).loc main_v4 ↦{fullShare} Z d))
      ⊢ runs d (Prog.lift (.customCall (SparseCore.inner (Pipeline.entry 2)) ()))
          iprop((K (F := F)).tcSt EH d 1 ∗ boundary (SparseCore.T d) ∗ ((SparseCore.T d).loc main_arg0 ↦{fullShare} X d)
          ∗ ∃ G, ⌜FinAt X PT TB Z d G⌝ ∗ ((SparseCore.T d).loc main_v4 ↦{fullShare} G)) := by
  have h := rcall_wp (final_ok X PT TB Z) d
  rw [final_arrays] at h
  exact BIBase.Entails.trans h (wp_mono frame _ _ fun _ => sep_mono_right (sep_mono_right (final_after X PT TB Z d)))

end Final

/-! ## The reshape of the edge list -/

/-- The edge list laid flat. -/
def flatEdges (E : Vec F S2x320000 .i32) : Vec F S640000 .i32 := shapeCast S640000 E shapeCasts_S2x320000_S640000

variable (m : (ℓ : Loc nD τ sig) → Buf (Elt F) ℓ)

theorem flat_call (d : Dev nD) :
    iprop(boundary (SparseCore.T d) ∗ ((SparseCore.T d).loc main_arg1 ↦{fullShare} m ((SparseCore.T d).loc main_arg1))
        ∗ ((SparseCore.T d).loc main_v2 ↦{fullShare} m ((SparseCore.T d).loc main_v2)))
      ⊢ runs (F := F) d (hlo rfl (StableHlo.reshape main_arg1 main_v2 (rfl : (.i32 : EltTy) = .i32) shapeCasts_S2x320000_S640000) (fun _ => .ret ⟨⟩))
          iprop(boundary (SparseCore.T d) ∗ ((SparseCore.T d).loc main_arg1 ↦{fullShare} m ((SparseCore.T d).loc main_arg1))
        ∗ ((SparseCore.T d).loc main_v2 ↦{fullShare} flatEdges (F := F) (m ((SparseCore.T d).loc main_arg1)))) := by
  have hne : (Proc.devRef .tc main_arg1 : DevRef τ sig) ∉ ({Proc.devRef .tc main_v2} : Finset (DevRef τ sig)) := by decide
  have pre (V : Valuation τ sig (Elt F)) :
      (bigSep (StableHlo.reshape (τ := τ) (Val := Elt F) main_arg1 main_v2 (rfl : (.i32 : EltTy) = .i32) shapeCasts_S2x320000_S640000).bufs
        (fun b => (((d, b) : Loc nD τ sig) ↦{(fun _ => fullShare) b} V b : sProp 𝕄)))
      = iprop(((SparseCore.T d).loc main_arg1 ↦{fullShare} V (Proc.devRef .tc main_arg1)) ∗ ((SparseCore.T d).loc main_v2 ↦{fullShare} V (Proc.devRef .tc main_v2))) := by
    rw [StableHlo.reshape_bufs, bigSep_insert hne, bigSep_singleton]; rfl
  iintro ⟨Hb, H1, H2⟩
  iapply (wp_hlo 𝒱 (SparseCore.T d) none Set.univ (hp := rfl) (q := fun _ => fullShare) (F := fun b => m (d, b)) fun _ _ => rfl) $$ [Hb H1 H2]
  · rw [pre]
    isplitl [Hb]; · iexact Hb
    isplitl [H1]; · iexact H1
    iexact H2
  rw [pre, StableHlo.reshape_result, StableHlo.reshape_result_ne (h := by decide)]
  iintro ⟨Hb, H1, H2⟩
  rw [wp_ret]
  imodintro
  isplitl [Hb]; · iexact Hb
  isplitl [H1]; · iexact H1
  iexact H2

end Cert.Proof.K

end
-- ==== Proof.Main.lean ====
/-
  The whole run: the launch's ghost state, `@main` on the TensorCore — rows to unit length, the table of the sixteen answers,
  the edge list laid flat, the SparseCores' sums, the choice of an answer for every node — and what the final memory holds.
-/
module

public import proofs.«01_k».proof.Proof.Calls
public import Idealize.ShloMosaic.Lib.Quiescent

@[expose] public section

noncomputable section

namespace Cert.Proof.K

open Cert.KernelIdeal Cert.KernelIdeal.Gen

open Idealize.ShloMosaic
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

local notation "𝕄" => MT nD τ sig (HIx 1) (Elt F) ℕ UU ℕ

variable (m : (ℓ : Loc nD τ sig) → Buf (Elt F) ℓ) (ρ : Dev nD → PrngReg)

/-! ## What every buffer holds, from the launch memory -/

def rows (d : Dev nD) : Vec F S10000x128 .f32 := m ((SparseCore.T d).loc main_arg0)
def edges (d : Dev nD) : Vec F S640000 .i32 := flatEdges (F := F) (m ((SparseCore.T d).loc main_arg1))
def params (d : Dev nD) : TableArgs F where
  ps := m ((SparseCore.T d).loc main_arg2)
  pd := m ((SparseCore.T d).loc main_arg3)
  po := m ((SparseCore.T d).loc main_arg4)
  ro := m ((SparseCore.T d).loc main_arg5)
  wq := m ((SparseCore.T d).loc main_arg6)
  bq := m ((SparseCore.T d).loc main_arg7)
  wk := m ((SparseCore.T d).loc main_arg8)
  bk := m ((SparseCore.T d).loc main_arg9)
  wv := m ((SparseCore.T d).loc main_arg10)
  bv := m ((SparseCore.T d).loc main_arg11)
  wo := m ((SparseCore.T d).loc main_arg12)
  bo := m ((SparseCore.T d).loc main_arg13)
def paLaunch (d : Dev nD) : Vec F S64x10000 .f32 := m ((SparseCore.T d).loc main_v3)
def outLaunch (d : Dev nD) : Vec F S10000x128 .f32 := m ((SparseCore.T d).loc main_v4)

/-- Every edge of the launch memory names a row. -/
abbrev PreOK : Prop := ∀ d, EdgesOK (edges m d)

/-- The rows the SparseCores read. -/
def normed (d : Dev nD) : Vec F S10000x128 .f32 := normAll (rows m d)

variable (hE : PreOK m)

/-- The tiles' partial sums. -/
def partials (d : Dev nD) : Vec F S64x10000 .f32 := tileOut (normed m d) (hE d)

/-- The handshakes' payloads of this launch. -/
abbrev pay : (K (F := F)).Pay (nD := nD) (Val := Elt F) (Name := ℕ) (U := UU) := P (normed m) hE (paLaunch m)

/-- What the result may hold. -/
def ResultAt (d : Dev nD) (G : Vec F S10000x128 .f32) : Prop :=
  FinAt (rows m) (partials m hE) (fun d => (params m d).table) (outLaunch m) d G

/-! ## The launch element -/

def u₀ : UU :=
  (initOf (K (F := F)).hsCells (K (F := F)).hsToks,
    (initOf (Pipeline.cells (Pipeline.pin (pcfgs (F := F)) adm) cells_inj) (Pipeline.launchToks (Pipeline.pin (pcfgs (F := F)) adm) cells_inj), 1))

/-- The cells of the three calls. -/
abbrev callCells (d : Dev nD) : sProp 𝕄 := iprop(cellsOf 0 d ∗ cellsOf 1 d ∗ cellsOf 2 d)

theorem bigSep_three (Φ : Fin 3 → sProp 𝕄) : bigSep Finset.univ Φ = iprop(Φ 0 ∗ Φ 1 ∗ Φ 2) :=
  bigSep_univ_eq_bigSepL [(0 : Fin 3), 1, 2] (by decide) (by decide) Φ

theorem callCells_of :
    iprop((bigSep Finset.univ fun c : Dev nD => bigSep Finset.univ fun p => Pipeline.cellsGhost (Pipeline.pin (pcfgs (F := F)) adm) EP p c)
        ∗ (bigSep Finset.univ fun c : Dev nD => bigSep Finset.univ fun p => (Pipeline.toksInit (Pipeline.pin (pcfgs (F := F)) adm) EP p c : sProp 𝕄)))
      ⊢ bigSep Finset.univ (callCells (F := F)) := by
  rw [← bigSep_sep']
  refine BI.bigSep_mono fun d _ => ?_
  rw [← bigSep_sep', bigSep_three]
  exact BI.Entails.refl _

theorem hu₀ : (ownU (u₀ (F := F)) : sProp 𝕄)
    ⊢ |={Set.univ}=> iprop(BI.own (EH (initOf (K (F := F)).hsCells (K (F := F)).hsToks)) ∗ bigSep Finset.univ (callCells (F := F))
        ∗ bigSep Finset.univ fun thr : Thread nD τ => bigSep Finset.univ fun q : Fin 1 => (pay m hE).x q thr) := by
  unfold u₀
  iintro Hu
  ihave H := (ownU_pair (initOf (K (F := F)).hsCells (K (F := F)).hsToks)
    ((initOf (Pipeline.cells (Pipeline.pin (pcfgs (F := F)) adm) cells_inj) (Pipeline.launchToks (Pipeline.pin (pcfgs (F := F)) adm) cells_inj), 1) : UP × Counters)) $$ Hu
  icases H with ⟨HH, HP⟩
  ihave H := (own_pair_emb embR (initOf (Pipeline.cells (Pipeline.pin (pcfgs (F := F)) adm) cells_inj)
    (Pipeline.launchToks (Pipeline.pin (pcfgs (F := F)) adm) cells_inj)) (1 : Counters)) $$ HP
  icases H with ⟨HP, -⟩
  ihave HP := (Entails.of_eq (show (BI.own (((Emb.inl : Emb UP (UP × Counters)).trans embR)
      (initOf (Pipeline.cells (Pipeline.pin (pcfgs (F := F)) adm) cells_inj) (Pipeline.launchToks (Pipeline.pin (pcfgs (F := F)) adm) cells_inj))) : sProp 𝕄)
    = BI.own (EP (initOf (Pipeline.cells (Pipeline.pin (pcfgs (F := F)) adm) cells_inj) (Pipeline.launchToks (Pipeline.pin (pcfgs (F := F)) adm) cells_inj)))
    from rfl)) $$ HP
  imod (Pipeline.fund_ghost (Pipeline.pin (pcfgs (F := F)) adm) EP cells_inj) $$ HP with HC
  imodintro
  isplitl [HH]; · iexact HH
  isplitl [HC]
  · iapply callCells_of; iexact HC
  rw [show (bigSep Finset.univ fun thr : Thread nD τ => bigSep Finset.univ fun q : Fin 1 => (pay m hE).x q thr) = bigSep Finset.univ fun _ => iprop(emp) from
    BI.bigSep_congr fun _ _ => bigSep_univ_of_subsingleton (0 : Fin 1)]
  rw [show (bigSep Finset.univ fun _ : Thread nD τ => (iprop(emp) : sProp 𝕄)) = iprop(emp) from bigSep_emp_const _]
  iempintro

/-! ## `@main` -/

/-- The arguments' buffers. -/
def argRefs : Finset (Ref sig .tc) :=
  {main_arg0, main_arg1, main_arg2, main_arg3, main_arg4, main_arg5, main_arg6, main_arg7, main_arg8, main_arg9, main_arg10, main_arg11, main_arg12, main_arg13}

abbrev bufAt (d : Dev nD) (b : Ref sig .tc) : sProp 𝕄 := (SparseCore.T d).loc b ↦{fullShare} m ((SparseCore.T d).loc b)

/-- The arguments at their launch contents. -/
def argPts (d : Dev nD) : sProp 𝕄 := bigSep argRefs (bufAt m d)

theorem argPts_eq (d : Dev nD) : argPts m d
    = iprop(bufAt m d main_arg0 ∗ bufAt m d main_arg1 ∗ bufAt m d main_arg2 ∗ bufAt m d main_arg3 ∗ bufAt m d main_arg4
      ∗ bufAt m d main_arg5 ∗ bufAt m d main_arg6 ∗ bufAt m d main_arg7 ∗ bufAt m d main_arg8 ∗ bufAt m d main_arg9
      ∗ bufAt m d main_arg10 ∗ bufAt m d main_arg11 ∗ bufAt m d main_arg12 ∗ bufAt m d main_arg13) := by
  unfold argPts
  exact bigSep_eq_bigSepL_of_eq [main_arg0, main_arg1, main_arg2, main_arg3, main_arg4, main_arg5, main_arg6, main_arg7, main_arg8, main_arg9,
    main_arg10, main_arg11, main_arg12, main_arg13] (by decide) (by decide) (bufAt m d)

theorem unscoped_eq (d : Dev nD) : (unscopedBufs d (fun b => m ((SparseCore.T d).loc b)) : sProp 𝕄)
    = iprop(argPts m d ∗ bufAt m d main_v0 ∗ bufAt m d main_v1 ∗ bufAt m d main_v2 ∗ bufAt m d main_v3 ∗ bufAt m d main_v4) := by
  unfold unscopedBufs argPts
  rw [show (Finset.univ.filter fun b : Ref sig .tc => ¬ b.isScoped) = argRefs ∪ {main_v0, main_v1, main_v2, main_v3, main_v4} by decide,
    bigSep_union (by decide)]
  rw [SparseCore.bigSep_insert' (by decide), SparseCore.bigSep_insert' (by decide), SparseCore.bigSep_insert' (by decide),
    SparseCore.bigSep_insert' (by decide), bigSep_singleton]
  rfl

/-- What `@main` ends with. -/
abbrev FIN (d : Dev nD) : sProp 𝕄 :=
  iprop(argPts m d ∗ ∃ G, ⌜ResultAt m hE d G⌝ ∗ ((SparseCore.T d).loc main_v4 ↦{fullShare} G))

set_option maxHeartbeats 1000000 in
theorem hmain (κ : GSem nD τ sig → ℕ) (d : Dev nD) :
    iprop((K (F := F)).ctx EH (pay m hE) κ ∗ (K (F := F)).tcSt EH d 0 ∗ (K (F := F)).tcRes m ρ d ∗ callCells d)
      ⊢ wp frame (wpE ((K (F := F)).defs (D (F := F))) 𝒱 (SparseCore.T d) none) Set.univ (main d)
          fun _ => iprop((K (F := F)).tcSt EH d 1 ∗ FIN m hE d ∗ (K (F := F)).tcEnd d) := by
  unfold SparseCore.Cfg.tcRes SparseCore.Cfg.tcEnd
  rw [unscoped_eq, argPts_eq]
  simp only [main, wp_bind, wp_pure]
  iintro ⟨#Hctx, Hst, ⟨Hb, ⟨⟨A0, A1, A2, A3, A4, A5, A6, A7, A8, A9, A10, A11, A12, A13⟩, V0, V1, V2, V3, V4⟩, Hts, -⟩, ⟨C0, C1, C2⟩⟩
  ihave #Hl := ((K (F := F)).ctx_levAts κ) $$ Hctx
  ihave Hr := (norm_call (rows m) (fun d => m ((SparseCore.T d).loc main_v0)) d) $$ [Hst Hb C0 A0 V0]
  · isplitr; · iexact Hl
    isplitl [Hst]; · iexact Hst
    isplitl [Hb]; · iexact Hb
    isplitl [C0]; · iexact C0
    isplitl [A0]; · iexact A0
    iexact V0
  iapply (wp_wand_r frame _ Set.univ)
  isplitl [Hr]; · iexact Hr
  iintro %_ ⟨Hst, Hb, A0, V0⟩
  ihave Hr := (table_call (params m) (fun d => m ((SparseCore.T d).loc main_v1)) d) $$ [Hst Hb C1 A2 A3 A4 A5 A6 A7 A8 A9 A10 A11 A12 A13 V1]
  · isplitr; · iexact Hl
    isplitl [Hst]; · iexact Hst
    isplitl [Hb]; · iexact Hb
    isplitl [C1]; · iexact C1
    isplitr [V1]
    · isplitl [A2]; · iexact A2
      isplitl [A3]; · iexact A3
      isplitl [A4]; · iexact A4
      isplitl [A5]; · iexact A5
      isplitl [A6]; · iexact A6
      isplitl [A7]; · iexact A7
      isplitl [A8]; · iexact A8
      isplitl [A9]; · iexact A9
      isplitl [A10]; · iexact A10
      isplitl [A11]; · iexact A11
      isplitl [A12]; · iexact A12
      iexact A13
    iexact V1
  iapply (wp_wand_r frame _ Set.univ)
  isplitl [Hr]; · iexact Hr
  iintro %_ ⟨Hst, Hb, ⟨A2, A3, A4, A5, A6, A7, A8, A9, A10, A11, A12, A13⟩, V1⟩
  ihave Hr := (flat_call m d) $$ [Hb A1 V2]
  · isplitl [Hb]; · iexact Hb
    isplitl [A1]; · iexact A1
    iexact V2
  iapply (wp_wand_r frame _ Set.univ)
  isplitl [Hr]; · iexact Hr
  iintro %_ ⟨Hb, A1, V2⟩
  iapply ((K (F := F)).wp_run (D (F := F)) 𝒱 (EH := EH) (P := pay m hE) κ d 0)
  isplitr; · iexact Hctx
  isplitl [Hst]; · iexact Hst
  isplitl [V0 V2 V3]
  · iapply (st_of (normed m) hE (paLaunch m) d)
    isplitl [V0]; · iexact V0
    isplitl [V2]; · iexact V2
    iexact V3
  iintro ⟨Hst, Hdn⟩
  ihave V3 := (dn_to (normed m) hE (paLaunch m) d) $$ Hdn
  ihave Hr := (final_call (rows m) (partials m hE) (fun d => (params m d).table) (outLaunch m) d) $$ [Hst Hb C2 A0 V3 V1 V4]
  · isplitr; · iexact Hl
    isplitl [Hst]; · iexact Hst
    isplitl [Hb]; · iexact Hb
    isplitl [C2]; · iexact C2
    isplitl [A0]; · iexact A0
    isplitl [V3]; · iexact V3
    isplitl [V1]; · iexact V1
    iexact V4
  iapply (wp_wand_r frame _ Set.univ)
  isplitl [Hr]; · iexact Hr
  iintro %_ ⟨Hst, Hb, A0, Hv⟩
  imodintro
  isplitl [Hst]; · iexact Hst
  isplitr [Hb Hts]
  · isplitr [Hv]
    · rw [argPts_eq]
      isplitl [A0]; · iexact A0
      isplitl [A1]; · iexact A1
      isplitl [A2]; · iexact A2
      isplitl [A3]; · iexact A3
      isplitl [A4]; · iexact A4
      isplitl [A5]; · iexact A5
      isplitl [A6]; · iexact A6
      isplitl [A7]; · iexact A7
      isplitl [A8]; · iexact A8
      isplitl [A9]; · iexact A9
      isplitl [A10]; · iexact A10
      isplitl [A11]; · iexact A11
      isplitl [A12]; · iexact A12
      iexact A13
    iexact Hv
  isplitl [Hb] <;> iassumption

/-! ## The final memory -/

/-- What the final state says of one device. -/
def fq (d : Dev nD) (s' : Phys nD τ sig (Elt F)) : Prop :=
  (∀ b ∈ argRefs, s'.mem.mem ((SparseCore.T d).loc b) = m ((SparseCore.T d).loc b)) ∧ ResultAt m hE d (s'.mem.mem ((SparseCore.T d).loc main_v4))

theorem read_args (d : Dev nD) (s' : Phys nD τ sig (Elt F)) :
    iprop(argPts m d ∗ SI s') ⊢ (⌜∀ b ∈ argRefs, s'.mem.mem ((SparseCore.T d).loc b) = m ((SparseCore.T d).loc b)⌝ : sProp 𝕄) := by
  refine BIBase.Entails.trans (Laws.forall_intro fun b => Laws.forall_intro fun hb => ?_)
    (BIBase.Entails.trans (Laws.forall_mono fun b => Laws.pure_forall.2) Laws.pure_forall.2)
  unfold argPts
  rw [SparseCore.bigSep_erase' hb]
  iintro ⟨⟨Hb, -⟩, HSI⟩
  ihave H := (SI_pointsTo_agree (st := s') (ℓ := (SparseCore.T d).loc b) (I := Finset.univ) (q := fullShare) (f := m ((SparseCore.T d).loc b))) $$ [HSI Hb]
  · isplitl [HSI] <;> iassumption
  icases H with %h
  ipureintro; exact funext fun i => h i (Finset.mem_univ i)

theorem hfin (d : Dev nD) (s' : Phys nD τ sig (Elt F)) : iprop(FIN m hE d ∗ SI s') ⊢ (⌜fq m hE d s'⌝ : sProp 𝕄) := by
  iintro ⟨⟨HA, %G, %hG, HG⟩, HSI⟩
  ihave H := (persistent_entails_right (SI_pointsTo_agree (st := s') (ℓ := (SparseCore.T d).loc main_v4) (I := Finset.univ) (q := fullShare) (f := G))) $$ [HSI HG]
  · isplitl [HSI] <;> iassumption
  icases H with ⟨%h1, HSI, -⟩
  ihave H := (read_args m d s') $$ [HSI HA]
  · isplitl [HA] <;> iassumption
  icases H with %h2
  ipureintro
  have e : s'.mem.mem ((SparseCore.T d).loc main_v4) = G := funext fun i => h1 i (Finset.mem_univ i)
  refine ⟨h2, ?_⟩
  rw [e]; exact hG

/-! ## The run -/

/-- What every run ends with: the arguments unchanged, the result among the values it may hold, every counter zero. -/
def QC : PUnit × MemSt nD τ sig (Elt F) → Prop := fun r =>
  (∀ c : Dev nD, (∀ b ∈ argRefs, r.2.mem ((SparseCore.T c).loc b) = m ((SparseCore.T c).loc b)) ∧ ResultAt m hE c (r.2.mem ((SparseCore.T c).loc main_v4)))
    ∧ r.2.sem = fun _ => 0

theorem run_main [∀ e, Nonempty (Elt F e)] :
    θ_run (Cert.KernelIdeal.defs (F := F)) (Cert.KernelIdeal.threads (F := F)) ⟨m, fun _ => 0, ρ⟩ (QC m hE) :=
  SparseCore.Cfg.θ_run_sc_quiescent (K := K (F := F)) (D := D (F := F)) (𝒱 := 𝒱) (EH := EH) (P := pay m hE) (A := ∅) facts v₀
    (fun q hq => match q with | 0 => nomatch hq)
    (fun q _ => match q with | 0 => tileObl (normed m) hE (paLaunch m))
    (fun q _ => match q with | 0 => SparseCore.Cfg.VecSplit.of_plain (vecSplit (normed m) hE (paLaunch m)))
    m ρ main (callCells (F := F)) (FIN m hE) (u₀ (F := F)) (sep_elim_left.trans (hu₀ m hE)) (hmain m ρ hE) (fq m hE) (hfin m hE) (QC m hE) (fun _ h hz => ⟨h, hz⟩)

end Cert.Proof.K

end
-- ==== Proof.Edges.lean ====
/-
  The precondition read back: every word of the edge list is the number of a row.
-/
module

public import proofs.«01_k».proof.Proof.Main
public import proofs.«01_k».proof.Defs
public import Idealize.ShloMosaic.Lib.ReduceAll

@[expose] public section

noncomputable section

namespace Cert.Proof.K

open Idealize.ShloMosaic

variable {F : FTy → Type} [FloatOps F]

theorem edgesFacts : Cert.Pre_edges_in_range.Facts := ⟨by decide⟩

/-- A word at least 0 and below 10000, both as signed words, is the number of a row. -/
theorem row_of_cmp (v : BitVec 32) (e : IntOp.andi (IntOp.cmpi .sge v 0#32) (IntOp.cmpi .slt v 10000#32) = 1#1) : v.toNat < 10000 := by
  obtain ⟨h0, h1⟩ := IntOp.andi_eq_one.1 e
  have ofBool_eq_one (p : Bool) : (BitVec.ofBool p = 1#1) ↔ p = true := by cases p <;> decide
  simp only [IntOp.cmpi, ofBool_eq_one, BitVec.sle_eq_decide, BitVec.slt_eq_decide,
    decide_eq_true_eq, BitVec.toInt_eq_toNat_cond, BitVec.toNat_ofNat, Nat.reducePow, Nat.reduceMod] at h0 h1
  omega

/-- Every word of the edge list is the number of a row, so every word of the flat list is. -/
theorem edges_ok {E : Vec F Cert.KernelIdeal.S2x320000 .i32} (h : ∀ i, (E i : BitVec 32).toNat < 10000) : EdgesOK (flatEdges (F := F) E) :=
  fun _ => h _

theorem rows_of_in_range [Cert.Pre_edges_in_range.Facts] {a0 a1 a2 a3 a4 a5 a6 a7 a8 a9 a10 a11 a12 a13}
    (h : Cert.Pre_edges_in_range.fn (F := F) a0 a1 a2 a3 a4 a5 a6 a7 a8 a9 a10 a11 a12 a13 = fun _ => 1#1) (i) : (a1 i : BitVec 32).toNat < 10000 :=
  row_of_cmp _ (congrFun h i)

end Cert.Proof.K

end
-- ==== Proof.Frames.lean ====
/-
  The frames: each program runs, leaves its arguments as they were and every counter at zero. Dropped from the run theorem:
  the value of the result.
-/
module

public import proofs.«01_k».proof.Proof.Edges
public import proofs.«01_k».proof.Proof.Gen.ReferenceIdeal.Run
public import proofs.«01_k».proof.Proof.Gen.Kernel

@[expose] public section

noncomputable section

namespace Cert.Proof.K

open Idealize.ShloMosaic Idealize.SL.Sem

instance : ∀ e, Nonempty (Elt Ideal e) := fun e => ⟨Classical.choice inferInstance⟩

theorem frame_ideal [Cert.Pre_edges_in_range.Facts] : Cert.quiescent_KernelIdeal := fun m g hpre =>
  (θ_run Cert.KernelIdeal.defs _ _).mono (fun _ h => ⟨fun c =>
    ⟨(h.1 c).1 _ (by decide), (h.1 c).1 _ (by decide), (h.1 c).1 _ (by decide), (h.1 c).1 _ (by decide), (h.1 c).1 _ (by decide), (h.1 c).1 _ (by decide),
      (h.1 c).1 _ (by decide), (h.1 c).1 _ (by decide), (h.1 c).1 _ (by decide), (h.1 c).1 _ (by decide), (h.1 c).1 _ (by decide), (h.1 c).1 _ (by decide),
      (h.1 c).1 _ (by decide), (h.1 c).1 _ (by decide)⟩, h.2⟩)
    (run_main (F := Ideal) m g fun d => edges_ok (rows_of_in_range (hpre d)))

theorem frame_reference : Cert.quiescent_ReferenceIdeal := fun m g _ =>
  (θ_run Cert.ReferenceIdeal.defs _ _).mono (fun r h => ⟨fun c => (h c).2, Idealize.ShloMosaic.sem_eq_zero_of_no_sems (by decide) r.2⟩)
    (Cert.ReferenceIdeal.Value.run (F := Ideal) m g)

end Cert.Proof.K

end
-- ==== Proof.FrameKernel.lean ====
/-
  The frame of the kernel as it is written: it is the other program with the constant `mask` at its own bits.
-/
module

public import proofs.«01_k».proof.Proof.Frames

@[expose] public section

noncomputable section

namespace Cert.Proof.K

open Idealize.ShloMosaic Idealize.SL.Sem

/-- At machine floats a named constant is its bits. -/
local instance bitsNamed : Named Bits where
  named _ _ {φ} b := FloatOps.ofBits φ b

instance : ∀ e, Nonempty (Elt Bits e) := fun e => ⟨Classical.choice inferInstance⟩

/-! The two programs' bodies, body tables and threads are the same text. -/

theorem cc0_eq : @Cert.Kernel.cc0__norm_body Bits _ _ = @Cert.KernelIdeal.cc0__norm_body Bits _ _ := rfl
theorem cc3_eq : @Cert.Kernel.cc3__final_body Bits _ _ = @Cert.KernelIdeal.cc3__final_body Bits _ _ := rfl
theorem cc2_eq : @Cert.Kernel.cc2_edge_kernel Bits _ _ = @Cert.KernelIdeal.cc2_edge_kernel Bits _ _ := rfl
theorem cc1_eq : @Cert.Kernel.cc1__table_body Bits _ _ = @Cert.KernelIdeal.cc1__table_body Bits _ _ _ := rfl

set_option maxHeartbeats 4000000 in
theorem defs₀_eq : Cert.Kernel.defs₀ (F := Bits) = Cert.KernelIdeal.defs₀ (F := Bits) := by
  funext c ℓ a
  cases c with
  | tc =>
    fin_cases ℓ
    · rcases a with ⟨t, s⟩; simp only [Cert.Kernel.defs₀, cc0_eq]; rfl
    · rcases a with ⟨t, s⟩; simp only [Cert.Kernel.defs₀, cc1_eq]; rfl
    · rfl
    · rcases a with ⟨t, s⟩; simp only [Cert.Kernel.defs₀, cc3_eq]; rfl
  | scScalar s => fin_cases ℓ <;> rfl
  | scVector s w =>
    fin_cases ℓ
    · rfl
    · rfl
    · simp only [Cert.Kernel.defs₀, cc2_eq]; rfl
    · rfl

theorem defs_eq : Cert.Kernel.defs (F := Bits) = Cert.KernelIdeal.defs (F := Bits) := by
  unfold Cert.Kernel.defs
  rw [defs₀_eq]
  rfl

theorem frame_kernel [Cert.Pre_edges_in_range.Facts] : Cert.quiescent_Kernel := fun m g hpre => by
  rw [defs_eq]
  exact (θ_run Cert.KernelIdeal.defs _ _).mono (fun _ h => ⟨fun c =>
    ⟨(h.1 c).1 _ (by decide), (h.1 c).1 _ (by decide), (h.1 c).1 _ (by decide), (h.1 c).1 _ (by decide), (h.1 c).1 _ (by decide), (h.1 c).1 _ (by decide),
      (h.1 c).1 _ (by decide), (h.1 c).1 _ (by decide), (h.1 c).1 _ (by decide), (h.1 c).1 _ (by decide), (h.1 c).1 _ (by decide), (h.1 c).1 _ (by decide),
      (h.1 c).1 _ (by decide), (h.1 c).1 _ (by decide)⟩, h.2⟩)
    (run_main (F := Bits) m g fun d => edges_ok (rows_of_in_range (hpre d)))

end Cert.Proof.K

end
-- ==== Proof.Attended.lean ====
/-
  The second precondition read back: every word of the edge list is the number of a row, the prompts, the readout and the
  query and key weights are finite, and a slot of every class is attended.
-/
module

public import proofs.«01_k».proof.Proof.Edges
public import proofs.«01_k».proof.Defs
public import Idealize.ShloMosaic.Lib.ReduceAll

@[expose] public section

noncomputable section

namespace Cert.Proof.K

open Idealize.ShloMosaic

variable {F : FTy → Type} [FloatOps F]

theorem attendedFacts : Cert.Pre_finite_and_attended.Facts :=
  ⟨by decide, by decide, by decide, by decide, by decide, by decide, by decide, by decide, by decide, by decide, by decide⟩

instance : Subsingleton Cert.Pre_finite_and_attended.S_.Idx := ⟨fun _ _ => funext fun a => a.elim0⟩

theorem rows_of_attended [Cert.Pre_finite_and_attended.Facts] {a0 a1 a2 a3 a4 a5 a6 a7 a8 a9 a10 a11 a12 a13}
    (h : Cert.Pre_finite_and_attended.fn (F := F) a0 a1 a2 a3 a4 a5 a6 a7 a8 a9 a10 a11 a12 a13 = fun _ => 1#1) (i) : (a1 i : BitVec 32).toNat < 10000 := by
  have e := congrFun h (fun a => a.elim0)
  simp only [Cert.Pre_finite_and_attended.fn, Cert.Pre_finite_and_attended.fn_part1, Cert.Pre_finite_and_attended.fn_part2,
    Cert.Pre_finite_and_attended.fn_part3, andi] at e
  have e := (IntOp.andi_eq_one.1 e).1
  have e := (IntOp.andi_eq_one.1 (IntOp.andi_eq_one.1 (IntOp.andi_eq_one.1 (IntOp.andi_eq_one.1 (IntOp.andi_eq_one.1 (IntOp.andi_eq_one.1
    (IntOp.andi_eq_one.1 (IntOp.andi_eq_one.1 e).1).1).1).1).1).1).1).1
  exact row_of_cmp _ (Host.reduce_andi_all _ _ _ _ _ e i)

end Cert.Proof.K

end
-- ==== Proof.FramesAttended.lean ====
/-
  The frames again, under the precondition of the value claim.
-/
module

public import proofs.«01_k».proof.Proof.Frames
public import proofs.«01_k».proof.Proof.Attended

@[expose] public section

noncomputable section

namespace Cert.Proof.K

open Idealize.ShloMosaic Idealize.SL.Sem

theorem frame_ideal_attended [Cert.Pre_finite_and_attended.Facts] : Cert.quiescent_KernelIdeal_pre_finite_and_attended := fun m g hpre =>
  (θ_run Cert.KernelIdeal.defs _ _).mono (fun _ h => ⟨fun c =>
    ⟨(h.1 c).1 _ (by decide), (h.1 c).1 _ (by decide), (h.1 c).1 _ (by decide), (h.1 c).1 _ (by decide), (h.1 c).1 _ (by decide), (h.1 c).1 _ (by decide),
      (h.1 c).1 _ (by decide), (h.1 c).1 _ (by decide), (h.1 c).1 _ (by decide), (h.1 c).1 _ (by decide), (h.1 c).1 _ (by decide), (h.1 c).1 _ (by decide),
      (h.1 c).1 _ (by decide), (h.1 c).1 _ (by decide)⟩, h.2⟩)
    (run_main (F := Ideal) m g fun d => edges_ok (rows_of_attended (hpre d)))

theorem frame_reference_attended [Cert.Pre_finite_and_attended.Facts] : Cert.quiescent_ReferenceIdeal_pre_finite_and_attended := fun m g _ =>
  (θ_run Cert.ReferenceIdeal.defs _ _).mono (fun r h => ⟨fun c => (h c).2, Idealize.ShloMosaic.sem_eq_zero_of_no_sems (by decide) r.2⟩)
    (Cert.ReferenceIdeal.Value.run (F := Ideal) m g)

end Cert.Proof.K

end
-- ==== Proof.VMath.lean ====
/-
  The mathematics the two programs share, over the extended reals: one node's attention row over its slots, and that slots
  which are masked out change nothing.
-/
module

public import Idealize.ShloMosaic.PureOps.Ideal
public import Mathlib.Data.EReal.Inv
public import Mathlib.Algebra.BigOperators.Fin

@[expose] public section

noncomputable section

namespace Cert.Proof.K

open Idealize.ShloMosaic

/-! ## Finite values -/

/-- The value is a real number. -/
def IsReal (x : EReal) : Prop := ∃ y : ℝ, x = (y : EReal)

theorem isReal_iff {x : EReal} : IsReal x ↔ x ≠ ⊤ ∧ x ≠ ⊥ := by
  constructor
  · rintro ⟨y, rfl⟩; exact ⟨EReal.coe_ne_top y, EReal.coe_ne_bot y⟩
  · intro h; exact ⟨x.toReal, (EReal.coe_toReal h.1 h.2).symm⟩

theorem IsReal.add {x y : EReal} (hx : IsReal x) (hy : IsReal y) : IsReal (x + y) := by
  obtain ⟨a, rfl⟩ := hx; obtain ⟨b, rfl⟩ := hy; exact ⟨a + b, (EReal.coe_add a b).symm⟩

theorem IsReal.mul {x y : EReal} (hx : IsReal x) (hy : IsReal y) : IsReal (x * y) := by
  obtain ⟨a, rfl⟩ := hx; obtain ⟨b, rfl⟩ := hy; exact ⟨a * b, (EReal.coe_mul a b).symm⟩

theorem IsReal.sum {ι : Type} (s : Finset ι) {f : ι → EReal} (h : ∀ i, IsReal (f i)) : IsReal (∑ i ∈ s, f i) := by
  classical
  induction s using Finset.induction_on with
  | empty => exact ⟨0, by simp⟩
  | insert a s ha ih => rw [Finset.sum_insert ha]; exact (h a).add ih

theorem IsReal.div {x s : EReal} (hx : IsReal x) (hs : IsReal s) (h0 : s ≠ 0) : IsReal (Ideal.div x s) := by
  obtain ⟨b, rfl⟩ := hs
  unfold Ideal.div
  rw [if_neg h0]
  exact hx.mul ⟨b⁻¹, (EReal.coe_inv b).symm⟩

/-- Zero over anything but zero is zero. -/
theorem div_zero_left {s : EReal} (h : s ≠ 0) : Ideal.div 0 s = 0 := by
  unfold Ideal.div; rw [if_neg h, zero_mul]

/-- To multiply by the reciprocal is to divide. -/
theorem mul_div_one (x : EReal) {s : EReal} (h : s ≠ 0) : x * Ideal.div 1 s = Ideal.div x s := by
  unfold Ideal.div; rw [if_neg h, if_neg h, one_mul]

theorem exp_nonneg (x : EReal) : 0 ≤ Ideal.exp x := by
  induction x using EReal.rec with
  | bot => exact le_rfl
  | top => exact le_top
  | coe r => exact EReal.coe_nonneg.mpr (Real.exp_pos r).le

/-- The bit of a proposition is set exactly if it holds. -/
theorem ofBool_eq_one {q : Prop} [Decidable q] : BitVec.ofBool (decide q) = 1#1 ↔ q := by
  by_cases h : q <;> simp [h]

/-! ## One row of attention -/

section Attention

variable {ι : Type} [Fintype ι] {C : Type} [Fintype C]

/-- A row times the transpose of `w`, plus `b`. -/
def proj (x : C → EReal) (w : C → C → EReal) (b : C → EReal) (j : C) : EReal := (∑ k, x k * w j k) + b j

open Classical in
/-- The scores of one slot's query `q` against the slots' keys, the slots of `p` masked out. -/
def score (p : ι → Prop) (s : EReal) (q : C → EReal) (k : ι → C → EReal) (u : ι) : EReal :=
  if p u then ⊥ else Ideal.div (∑ c, q c * k u c) s

/-- The largest of the scores. -/
def top (f : ι → EReal) : EReal := Finset.univ.fold max ⊥ f

/-- The exponentials of the scores, less the largest. -/
def expw (f : ι → EReal) (u : ι) : EReal := Ideal.exp (f u - top f)

/-- The slots' values, weighted. -/
def mix (e : ι → EReal) (v : ι → C → EReal) (c : C) : EReal := ∑ u, Ideal.div (e u) (∑ u', e u') * v u c

theorem le_top_of (f : ι → EReal) (u : ι) : f u ≤ top f := Finset.le_sup (f := f) (Finset.mem_univ u)

theorem top_mem (f : ι → EReal) (h : top f ≠ ⊥) : ∃ u, top f = f u := by
  have hne : (Finset.univ : Finset ι).Nonempty := by
    by_contra hn
    rw [Finset.not_nonempty_iff_eq_empty] at hn
    exact h (by unfold top; rw [hn]; rfl)
  obtain ⟨u, -, hu⟩ := Finset.exists_mem_eq_sup Finset.univ hne f
  exact ⟨u, hu⟩

/-- If every score is finite or masked and one is finite, the exponentials do not sum to zero. -/
theorem sum_expw_ne (f : ι → EReal) (hf : ∀ u, f u = ⊥ ∨ IsReal (f u)) (u₁ : ι) (h₁ : IsReal (f u₁)) : ∑ u, expw f u ≠ 0 := by
  have hb : top f ≠ ⊥ := fun e => by
    have := le_top_of f u₁
    rw [e, le_bot_iff] at this
    exact (isReal_iff.1 h₁).2 this
  obtain ⟨u, hu⟩ := top_mem f hb
  obtain ⟨y, hy⟩ : IsReal (f u) := (hf u).resolve_left fun e => hb (hu.trans e)
  have h1 : expw f u = 1 := by
    unfold expw
    rw [hu, hy, ← EReal.coe_sub, sub_self]
    show ((Real.exp 0 : ℝ) : EReal) = 1
    rw [Real.exp_zero]; rfl
  have h2 : expw f u ≤ ∑ u, expw f u := Finset.single_le_sum (f := expw f) (fun i _ => exp_nonneg _) (Finset.mem_univ u)
  rw [h1] at h2
  intro e
  rw [e] at h2
  exact absurd h2 (by norm_num)

end Attention

/-- Four slots and four masked slots attend as the four slots do. -/
theorem mix_pad {C : Type} [Fintype C] (f : Fin 8 → EReal) (g : Fin 4 → EReal) (hfg : ∀ t : Fin 4, f (t.castAdd 4) = g t)
    (hf : ∀ t : Fin 4, f (t.natAdd 4) = ⊥) (v : Fin 8 → C → EReal) (v' : Fin 4 → C → EReal)
    (hv : ∀ (t : Fin 4) c, v (t.castAdd 4) c = v' t c) (hS : ∑ u, expw g u ≠ 0) (c : C) :
    mix (expw f) v c = mix (expw g) v' c := by
  have ht : top f = top g := by
    refine le_antisymm (Finset.sup_le fun u _ => ?_) (Finset.sup_le fun t _ => ?_)
    · induction u using Fin.addCases (m := 4) (n := 4) with
      | left t => rw [hfg t]; exact le_top_of g t
      | right t => rw [hf t]; exact bot_le
    · rw [← hfg t]; exact le_top_of f _
  have e1 : ∀ t : Fin 4, expw f (t.castAdd 4) = expw g t := fun t => by unfold expw; rw [hfg, ht]
  have e2 : ∀ t : Fin 4, expw f (t.natAdd 4) = 0 := fun t => by
    unfold expw; rw [hf, sub_eq_add_neg, EReal.bot_add]; rfl
  have es : ∑ u : Fin (4 + 4), expw f u = ∑ t : Fin 4, expw g t := by
    rw [Fin.sum_univ_add, Finset.sum_congr rfl fun t _ => e1 t, Finset.sum_congr rfl fun t _ => e2 t]
    simp
  show ∑ u : Fin (4 + 4), Ideal.div (expw f u) (∑ u' : Fin (4 + 4), expw f u') * v u c = _
  rw [es, Fin.sum_univ_add]
  rw [Finset.sum_congr rfl fun (t : Fin 4) _ => show Ideal.div (expw f (t.natAdd 4)) (∑ t : Fin 4, expw g t) * v (t.natAdd 4) c = 0 by
    rw [e2, div_zero_left hS, zero_mul]]
  rw [Finset.sum_const_zero, add_zero]
  unfold mix
  exact Finset.sum_congr rfl fun t _ => by rw [e1, hv]

/-- A row divided by its length. -/
def unit {C : Type} [Fintype C] (x : C → EReal) (j : C) : EReal := Ideal.div (x j) (Ideal.sqrt (∑ k, x k * x k))

/-! ## The attention's first row -/

/-- The four weights and biases. -/
structure Weights where
  wq : Fin 128 → Fin 128 → EReal
  bq : Fin 128 → EReal
  wk : Fin 128 → Fin 128 → EReal
  bk : Fin 128 → EReal
  wv : Fin 128 → Fin 128 → EReal
  bv : Fin 128 → EReal
  wo : Fin 128 → Fin 128 → EReal
  bo : Fin 128 → EReal

/-- Minus one: what fills an empty slot. -/
def negOne : EReal := Ideal.ofBits .f32 0xBF800000#32

/-- The square root of 128, which the scores are divided by. -/
def scale : EReal := Ideal.sqrt (Ideal.ofBits .f32 0x43000000#32)

theorem isReal_negOne : IsReal negOne := by
  unfold negOne
  simp only [Ideal.ofBits, Ideal.ieee]
  norm_num
  exact ⟨-(8388608 * (2 ^ 23)⁻¹), by rw [EReal.coe_neg, EReal.coe_mul]; rfl⟩

theorem scale_real : IsReal scale ∧ scale ≠ 0 := by
  have h : Ideal.ofBits .f32 0x43000000#32 = ((128 : ℝ) : EReal) := by
    simp [Ideal.ofBits, Ideal.ieee]
    rw [← EReal.coe_mul]
    norm_num
  unfold scale
  rw [h]
  have e : Ideal.sqrt ((128 : ℝ) : EReal) = ((Real.sqrt 128 : ℝ) : EReal) := by
    show (if (128 : ℝ) < 0 then (⊥ : EReal) else _) = _
    rw [if_neg (by norm_num)]
  rw [e]
  refine ⟨⟨_, rfl⟩, ?_⟩
  intro h0
  have : Real.sqrt 128 = 0 := by exact_mod_cast h0
  rw [Real.sqrt_eq_zero'] at this
  norm_num at this

/-- A slot is empty if minus one fills it. -/
def Empty {ι : Type} (r : ι → Fin 128 → EReal) (t : ι) : Prop := ∀ k, r t k = negOne

/-- What slot `t` reads out of the slots `r`, those of `p` masked. -/
def attn {ι : Type} [Fintype ι] (W : Weights) (p : ι → Prop) (r : ι → Fin 128 → EReal) (t : ι) : Fin 128 → EReal :=
  proj (mix (expw (score p scale (proj (r t) W.wq W.bq) fun u => proj (r u) W.wk W.bk)) fun u => proj (r u) W.wv W.bv) W.wo W.bo

theorem attn_sum_ne {ι : Type} [Fintype ι] (W : Weights) (p : ι → Prop) (r : ι → Fin 128 → EReal) (t : ι)
    (hr : ∀ u k, IsReal (r u k)) (hq : ∀ i j, IsReal (W.wq i j)) (hbq : ∀ i, IsReal (W.bq i)) (hk : ∀ i j, IsReal (W.wk i j))
    (hbk : ∀ i, IsReal (W.bk i)) (u₁ : ι) (h₁ : ¬ p u₁) :
    ∑ u, expw (score p scale (proj (r t) W.wq W.bq) fun u => proj (r u) W.wk W.bk) u ≠ 0 := by
  classical
  have hs : ∀ u, IsReal (Ideal.div (∑ c, proj (r t) W.wq W.bq c * proj (r u) W.wk W.bk c) scale) := fun u =>
    (IsReal.sum _ fun c => ((IsReal.sum _ fun k => (hr t k).mul (hq c k)).add (hbq c)).mul
      ((IsReal.sum _ fun k => (hr u k).mul (hk c k)).add (hbk c))).div scale_real.1 scale_real.2
  refine sum_expw_ne _ (fun u => ?_) u₁ ?_
  · unfold score
    split
    · exact .inl rfl
    · exact .inr (hs u)
  · unfold score
    rw [if_neg h₁]
    exact hs u₁

/-- Four masked slots beside four change nothing. -/
theorem attn_pad (W : Weights) (p : Fin 8 → Prop) (r : Fin 8 → Fin 128 → EReal) (p' : Fin 4 → Prop) (r' : Fin 4 → Fin 128 → EReal)
    (hp : ∀ t : Fin 4, p (t.castAdd 4) ↔ p' t) (hp' : ∀ t : Fin 4, p (t.natAdd 4)) (h : ∀ (t : Fin 4) k, r (t.castAdd 4) k = r' t k)
    (hr : ∀ u k, IsReal (r' u k)) (hq : ∀ i j, IsReal (W.wq i j)) (hbq : ∀ i, IsReal (W.bq i)) (hk : ∀ i j, IsReal (W.wk i j))
    (hbk : ∀ i, IsReal (W.bk i)) (u₁ : Fin 4) (h₁ : ¬ p' u₁) (t : Fin 4) :
    attn W p r (t.castAdd 4) = attn W p' r' t := by
  classical
  have hrow : ∀ t : Fin 4, r (t.castAdd 4) = r' t := fun t => funext (h t)
  unfold attn
  refine congrArg (fun m => proj m W.wo W.bo) (funext fun c => ?_)
  refine mix_pad _ _ (fun u => ?_) (fun u => ?_) _ _ (fun u c => ?_) (attn_sum_ne W p' r' t hr hq hbq hk hbk u₁ h₁) c
  · unfold score
    by_cases hu : p' u
    · rw [if_pos ((hp u).2 hu), if_pos hu]
    · rw [if_neg fun e => hu ((hp u).1 e), if_neg hu]
      dsimp only
      rw [hrow, hrow]
  · unfold score
    rw [if_pos (hp' u)]
  · rw [hrow]

/-! ## The slots of a node -/

open Classical in
/-- The node's slots: the readout, and the prompts its flags name. -/
def slotsOf (ro ps pd po : Fin 128 → EReal) (s d : Prop) (t : Fin 4) : Fin 128 → EReal := match t with
  | 0 => ro
  | 1 => if s then ps else fun _ => negOne
  | 2 => if d then pd else fun _ => negOne
  | 3 => if ¬ (s ∨ d) then po else fun _ => negOne

theorem slotsOf_real {ro ps pd po : Fin 128 → EReal} (h0 : ∀ k, IsReal (ro k)) (h1 : ∀ k, IsReal (ps k)) (h2 : ∀ k, IsReal (pd k))
    (h3 : ∀ k, IsReal (po k)) (s d : Prop) (t : Fin 4) (k : Fin 128) : IsReal (slotsOf ro ps pd po s d t k) := by
  match t with
  | 0 => exact h0 k
  | 1 => unfold slotsOf; dsimp only; split; exacts [h1 k, isReal_negOne]
  | 2 => unfold slotsOf; dsimp only; split; exacts [h2 k, isReal_negOne]
  | 3 => unfold slotsOf; dsimp only; split; exacts [h3 k, isReal_negOne]

/-- A slot is attended, if the readout is or each of the prompts is. -/
theorem slotsOf_attended {ro ps pd po : Fin 128 → EReal}
    (h : (∃ k, ro k ≠ negOne) ∨ ((∃ k, ps k ≠ negOne) ∧ (∃ k, pd k ≠ negOne) ∧ ∃ k, po k ≠ negOne)) (s d : Prop) :
    ∃ t, ¬ Empty (slotsOf ro ps pd po s d) t := by
  rcases h with ⟨k, hk⟩ | ⟨⟨k1, h1⟩, ⟨k2, h2⟩, k3, h3⟩
  · exact ⟨0, fun e => hk (e k)⟩
  · by_cases hs : s
    · refine ⟨1, fun e => h1 ?_⟩
      have := e k1
      unfold slotsOf at this; dsimp only at this; rwa [if_pos hs] at this
    · by_cases hd : d
      · refine ⟨2, fun e => h2 ?_⟩
        have := e k2
        unfold slotsOf at this; dsimp only at this; rwa [if_pos hd] at this
      · refine ⟨3, fun e => h3 ?_⟩
        have := e k3
        unfold slotsOf at this; dsimp only at this; rwa [if_pos (by tauto)] at this

end Cert.Proof.K

end
-- ==== Proof.VFin.lean ====
/-
  The last TensorCore call at the extended reals: one element of one block of the result.
-/
module

public import proofs.«01_k».proof.Proof.TcFinal
public import proofs.«01_k».proof.Proof.VMath
public import Idealize.ShloMosaic.Lib.Pointwise

@[expose] public section

noncomputable section

namespace Cert.Proof.K

open Cert.KernelIdeal Cert.KernelIdeal.Gen
open Idealize.ShloMosaic

/-- The thresholds of the two flags. -/
def simCut : EReal := Ideal.ofBits .f32 0x3E4CCCCD#32
def degCut : EReal := Ideal.ofBits .f32 0x40400000#32

/-- Row `2 k + a` of the partial sums. -/
def partRow (k : Fin 32) (a : Fin 2) : Fin 64 := ⟨k.val * 2 + a.val, by omega⟩

theorem sums_apply (p : Vec Ideal S64x2048 .f32) (n : Fin 2048) (a : Fin 2) :
    sums p (ix2 n a) = ∑ k : Fin 32, p (ix2 (partRow k a) n) := by
  pointwise [sums]
  rfl

theorem degs_apply (p : Vec Ideal S64x2048 .f32) (n : Fin 2048) : degs p (ix2 n 0) = ∑ k : Fin 32, p (ix2 (partRow k 1) n) := by
  rw [← sums_apply]
  pointwise [degs]

theorem simFlag_apply (p : Vec Ideal S64x2048 .f32) (n : Fin 2048) :
    simFlag p (ix2 n 0) = BitVec.ofBool (decide (Ideal.div (∑ k : Fin 32, p (ix2 (partRow k 0) n)) (∑ k : Fin 32, p (ix2 (partRow k 1) n)) ≤ simCut)) := by
  rw [← degs_apply, ← sums_apply]
  pointwise [simFlag]
  rfl

theorem degFlag_apply (p : Vec Ideal S64x2048 .f32) (n : Fin 2048) :
    degFlag p (ix2 n 0) = BitVec.ofBool (decide (∑ k : Fin 32, p (ix2 (partRow k 1) n) ≤ degCut)) := by
  rw [← degs_apply]
  pointwise [degFlag]
  rfl

theorem isFlag_apply (s : IVec S2048x1 1) (a : BitVec 1) (n : Fin 2048) :
    isFlag s a (ix2 n 0) = IntOp.xori (IntOp.xori (s (ix2 n 0)) a) 1#1 := by
  pointwise [isFlag]

theorem pick_apply (m : IVec S2048x1 1) (row : Vec Ideal S1x128 .f32) (n : Fin 2048) (j : Fin 128) :
    pick m row (ix2 n j) = Scalar.select (m (ix2 n 0)) (row (ix2 0 j)) 0 := by
  pointwise [pick]

open Classical in
/-- The table's row of two flags. -/
def rowNo (s d : Prop) : Fin 8 := if d then (if s then 3 else 2) else (if s then 1 else 0)

theorem finWith_apply (x : Vec Ideal S2048x128 .f32) (s d : IVec S2048x1 1) (tbl : Vec Ideal S8x128 .f32) (n : Fin 2048) (j : Fin 128) :
    finWith x s d tbl (ix2 n j) = x (ix2 n j) + tbl (ix2 (rowNo (s (ix2 n 0) = 1#1) (d (ix2 n 0) = 1#1)) j) := by
  pointwise [finWith, pick_apply, isFlag_apply]
  generalize s (ix2 n 0) = a
  generalize d (ix2 n 0) = b
  have ha : a = 0#1 ∨ a = 1#1 := by revert a; decide
  have hb : b = 0#1 ∨ b = 1#1 := by revert b; decide
  rcases ha with rfl | rfl <;> rcases hb with rfl | rfl <;>
    simp [rowNo, Scalar.select, IntOp.andi, IntOp.xori]

/-- One element of a block: `x`, and the table's row of the two flags. -/
theorem finBlk_apply (x : Vec Ideal S2048x128 .f32) (p : Vec Ideal S64x2048 .f32) (tbl : Vec Ideal S8x128 .f32) (n : Fin 2048) (j : Fin 128) :
    finBlk x p tbl (ix2 n j) = x (ix2 n j) + tbl (ix2 (rowNo
      (Ideal.div (∑ k : Fin 32, p (ix2 (partRow k 0) n)) (∑ k : Fin 32, p (ix2 (partRow k 1) n)) ≤ simCut)
      (∑ k : Fin 32, p (ix2 (partRow k 1) n) ≤ degCut)) j) := by
  unfold finBlk
  rw [finWith_apply, simFlag_apply, degFlag_apply, propext ofBool_eq_one, propext ofBool_eq_one]
  refine congrArg (x (ix2 n j) + ·) ?_
  pointwise

end Cert.Proof.K

end
-- ==== Proof.VSparse.lean ====
/-
  The SparseCore call at the extended reals: the 32 tiles' first accumulators add up, place by place, to the sum of the dot
  products of the edges that end at the place, and the second to the number of those edges.
-/
module

public import proofs.«01_k».proof.Proof.TileBody
public import proofs.«01_k».proof.Proof.VFin
public import Idealize.ShloMosaic.Lib.Pointwise

@[expose] public section

noncomputable section

namespace Cert.Proof.K

open Cert.KernelIdeal Cert.KernelIdeal.Gen
open Idealize.ShloMosaic

/-! ## Sums over ranges -/

/-- A sum over `a` runs of `b` places each. -/
theorem sum_runs (f : ℕ → EReal) (a b : ℕ) : ∑ i ∈ Finset.range a, ∑ k ∈ Finset.range b, f (b * i + k) = ∑ e ∈ Finset.range (b * a), f e := by
  induction a with
  | zero => simp
  | succ a ih => rw [Finset.sum_range_succ, ih, Nat.mul_succ, Finset.sum_range_add]

/-! ## One group of 16 edges -/

/-- A left fold whose every step adds a term to what is read off the state. -/
theorem foldl_add {σ α : Type*} (rd : σ → EReal) (step : σ → α → σ) (term : α → EReal) (h : ∀ s a, rd (step s a) = rd s + term a)
    (l : List α) (s : σ) : rd (l.foldl step s) = rd s + (l.map term).sum := by
  induction l generalizing s with
  | nil => simp
  | cons a l ih => rw [List.foldl_cons, ih, h, List.map_cons, List.sum_cons, add_assoc]

/-- A place of 16, as an index. -/
abbrev lane (k : Fin 16) : S16.Idx := Shape.ofLane (d := ![16]) k

open Classical in
/-- An adding indexed store, read at a place: what was there and every set lane that names the place. -/
theorem storeIdx_add (f : Vec Ideal S10000 .f32) (cols : IVec S16 32) (v : FVec Ideal S16 .f32) (mask : IVec S16 1)
    (h : ∀ a x, ((![cols] : Fin 1 → IVec S16 32) a x).toNat < S10000.size a) (j : S10000.Idx) :
    storeIdx f ![cols] v mask true h j
      = f j + ∑ k : Fin 16, if mask (lane k) = 1 ∧ (cols (lane k)).toNat = (j 0).val then v (lane k) else 0 := by
  rw [Fin.sum_univ_def]
  refine foldl_add (fun (f : Vec Ideal S10000 .f32) => f j) _
    (fun k : Fin 16 => if mask (lane k) = 1 ∧ (cols (lane k)).toNat = (j 0).val then v (lane k) else 0) (fun g k => ?_) (List.finRange 16) f
  show (if mask (lane k) = 1 then _ else g) j = _
  by_cases hm : mask (lane k) = 1
  · rw [if_pos hm]
    dsimp only
    by_cases hj : (cols (lane k)).toNat = (j 0).val
    · have e : idxAt ![cols] h (lane k) = j := by
        funext a; apply Fin.ext; match a with | ⟨0, _⟩ => exact hj
      rw [if_pos (show ∀ a, (j a).val = (idxAt ![cols] h (lane k) a).val from fun a => by rw [e]), e, if_pos (show mask (lane k) = 1 ∧ (cols (lane k)).toNat = (j 0).val from ⟨hm, hj⟩)]
      rfl
    · rw [if_neg (fun e => hj ((e 0).symm)),
        if_neg (show ¬ (mask (lane k) = 1 ∧ (cols (lane k)).toNat = (j 0).val) from fun e => hj e.2), add_zero]
  · rw [if_neg hm, if_neg (show ¬ (mask (lane k) = 1 ∧ (cols (lane k)).toNat = (j 0).val) from fun e => hm e.1), add_zero]

open Classical in
/-- After `n` rounds every lane of a count below `n` has been added. -/
theorem peelFold_apply {cols : IVec S16 32} (h : ColsOK cols) (v : FVec Ideal S16 .f32) (c : Vec Ideal S10000 .f32) (n : ℕ) (hn : n < 1000)
    (j : S10000.Idx) :
    peelFold h v c n j
      = c j + ∑ k : Fin 16, if (cnt cols (lane k)).toNat < n ∧ (cols (lane k)).toNat = (j 0).val then v (lane k) else 0 := by
  induction n with
  | zero => simp [peelFold]
  | succ n ih =>
    unfold peelFold
    rw [storeIdx_add, ih (by omega), add_assoc, ← Finset.sum_add_distrib]
    refine congrArg (c j + ·) (Finset.sum_congr rfl fun k _ => ?_)
    have hm : cmpi .eq (cnt cols) (colWord n) (lane k) = 1 ↔ (cnt cols (lane k)).toNat = n := by
      show IntOp.cmpi .eq _ _ = 1#1 ↔ _
      have e : colWord n (lane k) = BitVec.ofNat 32 n := iv_eq n
      rw [e]
      show BitVec.ofBool (decide (_ = _)) = 1#1 ↔ _
      rw [ofBool_eq_one]
      constructor
      · intro h; rw [h, BitVec.toNat_ofNat]; omega
      · intro h; apply BitVec.eq_of_toNat_eq; rw [h, BitVec.toNat_ofNat]; omega
    by_cases hj : (cols (lane k)).toNat = (j 0).val
    · rcases Nat.lt_trichotomy (cnt cols (lane k)).toNat n with hc | hc | hc
      · rw [if_pos ⟨hc, hj⟩, if_neg (fun e => by have := hm.1 e.1; omega), if_pos ⟨by omega, hj⟩, add_zero]
      · rw [if_neg (fun e => by omega), if_pos ⟨hm.2 hc, hj⟩, if_pos ⟨by omega, hj⟩, zero_add]
      · rw [if_neg (fun e => by omega), if_neg (fun e => by have := hm.1 e.1; omega), if_neg (fun e => by omega), add_zero]
    · rw [if_neg (fun e => hj e.2), if_neg (fun e => hj e.2), if_neg (fun e => hj e.2), add_zero]

open Classical in
/-- After every round each lane has been added once. -/
theorem peelAll_apply {cols : IVec S16 32} (h : ColsOK cols) (v : FVec Ideal S16 .f32) (c : Vec Ideal S10000 .f32) (j : S10000.Idx) :
    peelAll h v c j = c j + ∑ k : Fin 16, if (cols (lane k)).toNat = (j 0).val then v (lane k) else 0 := by
  unfold peelAll
  have hle := mx_le cols
  rw [peelFold_apply h v c _ (by omega)]
  refine congrArg (c j + ·) (Finset.sum_congr rfl fun k _ => ?_)
  have := (mx_spec cols).2 (lane k)
  exact if_congr (and_iff_right (by omega)) rfl rfl

/-- The lanes' dot products. -/
theorem dotAt_apply (o : ℕ) (ho : o ≤ 112) (R C : Vec Ideal S128x128 .f32) (k : Fin 16) :
    dotAt o ho R C (lane k) = ∑ q : Fin 128, R (ix2 ⟨o + k.val, by omega⟩ q) * C (ix2 ⟨o + k.val, by omega⟩ q) := by
  have hb : (BitVec.ofNat 32 o).toNat = o := by rw [BitVec.toNat_ofNat]; omega
  have hat : ∀ n (hn : n < 128), idxAt (s := S128x128) ![lanes (BitVec.ofNat 32 o), colWord n] (cell_ok (base_le o ho) hn) (lane k)
      = ix2 ⟨o + k.val, by omega⟩ ⟨n, hn⟩ := by
    intro n hn
    funext a
    apply Fin.ext
    match a with
    | ⟨0, _⟩ => show (lanes _ (lane k)).toNat = o + k.val; rw [lanes_toNat _ (base_le o ho), hb]; rfl
    | ⟨1, _⟩ => exact colWord_toNat hn (lane k)
  have hf : ∀ n, n ≤ 128 → dotFold (base_le o ho) R C n (lane k)
      = ∑ i ∈ Finset.range n, if hi : i < 128 then R (ix2 ⟨o + k.val, by omega⟩ ⟨i, hi⟩) * C (ix2 ⟨o + k.val, by omega⟩ ⟨i, hi⟩) else 0 := by
    intro n hn
    induction n with
    | zero => rw [Finset.sum_range_zero]; exact Ideal.ofBits_zero_f32
    | succ n ih =>
      have h1 : n < 128 := by omega
      unfold dotFold
      rw [dif_pos h1, Finset.sum_range_succ, dif_pos h1]
      show dotFold (base_le o ho) R C n (lane k) + R (idxAt ![lanes (BitVec.ofNat 32 o), colWord n] _ (lane k)) * C (idxAt ![lanes (BitVec.ofNat 32 o), colWord n] _ (lane k)) = _
      rw [ih (by omega)]
      have e := hat n h1
      exact congrArg _ (congrArg₂ (fun a b => R a * C b) e e)
  unfold dotAt
  rw [hf 128 le_rfl, Finset.sum_range]
  exact Finset.sum_congr rfl fun i _ => dif_pos i.isLt

/-! ## One chunk of 128 edges -/

open Classical in
/-- What place `y` of a chunk adds at `j`: `v y`, if the edge ends there. -/
def chunkTerm (ei : Vec Ideal S128 .i32) (v : Fin 128 → EReal) (j : ℕ) (y : ℕ) : EReal :=
  if h : y < 128 then (if (ei (ix1 ⟨y, h⟩) : BitVec 32).toNat = j then v ⟨y, h⟩ else 0) else 0

theorem grp_term (o : ℕ) (ho : o ≤ 112) {ei : Vec Ideal S128 .i32} (h : ListOK ei) (w : FVec Ideal S16 .f32) (v : Fin 128 → EReal)
    (hv : ∀ k : Fin 16, w (lane k) = v ⟨o + k.val, by omega⟩) (c : Vec Ideal S10000 .f32) (j : S10000.Idx)
    (n : EReal) (hc : c j = n + ∑ y ∈ Finset.range o, chunkTerm ei v (j 0).val y) :
    peelAll (h.cols o ho) w c j = n + ∑ y ∈ Finset.range (o + 16), chunkTerm ei v (j 0).val y := by
  rw [peelAll_apply, hc, add_assoc, Finset.sum_range_add, Finset.sum_range (n := 16)]
  refine congrArg (n + ·) (congrArg (_ + ·) (Finset.sum_congr rfl fun k _ => ?_))
  unfold chunkTerm
  rw [dif_pos (show o + k.val < 128 by omega)]
  have e : colsAt o ho ei (lane k) = ei (ix1 ⟨o + k.val, by omega⟩) := by
    refine congrArg ei (funext fun a => Fin.ext ?_)
    match a with | ⟨0, _⟩ => rfl
  rw [e, hv]

variable (L : grid2.Coords) (XN : Vec Ideal S10000x128 .f32) {EF : Vec Ideal S640000 .i32} (hE : EdgesOK EF)

theorem chunk_sum {ei : Vec Ideal S128 .i32} (h : ListOK ei) (w : (o : ℕ) → o ≤ 112 → FVec Ideal S16 .f32) (v : Fin 128 → EReal)
    (hv : ∀ o ho (k : Fin 16), w o ho (lane k) = v ⟨o + k.val, by omega⟩) (c : Vec Ideal S10000 .f32) (j : S10000.Idx) :
    peelAll (h.cols 112 (by decide)) (w 112 (by decide)) (peelAll (h.cols 96 (by decide)) (w 96 (by decide)) (peelAll (h.cols 80 (by decide)) (w 80 (by decide))
      (peelAll (h.cols 64 (by decide)) (w 64 (by decide)) (peelAll (h.cols 48 (by decide)) (w 48 (by decide)) (peelAll (h.cols 32 (by decide)) (w 32 (by decide))
      (peelAll (h.cols 16 (by decide)) (w 16 (by decide)) (peelAll (h.cols 0 (by decide)) (w 0 (by decide)) c))))))) j
      = c j + ∑ y ∈ Finset.range 128, chunkTerm ei v (j 0).val y := by
  have h0 := grp_term 0 (by decide) h (w 0 (by decide)) v (hv 0 _) c j (c j) (by simp)
  have h1 := grp_term 16 (by decide) h (w 16 (by decide)) v (hv 16 _) _ j (c j) h0
  have h2 := grp_term 32 (by decide) h (w 32 (by decide)) v (hv 32 _) _ j (c j) h1
  have h3 := grp_term 48 (by decide) h (w 48 (by decide)) v (hv 48 _) _ j (c j) h2
  have h4 := grp_term 64 (by decide) h (w 64 (by decide)) v (hv 64 _) _ j (c j) h3
  have h5 := grp_term 80 (by decide) h (w 80 (by decide)) v (hv 80 _) _ j (c j) h4
  have h6 := grp_term 96 (by decide) h (w 96 (by decide)) v (hv 96 _) _ j (c j) h5
  exact grp_term 112 (by decide) h (w 112 (by decide)) v (hv 112 _) _ j (c j) h6

/-! ## The edges -/

/-- The row and the column word of edge `e`. -/
def rowWord (EF : Vec Ideal S640000 .i32) (e : Fin 320000) : BitVec 32 := EF (flatAt e.val (by have := e.isLt; omega))
def colWordOf (EF : Vec Ideal S640000 .i32) (e : Fin 320000) : BitVec 32 := EF (flatAt (320000 + e.val) (by have := e.isLt; omega))

/-- Row `w` of a table, whatever the word. -/
def rowAt (XN : Vec Ideal S10000x128 .f32) (w : BitVec 32) (q : Fin 128) : EReal :=
  XN (cellAt (w.toNat % 10000) (Nat.mod_lt _ (by decide)) q)

/-- The dot product along edge `e`. -/
def edgeDot (XN : Vec Ideal S10000x128 .f32) (EF : Vec Ideal S640000 .i32) (e : Fin 320000) : EReal :=
  ∑ q : Fin 128, rowAt XN (rowWord EF e) q * rowAt XN (colWordOf EF e) q

open Classical in
/-- What edge `e` adds at `j`: `v e`, if it ends there. -/
def edgeTerm (EF : Vec Ideal S640000 .i32) (v : Fin 320000 → EReal) (j : ℕ) (e : ℕ) : EReal :=
  if h : e < 320000 then (if (colWordOf EF ⟨e, h⟩).toNat = j then v ⟨e, h⟩ else 0) else 0

theorem chunkTerm_eq (t : Fin (k2_t2_loop L).trips) (v : Fin 320000 → EReal) (j y : ℕ) (hy : y < 128) :
    chunkTerm (ciList L EF t) (fun y => v ⟨edge0 L t.val + y.val, edge_lt L t (ix1 y)⟩) j y = edgeTerm EF v j (edge0 L t.val + y) := by
  have he : edge0 L t.val + y < 320000 := edge_lt L t (ix1 ⟨y, hy⟩)
  unfold chunkTerm edgeTerm
  rw [dif_pos hy, dif_pos he, ciList_apply]
  rfl

theorem rowsOf_apply {ei : Vec Ideal S128 .i32} (h : ListOK ei) (y q : Fin 128) : rowsOf XN h (ix2 y q) = rowAt XN (ei (ix1 y)) q := by
  have hp : placeAt y = ix1 y := by
    funext a; match a with | ⟨0, _⟩ => rfl
  show XN (cellAt (ei (placeAt y) : BitVec 32).toNat (h _) q) = XN (cellAt _ _ q)
  have e : (ei (placeAt y) : BitVec 32).toNat = (ei (ix1 y) : BitVec 32).toNat % 10000 := by
    rw [hp, Nat.mod_eq_of_lt (h _)]
  refine congrArg XN (funext fun a => Fin.ext ?_)
  match a with
  | ⟨0, _⟩ => exact e
  | ⟨1, _⟩ => rfl

theorem chunkC_apply (t : Fin (k2_t2_loop L).trips) (c : Vec Ideal S10000 .f32) (j : S10000.Idx) :
    chunkC L XN hE t c j = c j + ∑ y ∈ Finset.range 128, edgeTerm EF (edgeDot XN EF) (j 0).val (edge0 L t.val + y) := by
  unfold chunkC grpC
  refine (chunk_sum (hE.ci L t) (fun o ho => dotAt o ho (chunkR L XN hE t) (chunkK L XN hE t))
    (fun y => edgeDot XN EF ⟨edge0 L t.val + y.val, edge_lt L t (ix1 y)⟩) (fun o ho k => ?_) c j).trans ?_
  · rw [dotAt_apply]
    unfold edgeDot chunkR chunkK
    refine Finset.sum_congr rfl fun q _ => ?_
    rw [rowsOf_apply, rowsOf_apply, riList_apply, ciList_apply]
    rfl
  · exact congrArg (c j + ·) (Finset.sum_congr rfl fun y hy => chunkTerm_eq L t _ _ y (Finset.mem_range.1 hy))

theorem chunkD_apply (t : Fin (k2_t2_loop L).trips) (c : Vec Ideal S10000 .f32) (j : S10000.Idx) :
    chunkD L hE t c j = c j + ∑ y ∈ Finset.range 128, edgeTerm EF (fun _ => 1) (j 0).val (edge0 L t.val + y) := by
  unfold chunkD grpD
  refine (chunk_sum (hE.ci L t) (fun _ _ => one16) (fun y => (1 : EReal)) (fun o ho k => Ideal.ofBits_one_f32) c j).trans ?_
  exact congrArg (c j + ·) (Finset.sum_congr rfl fun y hy => chunkTerm_eq L t (fun _ => 1) _ y (Finset.mem_range.1 hy))

/-! ## One tile -/

theorem accC_apply (j : S10000.Idx) (n : ℕ) (hn : n ≤ (k2_t2_loop L).trips) :
    accC L XN hE n j = ∑ t ∈ Finset.range n, ∑ y ∈ Finset.range 128, edgeTerm EF (edgeDot XN EF) (j 0).val (edge0 L t + y) := by
  induction n with
  | zero => exact Ideal.ofBits_zero_f32
  | succ n ih =>
    unfold accC
    rw [dif_pos (by omega), chunkC_apply, ih (by omega), Finset.sum_range_succ _ n]

theorem accD_apply (j : S10000.Idx) (n : ℕ) (hn : n ≤ (k2_t2_loop L).trips) :
    accD L hE n j = ∑ t ∈ Finset.range n, ∑ y ∈ Finset.range 128, edgeTerm EF (fun _ => 1) (j 0).val (edge0 L t + y) := by
  induction n with
  | zero => exact Ideal.ofBits_zero_f32
  | succ n ih =>
    unfold accD
    rw [dif_pos (by omega), chunkD_apply, ih (by omega), Finset.sum_range_succ _ n]

theorem trips_of : ∀ r : Fin 64, (k2_t2_loop (tileAt r)).trips = if r.val / 2 < 4 then 79 else 78 := by decide +kernel

/-- A tile's chunks, and one more past the list's end where the tile has but 78. -/
theorem tile_range (EF : Vec Ideal S640000 .i32) (v : Fin 320000 → EReal) (j : ℕ) (r : Fin 64) :
    ∑ t ∈ Finset.range (k2_t2_loop (tileAt r)).trips, ∑ y ∈ Finset.range 128, edgeTerm EF v j (edge0 (tileAt r) t + y)
      = ∑ t ∈ Finset.range 79, ∑ y ∈ Finset.range 128, edgeTerm EF v j (4096 * t + (128 * (r.val / 2) + y)) := by
  have he : ∀ t, edge0 (tileAt r) t = 4096 * t + 128 * (r.val / 2) := fun t => by
    show 4096 * t + 2048 * (r.val / 32) + 128 * (r.val / 2 % 16) = _
    omega
  simp only [he, add_assoc]
  rw [trips_of]
  split
  · rfl
  · rename_i h
    rw [Finset.sum_range_succ _ 78]
    rw [Finset.sum_eq_zero (s := Finset.range 128) (f := fun y => edgeTerm EF v j (4096 * 78 + (128 * (r.val / 2) + y))), add_zero]
    intro y _
    unfold edgeTerm
    exact dif_neg (by omega)

/-! ## All the tiles -/

/-- The tiles' ranges together are the edges. -/
theorem all_range (EF : Vec Ideal S640000 .i32) (v : Fin 320000 → EReal) (j : ℕ) :
    ∑ k : Fin 32, ∑ t ∈ Finset.range 79, ∑ y ∈ Finset.range 128, edgeTerm EF v j (4096 * t + (128 * k.val + y))
      = ∑ e : Fin 320000, edgeTerm EF v j e.val := by
  rw [Finset.sum_comm]
  have h1 : ∀ t, ∑ k : Fin 32, ∑ y ∈ Finset.range 128, edgeTerm EF v j (4096 * t + (128 * k.val + y))
      = ∑ z ∈ Finset.range 4096, edgeTerm EF v j (4096 * t + z) := fun t => by
    rw [← Finset.sum_range fun k => ∑ y ∈ Finset.range 128, edgeTerm EF v j (4096 * t + (128 * k + y))]
    exact sum_runs (fun z => edgeTerm EF v j (4096 * t + z)) 32 128
  rw [Finset.sum_congr rfl fun t _ => h1 t, sum_runs (fun z => edgeTerm EF v j z) 79 4096]
  rw [show 4096 * 79 = 320000 + 3584 from rfl, Finset.sum_range_add]
  rw [Finset.sum_eq_zero (s := Finset.range 3584), add_zero, Finset.sum_range]
  intro y _
  unfold edgeTerm
  exact dif_neg (by omega)

open Classical in
/-- The sum of `v` over the edges that end at `j`. -/
def edgeSum (EF : Vec Ideal S640000 .i32) (v : Fin 320000 → EReal) (j : ℕ) : EReal :=
  ∑ e : Fin 320000, if (colWordOf EF e).toNat = j then v e else 0

theorem edgeSum_eq (EF : Vec Ideal S640000 .i32) (v : Fin 320000 → EReal) (j : ℕ) :
    ∑ e : Fin 320000, edgeTerm EF v j e.val = edgeSum EF v j :=
  Finset.sum_congr rfl fun e _ => by
    unfold edgeTerm
    rw [dif_pos e.isLt]

/-- The first accumulators together. -/
theorem sum_tileC (n : Fin 10000) :
    ∑ k : Fin 32, tileOut XN hE (ix2 (partRow k 0) n) = edgeSum EF (edgeDot XN EF) n.val := by
  rw [← edgeSum_eq, ← all_range]
  refine Finset.sum_congr rfl fun k _ => ?_
  have hr : (partRow k 0).val / 2 = k.val := by show (k.val * 2 + 0) / 2 = k.val; omega
  have h := tile_range EF (edgeDot XN EF) n.val (partRow k 0)
  rw [hr] at h
  rw [← h]
  have e : tileOut XN hE (ix2 (partRow k 0) n) = tileC (tileAt (partRow k 0)) XN hE (accAt n) :=
    if_pos (by show (k.val * 2 + 0) % 2 = 0; omega)
  rw [e]
  exact accC_apply _ XN hE (accAt n) _ le_rfl

/-- The second accumulators together. -/
theorem sum_tileD (n : Fin 10000) :
    ∑ k : Fin 32, tileOut XN hE (ix2 (partRow k 1) n) = edgeSum EF (fun _ => 1) n.val := by
  rw [← edgeSum_eq, ← all_range]
  refine Finset.sum_congr rfl fun k _ => ?_
  have hr : (partRow k 1).val / 2 = k.val := by show (k.val * 2 + 1) / 2 = k.val; omega
  have h := tile_range EF (fun _ => 1) n.val (partRow k 1)
  rw [hr] at h
  rw [← h]
  have e : tileOut XN hE (ix2 (partRow k 1) n) = tileD (tileAt (partRow k 1)) hE (accAt n) :=
    if_neg (by show ¬ (k.val * 2 + 1) % 2 = 0; omega)
  rw [e]
  exact accD_apply _ hE (accAt n) _ le_rfl

end Cert.Proof.K

end
-- ==== Proof.VOut.lean ====
/-
  The two TensorCore calls around the SparseCore one, at the extended reals and place by place: the rows divided by their
  lengths, and the result, read off the table at the flags of the summed partial sums.
-/
module

public import proofs.«01_k».proof.Proof.TcFinal
public import proofs.«01_k».proof.Proof.VFin
public import Idealize.ShloMosaic.Lib.Pipeline.ArrRel
public import Idealize.ShloMosaic.Lib.Pointwise

@[expose] public section

noncomputable section

namespace Cert.Proof.K

open Cert.KernelIdeal Cert.KernelIdeal.Gen
open Idealize.ShloMosaic
open Idealize.ShloMosaic.TcCoe

/-! ## The rows -/

theorem normBlk_apply (X : Vec Ideal S2000x128 .f32) (n : Fin 2000) (j : Fin 128) :
    normBlk X (ix2 n j) = Ideal.div (X (ix2 n j)) (Ideal.sqrt (∑ x, X (ix2 n x) * X (ix2 n x))) := by
  pointwise [normBlk]

theorem normAll_apply (X : Vec Ideal S10000x128 .f32) (n : Fin 10000) (j : Fin 128) : normAll X (ix2 n j) = unit (fun q => X (ix2 n q)) j := by
  have hX : ∀ q : Fin 128, ∀ h, X (cellAt (2000 * (n.val / 2000) + n.val % 2000) h q) = X (ix2 n q) := fun q h => by
    refine congrArg X (funext fun a => Fin.ext ?_)
    match a with
    | ⟨0, _⟩ => exact Nat.div_add_mod _ _
    | ⟨1, _⟩ => rfl
  unfold normAll
  have e : (normIx ⟨n.val % 2000, Nat.mod_lt _ (by decide)⟩ j : S2000x128.Idx) = ix2 ⟨n.val % 2000, Nat.mod_lt _ (by decide)⟩ j := by
    funext a
    match a with
    | ⟨0, _⟩ => rfl
    | ⟨1, _⟩ => rfl
  refine (congrArg (normBlk _) e).trans ?_
  rw [normBlk_apply]
  unfold unit
  refine congrArg₂ Ideal.div (hX j _) (congrArg Ideal.sqrt (Finset.sum_congr rfl fun q _ => ?_))
  exact congrArg₂ (· * ·) (hX q _) (hX q _)

/-! ## The result -/

/-- What the last call leaves, place by place. -/
def finOut (X : Vec Ideal S10000x128 .f32) (PT : Vec Ideal S64x10000 .f32) (TB : Vec Ideal S8x128 .f32) : Vec Ideal S10000x128 .f32 := fun i =>
  X i + TB (ix2 (rowNo
    (Ideal.div (∑ k, PT (ix2 (partRow k 0) (i 0))) (∑ k, PT (ix2 (partRow k 1) (i 0))) ≤ simCut)
    (∑ k, PT (ix2 (partRow k 1) (i 0)) ≤ degCut)) (i 1))

theorem fin_ix0 : ∀ t : Fin cfg3.N, win3_0.index t = ![t.val, 0] := (by decide +kernel : ∀ t : Fin grid3.N, _)
theorem fin_ix1 : ∀ t : Fin cfg3.N, win3_1.index t = ![0, t.val] := (by decide +kernel : ∀ t : Fin grid3.N, _)
theorem fin_ix3 : ∀ t : Fin cfg3.N, win3_3.index t = ![t.val, 0] := (by decide +kernel : ∀ t : Fin grid3.N, _)

theorem fin_size0 : ∀ (t : Fin cfg3.N) (a : Fin 2), win3_0.xsize (grid3.coords t) a = win3_3.xsize (grid3.coords t) a :=
  (by decide +kernel : ∀ (t : Fin grid3.N) (a : Fin 2), _)
theorem fin_size1 : ∀ t : Fin cfg3.N, win3_1.xsize (grid3.coords t) 0 = 64 ∧ win3_1.xsize (grid3.coords t) 1 = win3_3.xsize (grid3.coords t) 0 :=
  (by decide +kernel : ∀ t : Fin grid3.N, _)

variable (X : Dev nD → Vec Ideal S10000x128 .f32) (PT : Dev nD → Vec Ideal S64x10000 .f32) (TB : Dev nD → Vec Ideal S8x128 .f32)
  (Z : Dev nD → Vec Ideal S10000x128 .f32)

theorem fin_emb0 (t : Fin cfg3.N) (z : (win3_0.xblock (grid3.coords t)).Idx) :
    ((win3_0.blk t).view.emb z 0 : ℕ) = t.val * 2048 + (z 0).val ∧ ((win3_0.blk t).view.emb z 1 : ℕ) = (z 1).val :=
  ⟨by blk_simp [fin_ix0], by blk_simp [fin_ix0]⟩
theorem fin_emb1 (t : Fin cfg3.N) (z : (win3_1.xblock (grid3.coords t)).Idx) :
    ((win3_1.blk t).view.emb z 0 : ℕ) = (z 0).val ∧ ((win3_1.blk t).view.emb z 1 : ℕ) = t.val * 2048 + (z 1).val :=
  ⟨by blk_simp [fin_ix1], by blk_simp [fin_ix1]⟩
theorem fin_emb3 (t : Fin cfg3.N) (z : (win3_3.xblock (grid3.coords t)).Idx) :
    ((win3_3.blk t).view.emb z 0 : ℕ) = t.val * 2048 + (z 0).val ∧ ((win3_3.blk t).view.emb z 1 : ℕ) = (z 1).val :=
  ⟨by blk_simp [fin_ix3], by blk_simp [fin_ix3]⟩

/-- A place of the rows' block, at a place of the result's. -/
def toWin0 (t : Fin cfg3.N) (y : (win3_3.xblock (grid3.coords t)).Idx) : (win3_0.xblock (grid3.coords t)).Idx :=
  fun a => ⟨(y a).val, lt_of_lt_of_eq (y a).isLt (fin_size0 t a).symm⟩

/-- A place of the partial sums' block: row `r` and the column of a place of the result's. -/
def toWin1 (t : Fin cfg3.N) (y : (win3_3.xblock (grid3.coords t)).Idx) (r : Fin 64) : (win3_1.xblock (grid3.coords t)).Idx := fun a => match a with
  | ⟨0, _⟩ => ⟨r.val, lt_of_lt_of_eq r.isLt (fin_size1 t).1.symm⟩
  | ⟨1, _⟩ => ⟨(y 0).val, lt_of_lt_of_eq (y 0).isLt (fin_size1 t).2.symm⟩

/-- A fetched block of the rows, at a place inside the array. -/
theorem fetched0_apply (c : Dev nD) (t : Fin cfg3.N) (d) (y : (win3_3.xblock (grid3.coords t)).Idx) :
    (finDat X PT TB Z c).fetched 0 t d (win3_3.xinj (grid3.coords t) y) = X c ((win3_3.blk t).view.emb y) := by
  refine (win3_0.fill_xinj (grid3.coords t) d ((finDat X PT TB Z c).blockOf 0 t) (toWin0 t y)).trans ?_
  show X c _ = X c _
  refine congrArg (X c) (funext fun a => Fin.ext ?_)
  match a with
  | ⟨0, _⟩ => exact (fin_emb0 t (toWin0 t y)).1.trans (fin_emb3 t y).1.symm
  | ⟨1, _⟩ => exact (fin_emb0 t (toWin0 t y)).2.trans (fin_emb3 t y).2.symm

/-- A fetched block of the partial sums, at a column inside the array. -/
theorem fetched1_apply (c : Dev nD) (t : Fin cfg3.N) (d) (y : (win3_3.xblock (grid3.coords t)).Idx) (r : Fin 64) (n : Fin 2048) (hn : n.val = (y 0).val) :
    (finDat X PT TB Z c).fetched 1 t d (ix2 r n) = PT c (ix2 r ((win3_3.blk t).view.emb y 0)) := by
  have hz : (ix2 r n : S64x2048.Idx) = win3_1.xinj (grid3.coords t) (toWin1 t y r) := by
    funext a
    apply Fin.ext
    match a with
    | ⟨0, _⟩ => rfl
    | ⟨1, _⟩ => exact hn
  refine (congrArg ((finDat X PT TB Z c).fetched 1 t d) hz).trans ?_
  refine (win3_1.fill_xinj (grid3.coords t) d ((finDat X PT TB Z c).blockOf 1 t) (toWin1 t y r)).trans ?_
  show PT c _ = PT c _
  refine congrArg (PT c) (funext fun a => Fin.ext ?_)
  match a with
  | ⟨0, _⟩ => exact (fin_emb1 t (toWin1 t y r)).1
  | ⟨1, _⟩ => exact (fin_emb1 t (toWin1 t y r)).2.trans (fin_emb3 t y).1.symm

/-- The block of the fetched blocks, at a place inside the array. -/
theorem finBlk_in (c : Dev nD) (t : Fin cfg3.N) (d0 d1) (y : (win3_3.xblock (grid3.coords t)).Idx) :
    finBlk ((finDat X PT TB Z c).fetched 0 t d0) ((finDat X PT TB Z c).fetched 1 t d1) (TB c) (win3_3.xinj (grid3.coords t) y)
      = finOut (X c) (PT c) (TB c) ((win3_3.blk t).view.emb y) := by
  obtain ⟨n, hn⟩ : ∃ n : Fin 2048, n.val = (y 0).val := ⟨⟨_, (win3_3.xinj (grid3.coords t) y 0).isLt⟩, rfl⟩
  obtain ⟨q, hq⟩ : ∃ q : Fin 128, q.val = (y 1).val := ⟨⟨_, (win3_3.xinj (grid3.coords t) y 1).isLt⟩, rfl⟩
  have hy : (win3_3.xinj (grid3.coords t) y : S2048x128.Idx) = ix2 n q := by
    funext a
    apply Fin.ext
    match a with
    | ⟨0, _⟩ => exact hn.symm
    | ⟨1, _⟩ => exact hq.symm
  have hp : ∀ r : Fin 64, (finDat X PT TB Z c).fetched 1 t d1 (ix2 r n) = PT c (ix2 r ((win3_3.blk t).view.emb y 0)) :=
    fun r => fetched1_apply X PT TB Z c t d1 y r n hn
  have h0 := fetched0_apply X PT TB Z c t d0 y
  rw [show win3_3.xinj (grid3.coords t) y = (ix2 n q : S2048x128.Idx) from hy] at h0
  refine (congrArg (finBlk _ _ _) hy).trans ?_
  refine (finBlk_apply _ _ _ n q).trans ?_
  have hs : ∀ a : Fin 2, (∑ k, (finDat X PT TB Z c).fetched 1 t d1 (ix2 (partRow k a) n) : EReal)
      = ∑ k, PT c (ix2 (partRow k a) ((win3_3.blk t).view.emb y 0)) := fun a => Finset.sum_congr rfl fun k _ => hp _
  have hj : ((win3_3.blk t).view.emb y 1 : Fin 128) = q := Fin.ext ((fin_emb3 t y).2.trans hq.symm)
  unfold finOut
  exact congrArg₂ (· + ·) h0 (congrArg (TB c) (congrArg₂ ix2 (congrArg₂ rowNo
    (congrArg (· ≤ simCut) (congrArg₂ Ideal.div (hs 0) (hs 1))) (congrArg (· ≤ degCut) (hs 1))) hj.symm))

/-- What the call may leave is one thing alone. -/
theorem finAt_eq (c : Dev nD) (G : Vec Ideal S10000x128 .f32) (h : FinAt X PT TB Z c G) : G = finOut (X c) (PT c) (TB c) := by
  obtain ⟨Y, hY, hA⟩ := Pipeline.RDat.ArrAt.exists_exact h
  rw [hA (Function.update (fun _ _ _ => Classical.arbitrary _) 3 Y) fun _ _ _ => by rw [Function.update_self]]
  refine Pipeline.Dat.arrAt_eq_of_covers _ 3 _ (by decide +kernel) fun t hf y => ?_
  have hr : finRel X PT TB Z c 3 t (Y t) := Pipeline.Dat.toRRel_leaves (finDat X PT TB Z c) (by rfl) (hY t t.isLt hf)
  obtain ⟨d0, d1, e⟩ := hr
  blk_simp
  rw [Pipeline.RDat.withAfter_after, Function.update_self, e]
  exact finBlk_in X PT TB Z c t d0 d1 y

end Cert.Proof.K

end
-- ==== Proof.VTable.lean ====
/-
  The prompt table at the extended reals: each of its rows is what the readout's slot reads out of the four slots of a pair
  of flags.
-/
module

public import proofs.«01_k».proof.Proof.TcTable
public import proofs.«01_k».proof.Proof.VFin
public import Idealize.ShloMosaic.Lib.Pointwise

@[expose] public section

noncomputable section

namespace Cert.Proof.K

open Cert.KernelIdeal Cert.KernelIdeal.Gen
open Idealize.ShloMosaic

theorem ofBits_top : Ideal.ofBits .f32 0x7F800000#32 = ⊤ := by simp [Ideal.ofBits, Ideal.ieee]
theorem ofBits_bot : Ideal.ofBits .f32 0xFF800000#32 = ⊥ := by simp [Ideal.ofBits, Ideal.ieee]

theorem project_apply (r : Vec Ideal S8x128 .f32) (w : Vec Ideal S128x128 .f32) (b : Vec Ideal S128 .f32) (t : Fin 8) (j : Fin 128) :
    project r w b (ix2 t j) = proj (fun k => r (ix2 t k)) (fun i k => w (ix2 i k)) (fun i => b (ix1 i)) j := by
  pointwise [project]
  rfl

theorem weights_apply (s : Vec Ideal S8x8 .f32) (t u : Fin 8) : weights s (ix2 t u) = expw (fun u => s (ix2 t u)) u := by
  pointwise [weights]
  rw [ofBits_bot]
  rfl

theorem shares'_apply (s : Vec Ideal S8x8 .f32) (t u : Fin 8) :
    shares' s (ix2 t u) = Ideal.div (s (ix2 t u)) (∑ k : Fin 8, s (ix2 t k)) := by
  pointwise [shares']

/-- A slot takes no part if minus one fills it or if it is padding. -/
theorem padded_apply (r : Vec Ideal S8x128 .f32) (t : Fin 8) :
    padded r (ix1 t) = 1#1 ↔ Empty (fun u k => r (ix2 u k)) t ∨ 4 ≤ t.val := by
  pointwise [padded]
  have h4 : IntOp.cmpi .sge (BitVec.ofNat 32 t.val) 4#32 = 1#1 ↔ 4 ≤ t.val := by
    revert t; decide
  have hm : (0 < Finset.fold min (Ideal.ofBits FTy.f32 0x7F800000#32)
      (fun x => if r (ix2 t x) = Ideal.ofBits FTy.f32 0xBF800000#32 then (1 : EReal) else 0) Finset.univ) ↔ Empty (fun u k => r (ix2 u k)) t := by
    rw [ofBits_top]
    show (0 : EReal) < Finset.univ.inf _ ↔ _
    rw [Finset.lt_inf_iff (by exact EReal.zero_lt_top)]
    unfold Empty negOne
    refine ⟨fun h k => ?_, fun h k _ => ?_⟩
    · have := h k (Finset.mem_univ k)
      by_contra hn
      rw [if_neg hn] at this
      exact lt_irrefl _ this
    · rw [if_pos (h k)]; norm_num
  have ho : ∀ a b : BitVec 1, IntOp.ori a b = 1#1 ↔ a = 1#1 ∨ b = 1#1 := by decide
  rw [ho, h4]
  refine or_congr_left ?_
  exact ofBool_eq_one.trans hm

theorem scores_apply (p : IVec S8 1) (q k : Vec Ideal S8x128 .f32) (t u : Fin 8) :
    scores p q k (ix2 t u) = score (fun u => p (ix1 u) = 1#1) scale (fun c => q (ix2 t c)) (fun u c => k (ix2 u c)) u := by
  pointwise [scores]
  have hn : (Named.named κ "mask" (φ := .f32) 0xF149F2CA#32 : Ideal .f32) = ⊥ := rfl
  unfold score
  show (if p (ix1 u) = 1#1 then _ else _) = _
  by_cases h : p (ix1 u) = 1#1
  · rw [if_pos h, if_pos h]; exact hn
  · rw [if_neg h, if_neg h]; exact mul_div_one _ scale_real.2

/-- The weights as functions of two lanes. -/
def weightsOf (wq : Vec Ideal S128x128 .f32) (bq : Vec Ideal S128 .f32) (wk : Vec Ideal S128x128 .f32) (bk : Vec Ideal S128 .f32)
    (wv : Vec Ideal S128x128 .f32) (bv : Vec Ideal S128 .f32) (wo : Vec Ideal S128x128 .f32) (bo : Vec Ideal S128 .f32) : Weights where
  wq i k := wq (ix2 i k)
  bq i := bq (ix1 i)
  wk i k := wk (ix2 i k)
  bk i := bk (ix1 i)
  wv i k := wv (ix2 i k)
  bv i := bv (ix1 i)
  wo i k := wo (ix2 i k)
  bo i := bo (ix1 i)

theorem attend_apply (wq : Vec Ideal S128x128 .f32) (bq : Vec Ideal S128 .f32) (wk : Vec Ideal S128x128 .f32) (bk : Vec Ideal S128 .f32)
    (wv : Vec Ideal S128x128 .f32) (bv : Vec Ideal S128 .f32) (wo : Vec Ideal S128x128 .f32) (bo : Vec Ideal S128 .f32)
    (r : Vec Ideal S8x128 .f32) (j : Fin 128) :
    attend wq bq wk bk wv bv wo bo r (ix2 0 j)
      = attn (weightsOf wq bq wk bk wv bv wo bo) (fun t => Empty (fun u k => r (ix2 u k)) t ∨ 4 ≤ t.val) (fun u k => r (ix2 u k)) 0 j := by
  classical
  pointwise [attend, project_apply]
  unfold attn
  have hw : ∀ u : Fin 8, shares' (weights (scores (padded r) (project r wq bq) (project r wk bk))) (ix2 0 u)
      = Ideal.div (expw (score (fun t => Empty (fun u k => r (ix2 u k)) t ∨ 4 ≤ t.val) scale
          (proj (fun k => r (ix2 0 k)) (fun i k => wq (ix2 i k)) fun i => bq (ix1 i))
          fun u => proj (fun k => r (ix2 u k)) (fun i k => wk (ix2 i k)) fun i => bk (ix1 i)) u)
        (∑ u', expw (score (fun t => Empty (fun u k => r (ix2 u k)) t ∨ 4 ≤ t.val) scale
          (proj (fun k => r (ix2 0 k)) (fun i k => wq (ix2 i k)) fun i => bq (ix1 i))
          fun u => proj (fun k => r (ix2 u k)) (fun i k => wk (ix2 i k)) fun i => bk (ix1 i)) u') := by
    intro u
    have hs : (fun u => scores (padded r) (project r wq bq) (project r wk bk) (ix2 0 u))
        = score (fun t => Empty (fun u k => r (ix2 u k)) t ∨ 4 ≤ t.val) scale
          (proj (fun k => r (ix2 0 k)) (fun i k => wq (ix2 i k)) fun i => bq (ix1 i))
          fun u => proj (fun k => r (ix2 u k)) (fun i k => wk (ix2 i k)) fun i => bk (ix1 i) := by
      funext u
      rw [scores_apply]
      unfold score
      by_cases hu : padded r (ix1 u) = 1#1
      · rw [if_pos hu, if_pos ((padded_apply r u).1 hu)]
      · rw [if_neg hu, if_neg fun e => hu ((padded_apply r u).2 e)]
        simp only [project_apply]
    rw [shares'_apply]
    simp only [weights_apply]
    rw [hs]
  simp only [hw]
  rfl

theorem slots_apply (a b c d : Vec Ideal S1x128 .f32) (t : Fin 4) (j : Fin 128) :
    slots a b c d (ix2 (t.castAdd 4) j) = (match t with | 0 => a (ix2 0 j) | 1 => b (ix2 0 j) | 2 => c (ix2 0 j) | 3 => d (ix2 0 j)) := by
  match t with
  | 0 => show slots a b c d (ix2 0 j) = _; pointwise [slots]
  | 1 => show slots a b c d (ix2 1 j) = _; pointwise [slots]
  | 2 => show slots a b c d (ix2 2 j) = _; pointwise [slots]
  | 3 => show slots a b c d (ix2 3 j) = _; pointwise [slots]

/-- The four slots of two flags, in the order of the table's rows. -/
def slotVec (ps pd po : Vec Ideal S1x128 .f32) (ro : Vec Ideal S1x1x128 .f32) (k : Fin 4) : Vec Ideal S8x128 .f32 := match k with
  | 0 => slots (readout ro) empty empty po
  | 1 => slots (readout ro) ps empty empty
  | 2 => slots (readout ro) empty pd empty
  | 3 => slots (readout ro) ps pd empty

theorem table_apply (A : TableArgs Ideal) (k : Fin 4) (j : Fin 128) :
    A.table (ix2 (k.castAdd 4) j) = attend A.wq A.bq A.wk A.bk A.wv A.bv A.wo A.bo (slotVec A.ps A.pd A.po A.ro k) (ix2 0 j) := by
  unfold TableArgs.table tableOf
  rw [slots_apply]
  match k with
  | 0 => rfl
  | 1 => rfl
  | 2 => rfl
  | 3 => rfl

theorem readout_apply (ro : Vec Ideal S1x1x128 .f32) (j : Fin 128) : readout ro (ix2 0 j) = ro (ix3 0 0 j) := by
  pointwise [readout]

theorem empty_apply (j : Fin 128) : (empty (F := Ideal)) (ix2 0 j) = negOne := rfl

/-- The table's row number of two flags, among the first four. -/
theorem rowNo_lt (s d : Prop) : ∃ k : Fin 4, rowNo s d = k.castAdd 4
    ∧ ∀ (ps pd po : Vec Ideal S1x128 .f32) (ro : Vec Ideal S1x1x128 .f32) (t : Fin 4) (j : Fin 128),
      slotVec ps pd po ro k (ix2 (t.castAdd 4) j)
        = slotsOf (fun j => ro (ix3 0 0 j)) (fun j => ps (ix2 0 j)) (fun j => pd (ix2 0 j)) (fun j => po (ix2 0 j)) s d t j := by
  by_cases hs : s <;> by_cases hd : d
  · refine ⟨3, by simp only [rowNo, hs, hd, if_true]; rfl, fun ps pd po ro t j => ?_⟩
    unfold slotVec; dsimp only; rw [slots_apply]
    match t with
    | 0 => exact readout_apply ro j
    | 1 => simp [slotsOf, hs]
    | 2 => simp [slotsOf, hd]
    | 3 => simp [slotsOf, hs, empty_apply]
  · refine ⟨1, by simp only [rowNo, hs, hd, if_true, if_false]; rfl, fun ps pd po ro t j => ?_⟩
    unfold slotVec; dsimp only; rw [slots_apply]
    match t with
    | 0 => exact readout_apply ro j
    | 1 => simp [slotsOf, hs]
    | 2 => simp [slotsOf, hd, empty_apply]
    | 3 => simp [slotsOf, hs, empty_apply]
  · refine ⟨2, by simp only [rowNo, hs, hd, if_true, if_false]; rfl, fun ps pd po ro t j => ?_⟩
    unfold slotVec; dsimp only; rw [slots_apply]
    match t with
    | 0 => exact readout_apply ro j
    | 1 => simp [slotsOf, hs, empty_apply]
    | 2 => simp [slotsOf, hd]
    | 3 => simp [slotsOf, hd, empty_apply]
  · refine ⟨0, by simp only [rowNo, hs, hd, if_false]; rfl, fun ps pd po ro t j => ?_⟩
    unfold slotVec; dsimp only; rw [slots_apply]
    match t with
    | 0 => exact readout_apply ro j
    | 1 => simp [slotsOf, hs, empty_apply]
    | 2 => simp [slotsOf, hd, empty_apply]
    | 3 => simp [slotsOf, hs, hd]

/-- What the arguments must be for the attention to be the same with and without padding. -/
structure Sound (A : TableArgs Ideal) : Prop where
  ps : ∀ k, IsReal (A.ps k)
  pd : ∀ k, IsReal (A.pd k)
  po : ∀ k, IsReal (A.po k)
  ro : ∀ k, IsReal (A.ro k)
  wq : ∀ k, IsReal (A.wq k)
  bq : ∀ k, IsReal (A.bq k)
  wk : ∀ k, IsReal (A.wk k)
  bk : ∀ k, IsReal (A.bk k)
  attended : (∃ k, A.ro (ix3 0 0 k) ≠ negOne) ∨ ((∃ k, A.ps (ix2 0 k) ≠ negOne) ∧ (∃ k, A.pd (ix2 0 k) ≠ negOne) ∧ ∃ k, A.po (ix2 0 k) ≠ negOne)

/-- The slots of a node, out of the arguments. -/
def TableArgs.slots (A : TableArgs Ideal) (s d : Prop) : Fin 4 → Fin 128 → EReal :=
  slotsOf (fun j => A.ro (ix3 0 0 j)) (fun j => A.ps (ix2 0 j)) (fun j => A.pd (ix2 0 j)) (fun j => A.po (ix2 0 j)) s d

def TableArgs.weights (A : TableArgs Ideal) : Weights := weightsOf A.wq A.bq A.wk A.bk A.wv A.bv A.wo A.bo

/-- The table's row of two flags is what the readout reads out of their four slots. -/
theorem table_row (A : TableArgs Ideal) (hA : Sound A) (s d : Prop) (j : Fin 128) :
    A.table (ix2 (rowNo s d) j) = attn A.weights (Empty (A.slots s d)) (A.slots s d) 0 j := by
  obtain ⟨k, hk, hslot⟩ := rowNo_lt s d
  rw [hk, table_apply, attend_apply]
  have hrow : ∀ (t : Fin 4) c, slotVec A.ps A.pd A.po A.ro k (ix2 (t.castAdd 4) c) = A.slots s d t c := fun t c => hslot _ _ _ _ t c
  obtain ⟨u₁, h₁⟩ := slotsOf_attended hA.attended s d
  refine congrFun (attn_pad _ _ _ (Empty (A.slots s d)) (A.slots s d) (fun t => ?_) (fun t => ?_) hrow
    (slotsOf_real (fun _ => hA.ro _) (fun _ => hA.ps _) (fun _ => hA.pd _) (fun _ => hA.po _) s d)
    (fun _ _ => hA.wq _) (fun _ => hA.bq _) (fun _ _ => hA.wk _) (fun _ => hA.bk _) u₁ h₁ 0) j
  · constructor
    · rintro (h | h)
      · intro c; rw [← hrow]; exact h c
      · have := t.isLt
        simp at h
        omega
    · intro h
      refine .inl fun c => ?_
      dsimp only
      rw [hrow]; exact h c
  · refine .inr ?_
    simp

end Cert.Proof.K

end
-- ==== Proof.VRef.lean ====
/-
  The reference at the extended reals, place by place: the dot products along the edges gathered and scattered, the flags, the
  slots, and one attention row of each node.
-/
module

public import proofs.«01_k».proof.Proof.Gen.ReferenceIdeal.Run
public import proofs.«01_k».proof.Proof.VMath
public import Idealize.ShloMosaic.Lib.Pointwise
public import Idealize.ShloMosaic.Lib.Routing.Ops
public import Idealize.ShloMosaic.Lib.Routing.OpsPair
public import Idealize.ShloMosaic.Lib.ReduceAll

@[expose] public section

noncomputable section

namespace Cert.Proof.K.R

open Cert.ReferenceIdeal Cert.ReferenceIdeal.Gen Cert.ReferenceIdeal.Value
open Idealize.ShloMosaic Idealize.ShloMosaic.TcCoe Idealize.SL.Sem Idealize.ShloMosaic.StableHlo
open Idealize.ShloMosaic.Routing

/-! ## Gather and scatter -/

/-- A list of node words, wrapped and stood up as indices. -/
def wordIdx (w : IVec S320000 32) : IVec S320000x1 32 :=
  broadcastInDim S320000x1 ![0] bcast_S320000_S320000x1_0
    (select (cmpi .slt w (broadcastInDim S320000 ![] bcast_S_S320000 (constantI S_ 32 0#32)))
      (addi w (broadcastInDim S320000 ![] bcast_S_S320000 (constantI S_ 32 10000#32))) w)

theorem wordIdx_apply (w : IVec S320000 32) (e : Fin 320000) (h : (w (ix1 e)).toNat < 10000) : wordIdx w (ix2 e 0) = w (ix1 e) := by
  pointwise [wordIdx]
  exact wrap_of_lt _ _ (by omega)

/-- The rows the words name. -/
def rowsAt (N : FVec Ideal S10000x128 .f32) (w : IVec S320000 32) : FVec Ideal S320000x128 .f32 :=
  Host.gather gather_S10000x128_S320000x1_S320000x128_1_0_n_n_0_1_1128 N (wordIdx w)

theorem rowsAt_apply (N : FVec Ideal S10000x128 .f32) (w : IVec S320000 32) (e : Fin 320000) (q : Fin 128) (h : (w (ix1 e)).toNat < 10000) :
    rowsAt N w (ix2 e q) = N (ix2 ⟨(w (ix1 e)).toNat, h⟩ q) := by
  refine gather_row (nb := 10000) (B := 128) (n := 320000) _ rfl rfl rfl rfl rfl N (wordIdx w) e q ⟨(w (ix1 e)).toNat, h⟩ ?_ (by decide)
  refine (wordIdx_apply w e h).trans ?_
  exact (BitVec.ofNat_toNat 32 (w (ix1 e)) |>.trans (BitVec.setWidth_eq _)).symm

/-- The values added up by the nodes the words name. -/
def addAt (w : IVec S320000 32) (v : FVec Ideal S320000 .f32) : FVec Ideal S10000 .f32 :=
  Host.scatterAdd scatter_S10000_S320000x1_S320000_n_0_0_1 (broadcastInDim S10000 ![] bcast_S_S10000 (constant S_ .f32 0x00000000#32)) (wordIdx w) v

theorem lands (idx : IVec S320000x1 32) (e : Fin 320000) (n : Fin 10000) :
    scatter_S10000_S320000x1_S320000_n_0_0_1.resultIdx? (ix1 e) idx = some (ix1 n) ↔ (idx (ix2 e 0)).toInt = (n.val : Int) := by
  refine (resultIdx?_ix1 (N := 10000) _ (ix1 e) idx n).trans ?_
  have hw : scatter_S10000_S320000x1_S320000_n_0_0_1.window (ix1 e) 0 = 0 := by
    unfold ScatterDims.window
    exact dif_neg (by decide)
  have hs : scatter_S10000_S320000x1_S320000_n_0_0_1.start (ix1 e) idx 0 = (idx (ix2 e 0)).toInt := by
    unfold ScatterDims.start
    rw [dif_pos (by decide)]
    refine congrArg (fun i => (idx i).toInt) (funext fun b => Fin.ext ?_)
    match b with
    | ⟨0, _⟩ =>
      exact (congrArg Fin.val (dif_neg (show ¬ (0 : ℕ) = scatter_S10000_S320000x1_S320000_n_0_0_1.indexVectorDim from Nat.zero_ne_one))).trans rfl
    | ⟨1, _⟩ =>
      exact (congrArg Fin.val (dif_pos (show (1 : ℕ) = scatter_S10000_S320000x1_S320000_n_0_0_1.indexVectorDim from rfl))).trans rfl
  rw [hw, hs]
  simp

/-- The places of a list, as numbers. -/
def listEquiv : S320000.Idx ≃ Fin 320000 where
  toFun i := i 0
  invFun e := ix1 e
  left_inv i := by funext a; match a with | ⟨0, _⟩ => rfl
  right_inv _ := rfl

open Classical in
theorem addAt_apply (w : IVec S320000 32) (v : FVec Ideal S320000 .f32) (hw : ∀ e, (w (ix1 e)).toNat < 10000) (n : Fin 10000) :
    addAt w v (ix1 n) = ∑ e : Fin 320000, if (w (ix1 e)).toNat = n.val then (v (ix1 e) : EReal) else 0 := by
  have hz : (broadcastInDim S10000 ![] bcast_S_S10000 (constant (F := Ideal) S_ .f32 0x00000000#32)) (ix1 n) = (0 : EReal) := Ideal.ofBits_zero_f32
  unfold addAt
  show Ideal.hostScatterAdd _ _ _ _ _ = _
  unfold Ideal.hostScatterAdd
  rw [hz, zero_add, Finset.sum_filter]
  refine Fintype.sum_equiv listEquiv _ _ fun i => ?_
  obtain ⟨e, rfl⟩ : ∃ e, i = ix1 e := ⟨i 0, (listEquiv.left_inv i).symm⟩
  have hi : scatter_S10000_S320000x1_S320000_n_0_0_1.resultIdx? (ix1 e) (wordIdx w) = some (ix1 n) ↔ (w (ix1 e)).toNat = n.val := by
    rw [lands, wordIdx_apply w e (hw e), BitVec.toInt_eq_toNat_of_lt (by have := hw e; omega)]
    omega
  by_cases h : (w (ix1 e)).toNat = n.val
  · rw [if_pos (hi.2 h)]; exact (if_pos h).symm
  · rw [if_neg (fun q => h (hi.1 q))]; exact (if_neg h).symm

/-! ## The similarities -/

/-- The dot products along the edges. -/
def dots (N : FVec Ideal S10000x128 .f32) (r c : IVec S320000 32) : FVec Ideal S320000 .f32 :=
  Host.reduceAdd (mulf (rowsAt N r) (rowsAt N c)) (constant S_ .f32 0x00000000#32) reducesTo_S320000x128_S320000_d1 h_S_

theorem dots_apply (N : FVec Ideal S10000x128 .f32) (r c : IVec S320000 32) (e : Fin 320000) :
    dots N r c (ix1 e) = ∑ q, rowsAt N r (ix2 e q) * rowsAt N c (ix2 e q) := by
  pointwise [dots]

/-! ## The attention -/

theorem bits_bot : Ideal.ofBits .f32 0xFF800000#32 = ⊥ := by simp [Ideal.ofBits, Ideal.ieee]

/-- A conjunction of bits is set exactly if each is. -/
theorem fold_andi {ι : Type} (S : Finset ι) (f : ι → BitVec 1) : S.fold IntOp.andi 1#1 f = 1#1 ↔ ∀ i, i ∈ S → f i = 1#1 := by
  classical
  have ha : ∀ a b : BitVec 1, IntOp.andi a b = 1#1 ↔ a = 1#1 ∧ b = 1#1 := by decide
  induction S using Finset.induction_on with
  | empty => simp
  | insert a S h ih => rw [Finset.fold_insert h, ha]; simp [ih]

def projAll (r : FVec Ideal S10000x4x128 .f32) (w : FVec Ideal S128x128 .f32) (b : FVec Ideal S128 .f32) : FVec Ideal S10000x4x128 .f32 :=
  addf (Host.dotGeneral dot_S10000x4x128_S128x128_S10000x4x128_2_0_01_1_n_n none r (transpose S128x128 [1, 0] w transposes_S128x128_S128x128_1_0))
    (broadcastInDim S10000x4x128 ![0, 1, 2] bcast_S1x1x128_S10000x4x128_0_1_2 (broadcastInDim S1x1x128 ![2] bcast_S128_S1x1x128_2 b))

theorem projAll_apply (r : FVec Ideal S10000x4x128 .f32) (w : FVec Ideal S128x128 .f32) (b : FVec Ideal S128 .f32) (n : Fin 10000) (t : Fin 4) (j : Fin 128) :
    projAll r w b (ix3 n t j) = proj (fun k => r (ix3 n t k)) (fun i k => w (ix2 i k)) (fun i => b (ix1 i)) j := by
  pointwise [projAll]
  rfl

def emptyAll (r : FVec Ideal S10000x4x128 .f32) : IVec S10000x4 1 :=
  Host.reduce IntOp.andi (cmpf .oeq r (broadcastInDim S10000x4x128 ![] bcast_S_S10000x4x128 (constant S_ .f32 0xBF800000#32)))
    (constantI S_ 1 1#1) reducesTo_S10000x4x128_S10000x4_d2 h_S_

theorem emptyAll_apply (r : FVec Ideal S10000x4x128 .f32) (n : Fin 10000) (t : Fin 4) :
    emptyAll r (ix2 n t) = 1#1 ↔ Empty (fun u k => r (ix3 n u k)) t := by
  pointwise [emptyAll]
  refine (fold_andi _ _).trans (forall_congr' fun k => ?_)
  simp only [Finset.mem_univ, true_imp_iff]
  exact ofBool_eq_one

def scoreAll (p : IVec S10000x4 1) (q k : FVec Ideal S10000x4x128 .f32) : FVec Ideal S10000x4x4 .f32 :=
  select (broadcastInDim S10000x4x4 ![0, 1, 2] bcast_S10000x1x4_S10000x4x4_0_1_2 (broadcastInDim S10000x1x4 ![0, 2] bcast_S10000x4_S10000x1x4_0_2 p))
    (broadcastInDim S10000x4x4 ![] bcast_S_S10000x4x4 (constant S_ .f32 0xFF800000#32))
    (Host.divf (Host.dotGeneral dot_S10000x4x128_S10000x128x4_S10000x4x4_2_1_1_2_0_0 none q (transpose S10000x128x4 [0, 2, 1] k transposes_S10000x4x128_S10000x128x4_0_2_1))
      (broadcastInDim S10000x4x4 ![] bcast_S_S10000x4x4 (Host.sqrt (constant S_ .f32 0x43000000#32))))

theorem scoreAll_apply (p : IVec S10000x4 1) (q k : FVec Ideal S10000x4x128 .f32) (n : Fin 10000) (t u : Fin 4) :
    scoreAll p q k (ix3 n t u) = score (fun u => p (ix2 n u) = 1#1) scale (fun c => q (ix3 n t c)) (fun u c => k (ix3 n u c)) u := by
  pointwise [scoreAll]
  unfold score
  show (if p (ix2 n u) = 1#1 then _ else _) = _
  by_cases h : p (ix2 n u) = 1#1
  · rw [if_pos h, if_pos h, bits_bot]
  · rw [if_neg h, if_neg h]; rfl

def expAll (s : FVec Ideal S10000x4x4 .f32) : FVec Ideal S10000x4x4 .f32 :=
  Host.exp (subf s (broadcastInDim S10000x4x4 ![0, 1, 2] bcast_S10000x4x1_S10000x4x4_0_1_2 (broadcastInDim S10000x4x1 ![0, 1] bcast_S10000x4_S10000x4x1_0_1
    (maximumf (broadcastInDim S10000x4 ![] bcast_S_S10000x4 (constant S_ .f32 0xFF800000#32))
      (Host.reduce FloatOps.maximumf s (constant S_ .f32 0xFF800000#32) reducesTo_S10000x4x4_S10000x4_d2 h_S_)))))

theorem expAll_apply (s : FVec Ideal S10000x4x4 .f32) (n : Fin 10000) (t u : Fin 4) :
    expAll s (ix3 n t u) = expw (fun u => s (ix3 n t u)) u := by
  pointwise [expAll]
  rw [bits_bot, max_eq_right bot_le]
  rfl

def mixAll (e : FVec Ideal S10000x4x4 .f32) (v : FVec Ideal S10000x4x128 .f32) : FVec Ideal S10000x4x128 .f32 :=
  Host.dotGeneral dot_S10000x4x4_S10000x4x128_S10000x4x128_2_1_1_2_0_0 none
    (Host.divf e (broadcastInDim S10000x4x4 ![0, 1, 2] bcast_S10000x4x1_S10000x4x4_0_1_2 (broadcastInDim S10000x4x1 ![0, 1] bcast_S10000x4_S10000x4x1_0_1
      (Host.reduceAdd e (constant S_ .f32 0x00000000#32) reducesTo_S10000x4x4_S10000x4_d2 h_S_)))) v

theorem mixAll_apply (e : FVec Ideal S10000x4x4 .f32) (v : FVec Ideal S10000x4x128 .f32) (n : Fin 10000) (t : Fin 4) (j : Fin 128) :
    mixAll e v (ix3 n t j) = mix (fun u => e (ix3 n t u)) (fun u c => v (ix3 n u c)) j := by
  pointwise [mixAll]
  rfl

/-! ## The nodes' slots -/

variable (V : Valuation τ sig (Elt Ideal))

theorem row_word (e : Fin 320000) : (res_main_v1 V : IVec S320000 32) (ix1 e) = (V (Proc.devRef .tc main_arg1) : IVec S2x320000 32) (ix2 0 e) := by
  pointwise [res_main_v1]

theorem col_word (e : Fin 320000) : (res_main_v3 V : IVec S320000 32) (ix1 e) = (V (Proc.devRef .tc main_arg1) : IVec S2x320000 32) (ix2 1 e) := by
  pointwise [res_main_v3]

theorem unit_row (n : Fin 10000) (j : Fin 128) : (res_main_v9 V : FVec Ideal S10000x128 .f32) (ix2 n j)
    = unit (fun q => (V (Proc.devRef .tc main_arg0) : FVec Ideal S10000x128 .f32) (ix2 n q)) j := by
  pointwise [res_main_v9]
  rfl

/-- The sums of the similarities and the degrees, of every node. -/
def simSum : FVec Ideal S10000 .f32 := addAt (res_main_v3 V) (dots (res_main_v9 V) (res_main_v1 V) (res_main_v3 V))
def degSum : FVec Ideal S10000 .f32 :=
  addAt (res_main_v3 V) (broadcastInDim S320000 ![] bcast_S_S320000 (constant S_ .f32 0x3F800000#32))

/-- A quotient of sums is at most a number. -/
def quotFlag (a b : FVec Ideal S10000 .f32) (w : BitVec 32) : IVec S10000 1 :=
  cmpf .ole (Host.divf a b) (broadcastInDim S10000 ![] bcast_S_S10000 (constant S_ .f32 w))

theorem quotFlag_apply (a b : FVec Ideal S10000 .f32) (w : BitVec 32) (n : Fin 10000) :
    quotFlag a b w (ix1 n) = BitVec.ofBool (decide (Ideal.div (a (ix1 n)) (b (ix1 n)) ≤ Ideal.ofBits .f32 w)) := by
  pointwise [quotFlag]

/-- A sum is at most a number. -/
def sumFlag (b : FVec Ideal S10000 .f32) (w : BitVec 32) : IVec S10000 1 :=
  cmpf .ole b (broadcastInDim S10000 ![] bcast_S_S10000 (constant S_ .f32 w))

theorem sumFlag_apply (b : FVec Ideal S10000 .f32) (w : BitVec 32) (n : Fin 10000) :
    sumFlag b w (ix1 n) = BitVec.ofBool (decide (b (ix1 n) ≤ Ideal.ofBits .f32 w)) := by
  pointwise [sumFlag]

open Classical in
/-- A choice by a bit is the choice by what the bit says. -/
theorem select_if {q : Prop} {b : BitVec 1} (h : b = 1#1 ↔ q) (x y : EReal) : Scalar.select b x y = if q then x else y := by
  show (if b = 1#1 then x else y) = _
  by_cases hq : q
  · rw [if_pos hq, if_pos (h.2 hq)]
  · rw [if_neg hq, if_neg fun e => hq (h.1 e)]

/-- The similarity flag is set. -/
def isSim (n : Fin 10000) : Prop := Ideal.div (simSum V (ix1 n)) (degSum V (ix1 n)) ≤ Ideal.ofBits .f32 0x3E4CCCCD#32

/-- The degree flag is set. -/
def isDeg (n : Fin 10000) : Prop := degSum V (ix1 n) ≤ Ideal.ofBits .f32 0x40400000#32

theorem simFlag (n : Fin 10000) : (res_main_v45 V : IVec S10000 1) (ix1 n) = 1#1 ↔ isSim V n := by
  have h : (res_main_v45 V : IVec S10000 1) = quotFlag (simSum V) (degSum V) 0x3E4CCCCD#32 := rfl
  rw [h, quotFlag_apply]
  exact ofBool_eq_one

theorem degFlag (n : Fin 10000) : (res_main_v47 V : IVec S10000 1) (ix1 n) = 1#1 ↔ isDeg V n := by
  have h : (res_main_v47 V : IVec S10000 1) = sumFlag (degSum V) 0x40400000#32 := rfl
  rw [h, sumFlag_apply]
  exact ofBool_eq_one

abbrev slots : FVec Ideal S10000x4x128 .f32 := res_main_v62 V

theorem slots_apply (n : Fin 10000) (t : Fin 4) (j : Fin 128) : slots V (ix3 n t j)
    = slotsOf (fun k => (V (Proc.devRef .tc main_arg5) : FVec Ideal S1x1x128 .f32) (ix3 0 0 k))
        (fun k => (V (Proc.devRef .tc main_arg2) : FVec Ideal S1x128 .f32) (ix2 0 k))
        (fun k => (V (Proc.devRef .tc main_arg3) : FVec Ideal S1x128 .f32) (ix2 0 k))
        (fun k => (V (Proc.devRef .tc main_arg4) : FVec Ideal S1x128 .f32) (ix2 0 k)) (isSim V n) (isDeg V n) t j := by
  match t with
  | 0 =>
    show slots V (ix3 n 0 j) = _
    pointwise [slots, res_main_v62, res_main_v50]
    rfl
  | 1 =>
    show slots V (ix3 n 1 j) = _
    pointwise [slots, res_main_v62, res_main_v50]
    unfold slotsOf
    dsimp only
    refine (select_if (simFlag V n) _ _).trans ?_
    by_cases h : isSim V n
    · rw [if_pos h, if_pos h]
    · rw [if_neg h, if_neg h]; rfl
  | 2 =>
    show slots V (ix3 n 2 j) = _
    pointwise [slots, res_main_v62, res_main_v50]
    unfold slotsOf
    dsimp only
    refine (select_if (degFlag V n) _ _).trans ?_
    by_cases h : isDeg V n
    · rw [if_pos h, if_pos h]
    · rw [if_neg h, if_neg h]; rfl
  | 3 =>
    show slots V (ix3 n 3 j) = _
    pointwise [slots, res_main_v62, res_main_v50]
    unfold slotsOf
    dsimp only
    have hb : ∀ a b : BitVec 1, ~~~IntOp.ori a b = 1#1 ↔ ¬ (a = 1#1 ∨ b = 1#1) := by decide
    have hf := (hb _ _).trans (not_congr (or_congr (simFlag V n) (degFlag V n)))
    refine (select_if (hf) _ _).trans ?_
    by_cases h : ¬ (isSim V n ∨ isDeg V n)
    · rw [if_pos h, if_pos h]
    · rw [if_neg h, if_neg h]; rfl

/-! ## The result -/

/-- The weights as functions of two lanes. -/
def weightsAt : Weights where
  wq i k := (V (Proc.devRef .tc main_arg6) : FVec Ideal S128x128 .f32) (ix2 i k)
  bq i := (V (Proc.devRef .tc main_arg7) : FVec Ideal S128 .f32) (ix1 i)
  wk i k := (V (Proc.devRef .tc main_arg8) : FVec Ideal S128x128 .f32) (ix2 i k)
  bk i := (V (Proc.devRef .tc main_arg9) : FVec Ideal S128 .f32) (ix1 i)
  wv i k := (V (Proc.devRef .tc main_arg10) : FVec Ideal S128x128 .f32) (ix2 i k)
  bv i := (V (Proc.devRef .tc main_arg11) : FVec Ideal S128 .f32) (ix1 i)
  wo i k := (V (Proc.devRef .tc main_arg12) : FVec Ideal S128x128 .f32) (ix2 i k)
  bo i := (V (Proc.devRef .tc main_arg13) : FVec Ideal S128 .f32) (ix1 i)

/-- The scores of every node. -/
abbrev scoresOf : FVec Ideal S10000x4x4 .f32 :=
  scoreAll (emptyAll (slots V)) (projAll (slots V) (V (Proc.devRef .tc main_arg6)) (V (Proc.devRef .tc main_arg7)))
    (projAll (slots V) (V (Proc.devRef .tc main_arg8)) (V (Proc.devRef .tc main_arg9)))

/-- The attention's result of every slot of every node. -/
abbrev attendOf : FVec Ideal S10000x4x128 .f32 :=
  projAll (mixAll (expAll (scoresOf V)) (projAll (slots V) (V (Proc.devRef .tc main_arg10)) (V (Proc.devRef .tc main_arg11))))
    (V (Proc.devRef .tc main_arg12)) (V (Proc.devRef .tc main_arg13))

/-- What the reference returns. -/
def result : FVec Ideal S10000x128 .f32 :=
  addf (V (Proc.devRef .tc main_arg0)) (shapeCast _ (extractStridedSlice S10000x1x128 ![0, 0, 0] (attendOf V) slices_S10000x4x128_S10000x1x128_0_0_0)
    shapeCasts_S10000x1x128_S10000x128)

theorem result_eq : (val3 V (Proc.devRef .tc main_v107) : FVec Ideal S10000x128 .f32) = result V := val3_main_v107 V

theorem attendOf_apply (n : Fin 10000) (t : Fin 4) (j : Fin 128) :
    attendOf V (ix3 n t j) = attn (weightsAt V) (Empty fun u k => slots V (ix3 n u k)) (fun u k => slots V (ix3 n u k)) t j := by
  unfold attendOf
  rw [projAll_apply]
  unfold attn
  refine congrArg (fun f => proj f _ _ j) (funext fun c => ?_)
  rw [mixAll_apply]
  have hs : (fun u => scoresOf V (ix3 n t u)) = score (Empty fun u k => slots V (ix3 n u k)) scale
      (proj (fun k => slots V (ix3 n t k)) (weightsAt V).wq (weightsAt V).bq)
      fun u => proj (fun k => slots V (ix3 n u k)) (weightsAt V).wk (weightsAt V).bk := by
    funext u
    unfold scoresOf
    rw [scoreAll_apply]
    unfold score
    by_cases h : emptyAll (slots V) (ix2 n u) = 1#1
    · rw [if_pos h, if_pos ((emptyAll_apply _ n u).1 h)]
    · rw [if_neg h, if_neg fun e => h ((emptyAll_apply _ n u).2 e)]
      simp only [projAll_apply]
      rfl
  have he : (fun u => expAll (scoresOf V) (ix3 n t u)) = expw (fun u => scoresOf V (ix3 n t u)) := funext fun u => expAll_apply _ n t u
  rw [he, hs]
  refine congrArg (fun v => mix _ v c) (funext fun u => funext fun c => ?_)
  rw [projAll_apply]
  rfl

/-- The rows. -/
def rowsOfX : FVec Ideal S10000x128 .f32 := V (Proc.devRef .tc main_arg0)

theorem result_apply (n : Fin 10000) (j : Fin 128) : result V (ix2 n j)
    = rowsOfX V (ix2 n j) + attn (weightsAt V) (Empty fun u k => slots V (ix3 n u k)) (fun u k => slots V (ix3 n u k)) 0 j := by
  rw [← attendOf_apply]
  generalize hA : attendOf V = A
  unfold result
  rw [hA]
  pointwise
  rfl

end Cert.Proof.K.R

end
-- ==== Proof.VSame.lean ====
/-
  The kernel's result and the reference's are one function of the arguments: the partial sums of the SparseCores add up to the
  reference's two sums at every node, so both read the same slots, and both read them out with the same weights.
-/
module

public import proofs.«01_k».proof.Proof.VSparse
public import proofs.«01_k».proof.Proof.VOut
public import proofs.«01_k».proof.Proof.VTable
public import proofs.«01_k».proof.Proof.VRef
public import proofs.«01_k».proof.Proof.Calls

@[expose] public section

noncomputable section

namespace Cert.Proof.K

open Idealize.ShloMosaic
open Cert.KernelIdeal (S2x320000 S640000 S10000x128)

/-- The flat edge list holds the first row's words and then the second row's. -/
theorem flatEdges_apply (E : Vec Ideal S2x320000 .i32) (a : Fin 2) (e : Fin 320000) (k : ℕ) (h : k < 640000) (hk : k = a.val * 320000 + e.val) :
    flatEdges (F := Ideal) E (flatAt k h) = E (ix2 a e) := by
  unfold flatEdges shapeCast
  refine congrArg E (Shape.reshapeEquiv_eq_of_rowMajor _ ?_)
  refine (Shape.rowMajor_val_two _).trans (Eq.trans ?_ (Shape.rowMajor_val_one _).symm)
  exact hk.symm

theorem rowWord_flat (E : Vec Ideal S2x320000 .i32) (e : Fin 320000) : rowWord (flatEdges (F := Ideal) E) e = E (ix2 0 e) :=
  flatEdges_apply E 0 e _ _ (by rw [Fin.val_zero, Nat.zero_mul, Nat.zero_add])

theorem colWord_flat (E : Vec Ideal S2x320000 .i32) (e : Fin 320000) : colWordOf (flatEdges (F := Ideal) E) e = E (ix2 1 e) :=
  flatEdges_apply E 1 e _ _ (by rw [Fin.val_one, Nat.one_mul])

/-- A row of unit length, by the word that names it. -/
theorem rowAt_norm (X : Vec Ideal S10000x128 .f32) (w : BitVec 32) (hw : w.toNat < 10000) (q : Fin 128) :
    rowAt (normAll X) w q = unit (fun k => X (ix2 (⟨w.toNat, hw⟩ : Fin 10000) k)) q := by
  refine Eq.trans ?_ (normAll_apply X ⟨w.toNat, hw⟩ q)
  unfold rowAt
  refine congrArg (normAll X) (funext fun a => Fin.ext ?_)
  match a with
  | ⟨0, _⟩ => exact Nat.mod_eq_of_lt hw
  | ⟨1, _⟩ => rfl

section
variable (V : Valuation Cert.ReferenceIdeal.τ Cert.ReferenceIdeal.sig (Elt Ideal)) (X : Vec Ideal S10000x128 .f32)
  (E : Vec Ideal S2x320000 .i32) (hX : R.rowsOfX V = X)
  (h1 : (V (Proc.devRef .tc Cert.ReferenceIdeal.main_arg1) : IVec Cert.ReferenceIdeal.S2x320000 32) = E)
  (hW : ∀ i, (E i : BitVec 32).toNat < 10000)
include h1 hW

theorem col_lt (e : Fin 320000) : ((Cert.ReferenceIdeal.Value.res_main_v3 V : IVec Cert.ReferenceIdeal.S320000 32) (ix1 e)).toNat < 10000 := by
  rw [R.col_word, h1]; exact hW _

theorem row_lt (e : Fin 320000) : ((Cert.ReferenceIdeal.Value.res_main_v1 V : IVec Cert.ReferenceIdeal.S320000 32) (ix1 e)).toNat < 10000 := by
  rw [R.row_word, h1]; exact hW _

theorem degSum_same (n : Fin 10000) : R.degSum V (ix1 n) = edgeSum (flatEdges (F := Ideal) E) (fun _ => 1) n.val := by
  unfold R.degSum edgeSum
  rw [R.addAt_apply _ _ (col_lt V E h1 hW)]
  refine Finset.sum_congr rfl fun e _ => ?_
  rw [R.col_word, h1, colWord_flat]
  refine ite_congr rfl (fun _ => ?_) fun _ => rfl
  exact Ideal.ofBits_one_f32

include hX in
theorem dots_same (e : Fin 320000) :
    R.dots (Cert.ReferenceIdeal.Value.res_main_v9 V) (Cert.ReferenceIdeal.Value.res_main_v1 V) (Cert.ReferenceIdeal.Value.res_main_v3 V) (ix1 e)
      = edgeDot (normAll X) (flatEdges (F := Ideal) E) e := by
  have key : ∀ (w : IVec Cert.ReferenceIdeal.S320000 32) (v : BitVec 32) (q : Fin 128), w (ix1 e) = v → v.toNat < 10000 →
      R.rowsAt (Cert.ReferenceIdeal.Value.res_main_v9 V) w (ix2 e q) = rowAt (normAll X) v q := by
    rintro w v q rfl hv
    rw [R.rowsAt_apply _ _ _ _ hv, R.unit_row, rowAt_norm X _ hv, ← hX]
    rfl
  rw [R.dots_apply]
  unfold edgeDot
  refine Finset.sum_congr rfl fun q _ => ?_
  rw [rowWord_flat, colWord_flat, key _ (E (ix2 0 e)) q (by rw [R.row_word, h1]) (hW _), key _ (E (ix2 1 e)) q (by rw [R.col_word, h1]) (hW _)]

include hX in
theorem simSum_same (n : Fin 10000) :
    R.simSum V (ix1 n) = edgeSum (flatEdges (F := Ideal) E) (edgeDot (normAll X) (flatEdges (F := Ideal) E)) n.val := by
  unfold R.simSum edgeSum
  rw [R.addAt_apply _ _ (col_lt V E h1 hW)]
  refine Finset.sum_congr rfl fun e _ => ?_
  rw [R.col_word, h1, colWord_flat]
  exact ite_congr rfl (fun _ => dots_same V X E hX h1 hW e) fun _ => rfl

end

section
variable (V : Valuation Cert.ReferenceIdeal.τ Cert.ReferenceIdeal.sig (Elt Ideal)) (A : TableArgs Ideal)

/-- The reference's table arguments are the kernel's. -/
structure SameArgs : Prop where
  ps : (V (Proc.devRef .tc Cert.ReferenceIdeal.main_arg2) : FVec Ideal Cert.ReferenceIdeal.S1x128 .f32) = A.ps
  pd : (V (Proc.devRef .tc Cert.ReferenceIdeal.main_arg3) : FVec Ideal Cert.ReferenceIdeal.S1x128 .f32) = A.pd
  po : (V (Proc.devRef .tc Cert.ReferenceIdeal.main_arg4) : FVec Ideal Cert.ReferenceIdeal.S1x128 .f32) = A.po
  ro : (V (Proc.devRef .tc Cert.ReferenceIdeal.main_arg5) : FVec Ideal Cert.ReferenceIdeal.S1x1x128 .f32) = A.ro
  wq : (V (Proc.devRef .tc Cert.ReferenceIdeal.main_arg6) : FVec Ideal Cert.ReferenceIdeal.S128x128 .f32) = A.wq
  bq : (V (Proc.devRef .tc Cert.ReferenceIdeal.main_arg7) : FVec Ideal Cert.ReferenceIdeal.S128 .f32) = A.bq
  wk : (V (Proc.devRef .tc Cert.ReferenceIdeal.main_arg8) : FVec Ideal Cert.ReferenceIdeal.S128x128 .f32) = A.wk
  bk : (V (Proc.devRef .tc Cert.ReferenceIdeal.main_arg9) : FVec Ideal Cert.ReferenceIdeal.S128 .f32) = A.bk
  wv : (V (Proc.devRef .tc Cert.ReferenceIdeal.main_arg10) : FVec Ideal Cert.ReferenceIdeal.S128x128 .f32) = A.wv
  bv : (V (Proc.devRef .tc Cert.ReferenceIdeal.main_arg11) : FVec Ideal Cert.ReferenceIdeal.S128 .f32) = A.bv
  wo : (V (Proc.devRef .tc Cert.ReferenceIdeal.main_arg12) : FVec Ideal Cert.ReferenceIdeal.S128x128 .f32) = A.wo
  bo : (V (Proc.devRef .tc Cert.ReferenceIdeal.main_arg13) : FVec Ideal Cert.ReferenceIdeal.S128 .f32) = A.bo

variable {V A}

theorem SameArgs.weights (h : SameArgs V A) : R.weightsAt V = A.weights := by
  unfold R.weightsAt TableArgs.weights weightsOf
  rw [h.wq, h.bq, h.wk, h.bk, h.wv, h.bv, h.wo, h.bo]

theorem SameArgs.slots (h : SameArgs V A) (n : Fin 10000) : (fun u k => R.slots V (ix3 n u k)) = A.slots (R.isSim V n) (R.isDeg V n) := by
  funext u k
  rw [R.slots_apply, h.ps, h.pd, h.po, h.ro]
  rfl

/-- The kernel's result is the reference's. -/
theorem SameArgs.result (h : SameArgs V A) (hA : Sound A) (X : Vec Ideal S10000x128 .f32) (E : Vec Ideal S2x320000 .i32) (hX : R.rowsOfX V = X)
    (h1 : (V (Proc.devRef .tc Cert.ReferenceIdeal.main_arg1) : IVec Cert.ReferenceIdeal.S2x320000 32) = E)
    (hW : ∀ i, (E i : BitVec 32).toNat < 10000) (hE : EdgesOK (flatEdges (F := Ideal) E)) :
    finOut X (tileOut (normAll X) hE) A.table = R.result V := by
  funext i
  obtain ⟨n, j, rfl⟩ : ∃ (n : Fin 10000) (j : Fin 128), i = ix2 n j := ⟨i 0, i 1, funext fun a => match a with
    | ⟨0, _⟩ => rfl
    | ⟨1, _⟩ => rfl⟩
  refine Eq.trans ?_ (R.result_apply V n j).symm
  rw [h.weights, h.slots, ← table_row A hA, hX]
  unfold finOut R.isSim R.isDeg
  rw [simSum_same V X E hX h1 hW, degSum_same V E h1 hW, ← sum_tileC _ hE, ← sum_tileD (normAll X) hE]
  rfl

end

end Cert.Proof.K

end
-- ==== Proof.VPre.lean ====
/-
  The second precondition at the extended reals: the table is made of finite values, and a slot of every class is attended.
-/
module

public import proofs.«01_k».proof.Proof.Attended
public import proofs.«01_k».proof.Proof.VTable
public import Idealize.ShloMosaic.Lib.Affine

@[expose] public section

noncomputable section

namespace Cert.Proof.K

open Idealize.ShloMosaic

open Cert.Pre_finite_and_attended in
/-- A value of magnitude below infinity is finite. -/
theorem finite_of_reduce {s : Shape} {axes : List (Fin s.rank)} (x : FVec Ideal s .f32) (hb : S_.BroadcastsInDim s ![]) (hr : s.ReducesTo axes S_)
    (hu : 0 < S_.numel) {j : S_.Idx}
    (h : Host.reduce IntOp.andi (cmpf .olt (Host.absf x) (broadcastInDim s ![] hb (constant S_ .f32 0x7F800000#32))) (constantI S_ 1 1#1) hr hu j = 1#1)
    (i : s.Idx) : IsReal (x i) := by
  have e := Host.reduce_andi_all _ _ _ _ _ h i
  have e : max (x i) (-(x i)) < Ideal.ofBits .f32 0x7F800000#32 := ofBool_eq_one.1 e
  rw [ofBits_top, max_lt_iff] at e
  refine isReal_iff.2 ⟨e.1.ne, fun q => ?_⟩
  rw [q] at e
  exact absurd e.2 (by simp)

/-- A disjunction of bits is set only if one of them is. -/
theorem exists_of_foldl {ι : Type} (f : ι → BitVec 1) (l : List ι) (a : BitVec 1) (h : l.foldl (fun r i => IntOp.ori r (f i)) a = 1#1) :
    a = 1#1 ∨ ∃ i, f i = 1#1 := by
  induction l generalizing a with
  | nil => exact .inl h
  | cons i l ih =>
    rcases ih _ h with e | e
    · rcases IntOp.ori_eq_one.1 e with e | e
      · exact .inl e
      · exact .inr ⟨i, e⟩
    · exact .inr e

open Cert.Pre_finite_and_attended in
/-- Some value is not minus one. -/
theorem attended_of_reduce {s : Shape} {axes : List (Fin s.rank)} (x : FVec Ideal s .f32) (hb : S_.BroadcastsInDim s ![]) (hr : s.ReducesTo axes S_)
    (hu : 0 < S_.numel) {j : S_.Idx}
    (h : Host.reduce IntOp.ori (cmpf .une x (broadcastInDim s ![] hb (constant S_ .f32 0xBF800000#32))) (constantI S_ 1 0#1) hr hu j = 1#1) :
    ∃ i, x i ≠ negOne := by
  rw [Host.reduce_eq_foldl] at h
  rcases exists_of_foldl _ _ _ h with e | ⟨i, e⟩
  · exact absurd (show (0#1 : BitVec 1) = 1#1 from e) (by decide)
  · exact ⟨_, ofBool_eq_one.1 e⟩

theorem sound_of_attended [Cert.Pre_finite_and_attended.Facts] {a0 a1 a2 a3 a4 a5 a6 a7 a8 a9 a10 a11 a12 a13}
    (h : Cert.Pre_finite_and_attended.fn (F := Ideal) a0 a1 a2 a3 a4 a5 a6 a7 a8 a9 a10 a11 a12 a13 = fun _ => 1#1)  :
    Sound ⟨a2, a3, a4, a5, a6, a7, a8, a9, a10, a11, a12, a13⟩ := by
  have e := congrFun h (fun a => a.elim0)
  simp only [Cert.Pre_finite_and_attended.fn, Cert.Pre_finite_and_attended.fn_part1, Cert.Pre_finite_and_attended.fn_part2,
    Cert.Pre_finite_and_attended.fn_part3, andi] at e
  obtain ⟨e, ha⟩ := IntOp.andi_eq_one.1 e
  obtain ⟨e, h9⟩ := IntOp.andi_eq_one.1 e
  obtain ⟨e, h8⟩ := IntOp.andi_eq_one.1 e
  obtain ⟨e, h7⟩ := IntOp.andi_eq_one.1 e
  obtain ⟨e, h6⟩ := IntOp.andi_eq_one.1 e
  obtain ⟨e, h5⟩ := IntOp.andi_eq_one.1 e
  obtain ⟨e, h4⟩ := IntOp.andi_eq_one.1 e
  obtain ⟨e, h3⟩ := IntOp.andi_eq_one.1 e
  obtain ⟨-, h2⟩ := IntOp.andi_eq_one.1 e
  have row : ∀ {x : FVec Ideal Cert.Pre_finite_and_attended.S1x128 .f32}, (∃ i, x i ≠ negOne) → ∃ k : Fin 128, x (ix2 0 k) ≠ negOne := by
    rintro x ⟨i, hi⟩
    refine ⟨i 1, fun q => hi (Eq.trans (congrArg x (funext fun a => ?_)) q)⟩
    match a with
    | ⟨0, _⟩ => exact Subsingleton.elim (α := Fin 1) _ _
    | ⟨1, _⟩ => rfl
  refine ⟨finite_of_reduce _ _ _ _ h2, finite_of_reduce _ _ _ _ h3, finite_of_reduce _ _ _ _ h4, finite_of_reduce _ _ _ _ h5,
    finite_of_reduce _ _ _ _ h6, finite_of_reduce _ _ _ _ h7, finite_of_reduce _ _ _ _ h8, finite_of_reduce _ _ _ _ h9, ?_⟩
  rcases IntOp.ori_eq_one.1 ha with e | e
  · obtain ⟨i, hi⟩ := attended_of_reduce _ _ _ _ e
    refine .inl ⟨i 2, fun q => hi (Eq.trans (congrArg a5 (funext fun a => ?_)) q)⟩
    match a with
    | ⟨0, _⟩ => exact Subsingleton.elim (α := Fin 1) _ _
    | ⟨1, _⟩ => exact Subsingleton.elim (α := Fin 1) _ _
    | ⟨2, _⟩ => rfl
  · obtain ⟨e, e4⟩ := IntOp.andi_eq_one.1 e
    obtain ⟨e2, e3⟩ := IntOp.andi_eq_one.1 e
    exact .inr ⟨row (attended_of_reduce _ _ _ _ e2), row (attended_of_reduce _ _ _ _ e3), row (attended_of_reduce _ _ _ _ e4)⟩

end Cert.Proof.K

end
-- ==== Proof.Value.lean ====
/-
  The value claim: from the same arguments, the kernel's ideal program and the reference end with the same result.
-/
module

public import proofs.«01_k».proof.Proof.VSame
public import proofs.«01_k».proof.Proof.VPre
public import proofs.«01_k».proof.Proof.FramesAttended

@[expose] public section

noncomputable section

namespace Cert.Proof.K

open Idealize.ShloMosaic Idealize.ShloMosaic.StableHlo Idealize.SL.Sem

theorem algebraic [Cert.Pre_finite_and_attended.Facts] : Cert.algebraic_KernelIdeal_ReferenceIdeal_pre_finite_and_attended := by
  intro m g m' g' hpre hargs
  have hW : ∀ c i, _ := fun c => rows_of_attended (hpre c)
  have hE : PreOK m := fun c => edges_ok (hW c)
  refine ⟨fun c => R.result (launchContents m' c), ?_, ?_⟩
  · refine (θ_run Cert.KernelIdeal.defs _ _).mono (fun r h c => ⟨?_,
      (h.1 c).1 _ (by decide), (h.1 c).1 _ (by decide), (h.1 c).1 _ (by decide), (h.1 c).1 _ (by decide), (h.1 c).1 _ (by decide), (h.1 c).1 _ (by decide),
      (h.1 c).1 _ (by decide), (h.1 c).1 _ (by decide), (h.1 c).1 _ (by decide), (h.1 c).1 _ (by decide), (h.1 c).1 _ (by decide), (h.1 c).1 _ (by decide),
      (h.1 c).1 _ (by decide), (h.1 c).1 _ (by decide)⟩) (run_main (F := Ideal) m g hE)
    obtain ⟨e0, e1, e2, e3, e4, e5, e6, e7, e8, e9, e10, e11, e12, e13⟩ := hargs c
    refine (finAt_eq _ _ _ _ c _ (h.1 c).2).trans ?_
    exact SameArgs.result (V := launchContents m' c) (A := params m c) ⟨e2, e3, e4, e5, e6, e7, e8, e9, e10, e11, e12, e13⟩
      (sound_of_attended (hpre c)) (rows m c) _ e0 e1 (hW c) (hE c)
  · exact Cert.ReferenceIdeal.Value.run (F := Ideal) m' g'

end Cert.Proof.K

end
-- ==== Proof.lean ====
/-
  The claims, each from its module: the frames of the kernel, of its ideal program and of the reference, what the named constant
  is, and that the ideal program and the reference end with the same result.
-/
module

public import proofs.«01_k».proof.Defs
public import proofs.«01_k».proof.Proof.FrameKernel
public import proofs.«01_k».proof.Proof.FramesAttended
public import proofs.«01_k».proof.Proof.Value
public import proofs.«01_k».proof.Proof.Gen.ReferenceIdeal.Run

@[expose] public section

noncomputable section

namespace Cert.Proof

open Idealize.ShloMosaic Idealize.SL.Sem

theorem claim : Cert.Claim :=
  letI := K.edgesFacts
  letI := K.attendedFacts
  ⟨Cert.Kernel.Gen.facts, Cert.KernelIdeal.Gen.facts, Cert.ReferenceIdeal.Gen.facts, K.edgesFacts, K.attendedFacts,
    K.frame_kernel, K.frame_ideal, K.frame_ideal_attended, K.frame_reference, K.frame_reference_attended,
    IdealRules.named_const.statement Cert.KernelIdeal.κ "mask" .f32 0xF149F2CA#32 ⊥ rfl, K.algebraic⟩

end Cert.Proof

end
